-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)
  ∧ IdealRules.named_const.Statement Cert.KernelIdeal.κ "inv_ln2" .f32 0x3FB8AA3B#32 (((Real.log 2)⁻¹ : ℝ) : EReal)
  ∧ IdealRules.named_const.Statement Cert.KernelIdeal.κ "scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S16384x8x96 : Shape := ⟨3, ![16384, 8, 96]⟩
abbrev S16384x8x64 : Shape := ⟨3, ![16384, 8, 64]⟩
abbrev S512x16384 : Shape := ⟨2, ![512, 16384]⟩
abbrev S_ : Shape := ⟨0, ![]⟩

class Facts : Prop where
  bcast_S_S16384x8x96 : S_.BroadcastsInDim S16384x8x96 (![] : Fin 0 → Fin S16384x8x96.rank)
  reducesTo_S16384x8x96_S_d0_1_2 : S16384x8x96.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_
  bcast_S_S512x16384 : S_.BroadcastsInDim S512x16384 (![] : Fin 0 → Fin S512x16384.rank)
  reducesTo_S512x16384_S_d0_1 : S512x16384.ReducesTo [0, 1] S_

variable [Facts]

def fn_part1 {F : FTy → Type} [FloatOps F] (main_v13 : IVec S_ 1) (main_v16 : IVec S512x16384 1) : IVec S_ 1 :=
  let main_c_5 : IVec S_ 1 := constantI S_ 1 1#1
  let main_v17 : IVec S_ 1 := (fun x v => Host.reduce IntOp.andi x v reducesTo_S512x16384_S_d0_1 h_S_) main_v16 main_c_5
  let main_v18 : IVec S_ 1 := andi main_v13 main_v17
  main_v18

def fn {F : FTy → Type} [FloatOps F] (main_arg0 : FVec F S16384x8x96 .f32) (main_arg1 : FVec F S16384x8x96 .f32) (main_arg2 : FVec F S16384x8x64 .f32) (main_arg3 : FVec F S512x16384 .f32) : IVec S_ 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_c : IVec S_ 1 := constantI S_ 1 1#1
  let main_v3 : IVec S_ 1 := (fun x v => Host.reduce IntOp.andi x v reducesTo_S16384x8x96_S_d0_1_2 h_S_) main_v2 main_c
  let main_v4 : FVec F S16384x8x96 .f32 := Host.absf main_arg1
  let main_cst_0 : FVec F S_ .f32 := constant S_ .f32 0x7F800000#32
  let main_v5 : FVec F S16384x8x96 .f32 := broadcastInDim S16384x8x96 ![] bcast_S_S16384x8x96 main_cst_0
  let main_v6 : IVec S16384x8x96 1 := cmpf .olt main_v4 main_v5
  let main_c_1 : IVec S_ 1 := constantI S_ 1 1#1
  let main_v7 : IVec S_ 1 := (fun x v => Host.reduce IntOp.andi x v reducesTo_S16384x8x96_S_d0_1_2 h_S_) main_v6 main_c_1
  let main_v8 : IVec S_ 1 := andi main_v3 main_v7
  let main_v9 : FVec F S16384x8x64 .f32 := Host.absf main_arg2
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  let main_c_3 : IVec S_ 1 := constantI S_ 1 1#1
  let main_v12 : IVec S_ 1 := (fun x v => Host.reduce IntOp.andi x v reducesTo_S16384x8x64_S_d0_1_2 h_S_) main_v11 main_c_3
  let main_v13 : IVec S_ 1 := andi main_v8 main_v12
  let main_v14 : FVec F S512x16384 .f32 := Host.absf main_arg3
  let main_cst_4 : FVec F S_ .f32 := constant S_ .f32 0x7F800000#32
  let main_v15 : FVec F S512x16384 .f32 := broadcastInDim S512x16384 ![] bcast_S_S512x16384 main_cst_4
  let main_v16 : IVec S512x16384 1 := cmpf .olt main_v14 main_v15
  fn_part1 (F := F) main_v13 main_v16
-- ==== Pre_finite2.lean ====
abbrev S16384x1024 : Shape := ⟨2, ![16384, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S16384x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  main_v23

def fn {F : FTy → Type} [FloatOps F] (main_arg0 : FVec F S16384x1024 .f32) (main_arg1 : FVec F S1024x2816 .f32) (main_arg2 : FVec F S1024x2816 .f32) (main_arg3 : FVec F S2816x1024 .f32) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Kernel.lean ====
abbrev S16384x8x96 : Shape := ⟨3, ![16384, 8, 96]⟩
abbrev S16384x8x64 : Shape := ⟨3, ![16384, 8, 64]⟩
abbrev S512x16384 : Shape := ⟨2, ![512, 16384]⟩
abbrev S8x96x16384 : Shape := ⟨3, ![8, 96, 16384]⟩
abbrev S8x16384x96 : Shape := ⟨3, ![8, 16384, 96]⟩
abbrev S8x16384x64 : Shape := ⟨3, ![8, 16384, 64]⟩
abbrev S8x64x16384 : Shape := ⟨3, ![8, 64, 16384]⟩
abbrev S_ : Shape := ⟨0, ![]⟩
abbrev S8x16x16384 : Shape := ⟨3, ![8, 16, 16384]⟩
abbrev S8x80x16384 : Shape := ⟨3, ![8, 80, 16384]⟩
abbrev S8x1x16384 : Shape := ⟨3, ![8, 1, 16384]⟩
abbrev S1x96x2048 : Shape := ⟨3, ![1, 96, 2048]⟩
abbrev S1x2048x96 : Shape := ⟨3, ![1, 2048, 96]⟩
abbrev S1x80x2048 : Shape := ⟨3, ![1, 80, 2048]⟩
abbrev S1x64x2048 : Shape := ⟨3, ![1, 64, 2048]⟩
abbrev S1x1x2048 : Shape := ⟨3, ![1, 1, 2048]⟩
abbrev S1x2048 : Shape := ⟨2, ![1, 2048]⟩
abbrev S80x2048 : Shape := ⟨2, ![80, 2048]⟩
abbrev S2048x96 : Shape := ⟨2, ![2048, 96]⟩
abbrev S96x2048 : Shape := ⟨2, ![96, 2048]⟩
abbrev S2048x2048 : Shape := ⟨2, ![2048, 2048]⟩
abbrev S2048 : Shape := ⟨1, ![2048]⟩
abbrev S64x2048 : Shape := ⟨2, ![64, 2048]⟩
abbrev S8x16x96x1024 : Shape := ⟨4, ![8, 16, 96, 1024]⟩
abbrev S8x16x64x1024 : Shape := ⟨4, ![8, 16, 64, 1024]⟩
abbrev S1x1024x96 : Shape := ⟨3, ![1, 1024, 96]⟩
abbrev S1x96x1024 : Shape := ⟨3, ![1, 96, 1024]⟩
abbrev S1x1024x64 : Shape := ⟨3, ![1, 1024, 64]⟩
abbrev S16x96x1024 : Shape := ⟨3, ![16, 96, 1024]⟩
abbrev S16x64x1024 : Shape := ⟨3, ![16, 64, 1024]⟩
abbrev S96x1024 : Shape := ⟨2, ![96, 1024]⟩
abbrev S64x1024 : Shape := ⟨2, ![64, 1024]⟩
abbrev S1x64x1024 : Shape := ⟨3, ![1, 64, 1024]⟩
abbrev S1024x96 : Shape := ⟨2, ![1024, 96]⟩
abbrev S1024x2048 : Shape := ⟨2, ![1024, 2048]⟩
abbrev S1024x64 : Shape := ⟨2, ![1024, 64]⟩
abbrev S1x1x96x1024 : Shape := ⟨4, ![1, 1, 96, 1024]⟩
abbrev S1x1x64x1024 : Shape := ⟨4, ![1, 1, 64, 1024]⟩
abbrev S16x1024x8x96 : Shape := ⟨4, ![16, 1024, 8, 96]⟩
abbrev S16x1024x8x64 : Shape := ⟨4, ![16, 1024, 8, 64]⟩

abbrev nBuf : Space → Nat
  | .hbm => 32
  | .vmem => 37
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S512x16384, .f32⟩
  | .hbm, ⟨4, _⟩ => ⟨S8x96x16384, .f32⟩
  | .hbm, ⟨5, _⟩ => ⟨S8x96x16384, .bf16⟩
  | .hbm, ⟨6, _⟩ => ⟨S8x16384x96, .f32⟩
  | .hbm, ⟨7, _⟩ => ⟨S8x16384x96, .bf16⟩
  | .hbm, ⟨8, _⟩ => ⟨S8x96x16384, .f32⟩
  | .hbm, ⟨9, _⟩ => ⟨S8x96x16384, .bf16⟩
  | .hbm, ⟨10, _⟩ => ⟨S8x16384x64, .f32⟩
  | .hbm, ⟨11, _⟩ => ⟨S8x16384x64, .bf16⟩
  | .hbm, ⟨12, _⟩ => ⟨S8x64x16384, .f32⟩
  | .hbm, ⟨13, _⟩ => ⟨S8x64x16384, .bf16⟩
  | .hbm, ⟨14, _⟩ => ⟨S_, .bf16⟩
  | .hbm, ⟨15, _⟩ => ⟨S8x16x16384, .bf16⟩
  | .hbm, ⟨16, _⟩ => ⟨S8x80x16384, .bf16⟩
  | .hbm, ⟨17, _⟩ => ⟨S8x64x16384, .bf16⟩
  | .hbm, ⟨18, _⟩ => ⟨S8x1x16384, .f32⟩
  | .hbm, ⟨19, _⟩ => ⟨S512x16384, .bf16⟩
  | .hbm, ⟨20, _⟩ => ⟨S512x16384, .f32⟩
  | .hbm, ⟨21, _⟩ => ⟨S512x16384, .bf16⟩
  | .hbm, ⟨22, _⟩ => ⟨S8x64x16384, .bf16⟩
  | .hbm, ⟨23, _⟩ => ⟨S8x1x16384, .f32⟩
  | .hbm, ⟨24, _⟩ => ⟨S8x96x16384, .f32⟩
  | .hbm, ⟨25, _⟩ => ⟨S8x16x96x1024, .f32⟩
  | .hbm, ⟨26, _⟩ => ⟨S8x16x64x1024, .f32⟩
  | .hbm, ⟨27, _⟩ => ⟨S16384x8x96, .f32⟩
  | .hbm, ⟨28, _⟩ => ⟨S16x1024x8x96, .f32⟩
  | .hbm, ⟨29, _⟩ => ⟨S16384x8x96, .f32⟩
  | .hbm, ⟨30, _⟩ => ⟨S16x1024x8x64, .f32⟩
  | .hbm, ⟨31, _⟩ => ⟨S16384x8x64, .f32⟩
  | .local _ .vmem, ⟨0, _⟩ => ⟨S1x96x2048, .bf16⟩
  | .local _ .vmem, ⟨1, _⟩ => ⟨S1x96x2048, .bf16⟩
  | .local _ .vmem, ⟨2, _⟩ => ⟨S1x2048x96, .bf16⟩
  | .local _ .vmem, ⟨3, _⟩ => ⟨S1x2048x96, .bf16⟩
  | .local _ .vmem, ⟨4, _⟩ => ⟨S1x80x2048, .bf16⟩
  | .local _ .vmem, ⟨5, _⟩ => ⟨S1x80x2048, .bf16⟩
  | .local _ .vmem, ⟨6, _⟩ => ⟨S1x64x2048, .bf16⟩
  | .local _ .vmem, ⟨7, _⟩ => ⟨S1x64x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S80x2048, .f32⟩
  | .local _ .vmem, ⟨12, _⟩ => ⟨S1x64x2048, .bf16⟩
  | .local _ .vmem, ⟨13, _⟩ => ⟨S1x64x2048, .bf16⟩
  | .local _ .vmem, ⟨14, _⟩ => ⟨S1x64x2048, .bf16⟩
  | .local _ .vmem, ⟨15, _⟩ => ⟨S1x64x2048, .bf16⟩
  | .local _ .vmem, ⟨16, _⟩ => ⟨S1x1x2048, .f32⟩
  | .local _ .vmem, ⟨17, _⟩ => ⟨S1x1x2048, .f32⟩
  | .local _ .vmem, ⟨18, _⟩ => ⟨S1x96x2048, .bf16⟩
  | .local _ .vmem, ⟨19, _⟩ => ⟨S1x96x2048, .bf16⟩
  | .local _ .vmem, ⟨20, _⟩ => ⟨S1x1024x96, .bf16⟩
  | .local _ .vmem, ⟨21, _⟩ => ⟨S1x1024x96, .bf16⟩
  | .local _ .vmem, ⟨22, _⟩ => ⟨S1x96x1024, .bf16⟩
  | .local _ .vmem, ⟨23, _⟩ => ⟨S1x96x1024, .bf16⟩
  | .local _ .vmem, ⟨24, _⟩ => ⟨S1x1024x64, .bf16⟩
  | .local _ .vmem, ⟨25, _⟩ => ⟨S1x1024x64, .bf16⟩
  | .local _ .vmem, ⟨26, _⟩ => ⟨S1x64x2048, .bf16⟩
  | .local _ .vmem, ⟨27, _⟩ => ⟨S1x64x2048, .bf16⟩
  | .local _ .vmem, ⟨28, _⟩ => ⟨S1x1x2048, .f32⟩
  | .local _ .vmem, ⟨29, _⟩ => ⟨S1x1x2048, .f32⟩
  | .local _ .vmem, ⟨30, _⟩ => ⟨S1x1x2048, .f32⟩
  | .local _ .vmem, ⟨31, _⟩ => ⟨S1x1x2048, .f32⟩
  | .local _ .vmem, ⟨32, _⟩ => ⟨S1x96x2048, .f32⟩
  | .local _ .vmem, ⟨33, _⟩ => ⟨S1x96x2048, .f32⟩
  | .local _ .vmem, ⟨34, _⟩ => ⟨S96x2048, .f32⟩
  | .local _ .vmem, ⟨35, _⟩ => ⟨S16x96x1024, .f32⟩
  | .local _ .vmem, ⟨36, _⟩ => ⟨S16x64x1024, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18_0 : Ref sig .tc := ⟨.hbm, 24, rfl⟩
abbrev main_v18_1 : Ref sig .tc := ⟨.hbm, 25, rfl⟩
abbrev main_v18_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_scratch0 : Ref sig .tc := ⟨.vmem, 34, rfl⟩
abbrev cc2_scratch1 : Ref sig .tc := ⟨.vmem, 35, rfl⟩
abbrev cc2_scratch2 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25
abbrev cc2_sem5_0 : DmaSem sig := 26
abbrev cc2_sem5_1 : DmaSem sig := 27
abbrev cc2_sem6_0 : DmaSem sig := 28
abbrev cc2_sem6_1 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨3, ![8, 8, 8], ![false, false, false]⟩

def k0_cond2 (i : grid0.Coords) : BitVec 1 :=
  let arg2 : BitVec 32 := BitVec.ofNat 32 (i 2).val
  let c7_i32 : BitVec 32 := 7#32
  let v35 : BitVec 1 := Scalar.cmpi .eq arg2 c7_i32
  let v36 : BitVec 32 := Scalar.extui v35
  let c0_i32_21 : BitVec 32 := 0#32
  let v37 : BitVec 1 := Scalar.cmpi .ne v36 c0_i32_21
  v37

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x96x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x80x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x64x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![8, 8, 16], ![false, false, false]⟩

def k2_cond2 (i : grid2.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k2_off1 (i : grid2.Coords) : Fin 3 → Nat :=
  let arg2 : BitVec 32 := BitVec.ofNat 32 (i 2).val
  let v63 : Index := Scalar.indexCast arg2
  let c0_43 : Index := 0#32
  let c0_44 : Index := 0#32
  ![v63.toNat, 0, 0]
def k2_off2 (i : grid2.Coords) : Fin 3 → Nat :=
  let arg2 : BitVec 32 := BitVec.ofNat 32 (i 2).val
  let v68 : Index := Scalar.indexCast arg2
  let c0_46 : Index := 0#32
  let c0_47 : Index := 0#32
  ![v68.toNat, 0, 0]
def k2_off3 (i : grid2.Coords) : Fin 3 → Nat :=
  let arg2 : BitVec 32 := BitVec.ofNat 32 (i 2).val
  let v29 : Index := Scalar.indexCast arg2
  let c0_22 : Index := 0#32
  let c0_23 : Index := 0#32
  ![v29.toNat, 0, 0]
def k2_off4 (i : grid2.Coords) : Fin 3 → Nat :=
  let arg2 : BitVec 32 := BitVec.ofNat 32 (i 2).val
  let v39 : Index := Scalar.indexCast arg2
  let c0_27 : Index := 0#32
  let c0_28 : Index := 0#32
  ![v39.toNat, 0, 0]
def k2_cond4 (i : grid2.Coords) : BitVec 1 :=
  let arg1 : BitVec 32 := BitVec.ofNat 32 (i 1).val
  let c7_i32 : BitVec 32 := 7#32
  let v59 : BitVec 1 := Scalar.cmpi .eq arg1 c7_i32
  let v60 : BitVec 32 := Scalar.extui v59
  let c0_i32_41 : BitVec 32 := 0#32
  let v61 : BitVec 1 := Scalar.cmpi .ne v60 c0_i32_41
  v61

def k2_off5 (i : grid2.Coords) : Fin 3 → Nat :=
  let arg2 : BitVec 32 := BitVec.ofNat 32 (i 2).val
  let v62 : Index := Scalar.indexCast arg2
  let c0_42 : Index := 0#32
  let c0_43 : Index := 0#32
  ![v62.toNat, 0, 0]
def k2_off6 (i : grid2.Coords) : Fin 4 → Nat :=
  let arg0 : BitVec 32 := BitVec.ofNat 32 (i 0).val
  let arg2 : BitVec 32 := BitVec.ofNat 32 (i 2).val
  let c0_i32_47_r0 : BitVec 32 := 0#32
  let c0_i32_48_r0 : BitVec 32 := 0#32
  ![arg0.toNat, arg2.toNat, 0, 0]
def k2_off7 (i : grid2.Coords) : Fin 3 → Nat :=
  let arg2 : BitVec 32 := BitVec.ofNat 32 (i 2).val
  let c0_i32_49_r0 : BitVec 32 := 0#32
  let c0_i32_50_r0 : BitVec 32 := 0#32
  ![arg2.toNat, 0, 0]
def k2_off8 (i : grid2.Coords) : Fin 4 → Nat :=
  let arg0 : BitVec 32 := BitVec.ofNat 32 (i 0).val
  let arg2 : BitVec 32 := BitVec.ofNat 32 (i 2).val
  let c0_i32_47_r1 : BitVec 32 := 0#32
  let c0_i32_48_r1 : BitVec 32 := 0#32
  ![arg0.toNat, arg2.toNat, 0, 0]
def k2_off9 (i : grid2.Coords) : Fin 3 → Nat :=
  let arg2 : BitVec 32 := BitVec.ofNat 32 (i 2).val
  let c0_i32_49_r1 : BitVec 32 := 0#32
  let c0_i32_50_r1 : BitVec 32 := 0#32
  ![arg2.toNat, 0, 0]
def k2_cond3 (i : grid2.Coords) : BitVec 1 :=
  let arg2 : BitVec 32 := BitVec.ofNat 32 (i 2).val
  let c15_i32 : BitVec 32 := 15#32
  let v56 : BitVec 1 := Scalar.cmpi .eq arg2 c15_i32
  let v57 : BitVec 32 := Scalar.extui v56
  let c0_i32_40 : BitVec 32 := 0#32
  let v58 : BitVec 1 := Scalar.cmpi .ne v57 c0_i32_40
  v58

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_6 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage2_0 : Fin 2 → Memref sig .tc .vmem S1x96x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x1024x96 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x96x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, true]

abbrev stage2_3 : Fin 2 → Memref sig .tc .vmem S1x1024x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x64x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S1x1x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S1x1x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev stage2_7 : Fin 2 → Memref sig .tc .vmem S1x96x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]
-- ==== KernelIdeal.lean ====
variable {F : FTy → Type} [FloatOps F] [Named F]
def κ : String → Option EReal := fun
  | "inv_ln2" => some (((Real.log 2)⁻¹ : ℝ) : EReal)
  | "scale" => some (((Real.sqrt 96)⁻¹ : ℝ) : EReal)
  | "scale_log2e" => some (((Real.sqrt 96)⁻¹ * (Real.log 2)⁻¹ : ℝ) : EReal)
  | _ => none
-- ==== ReferenceIdeal.lean ====
abbrev S16384x8x96 : Shape := ⟨3, ![16384, 8, 96]⟩
abbrev S16384x8x64 : Shape := ⟨3, ![16384, 8, 64]⟩
abbrev S512x16384 : Shape := ⟨2, ![512, 16384]⟩
abbrev S8x16384x16384 : Shape := ⟨3, ![8, 16384, 16384]⟩
abbrev S_ : Shape := ⟨0, ![]⟩
abbrev S8x16384 : Shape := ⟨2, ![8, 16384]⟩
abbrev S8x16384x1 : Shape := ⟨3, ![8, 16384, 1]⟩
abbrev S8x64x16384 : Shape := ⟨3, ![8, 64, 16384]⟩
abbrev S8x16384x96 : Shape := ⟨3, ![8, 16384, 96]⟩

abbrev nBuf : Space → Nat
  | .hbm => 73
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S512x16384, .f32⟩
  | .hbm, ⟨4, _⟩ => ⟨S8x16384x16384, .f32⟩
  | .hbm, ⟨5, _⟩ => ⟨S_, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S_, .f32⟩
  | .hbm, ⟨10, _⟩ => ⟨S8x16384, .f32⟩
  | .hbm, ⟨11, _⟩ => ⟨S8x16384x1, .f32⟩
  | .hbm, ⟨12, _⟩ => ⟨S8x16384x16384, .f32⟩
  | .hbm, ⟨13, _⟩ => ⟨S8x16384x16384, .i1⟩
  | .hbm, ⟨14, _⟩ => ⟨S8x16384x16384, .f32⟩
  | .hbm, ⟨15, _⟩ => ⟨S_, .f32⟩
  | .hbm, ⟨16, _⟩ => ⟨S8x16384, .f32⟩
  | .hbm, ⟨17, _⟩ => ⟨S_, .f32⟩
  | .hbm, ⟨18, _⟩ => ⟨S8x16384, .f32⟩
  | .hbm, ⟨19, _⟩ => ⟨S8x16384, .f32⟩
  | .hbm, ⟨20, _⟩ => ⟨S_, .f32⟩
  | .hbm, ⟨21, _⟩ => ⟨S8x16384, .f32⟩
  | .hbm, ⟨22, _⟩ => ⟨S8x16384, .i1⟩
  | .hbm, ⟨23, _⟩ => ⟨S_, .f32⟩
  | .hbm, ⟨24, _⟩ => ⟨S8x16384, .f32⟩
  | .hbm, ⟨25, _⟩ => ⟨S8x16384, .i1⟩
  | .hbm, ⟨26, _⟩ => ⟨S_, .f32⟩
  | .hbm, ⟨27, _⟩ => ⟨S8x16384, .f32⟩
  | .hbm, ⟨28, _⟩ => ⟨S_, .f32⟩
  | .hbm, ⟨29, _⟩ => ⟨S8x16384, .f32⟩
  | .hbm, ⟨30, _⟩ => ⟨S_, .f32⟩
  | .hbm, ⟨31, _⟩ => ⟨S8x16384, .f32⟩
  | .hbm, ⟨32, _⟩ => ⟨S8x16384, .f32⟩
  | .hbm, ⟨33, _⟩ => ⟨S8x16384, .f32⟩
  | .hbm, ⟨34, _⟩ => ⟨S8x16384x1, .f32⟩
  | .hbm, ⟨35, _⟩ => ⟨S8x16384x16384, .f32⟩
  | .hbm, ⟨36, _⟩ => ⟨S8x16384x16384, .f32⟩
  | .hbm, ⟨37, _⟩ => ⟨S8x16384x16384, .f32⟩
  | .hbm, ⟨38, _⟩ => ⟨S_, .f32⟩
  | .hbm, ⟨39, _⟩ => ⟨S8x16384, .f32⟩
  | .hbm, ⟨40, _⟩ => ⟨S8x16384x1, .f32⟩
  | .hbm, ⟨41, _⟩ => ⟨S8x16384x16384, .f32⟩
  | .hbm, ⟨42, _⟩ => ⟨S8x16384x16384, .f32⟩
  | .hbm, ⟨43, _⟩ => ⟨S8x16384x1, .f32⟩
  | .hbm, ⟨44, _⟩ => ⟨S_, .f32⟩
  | .hbm, ⟨45, _⟩ => ⟨S8x16384x1, .f32⟩
  | .hbm, ⟨46, _⟩ => ⟨S8x16384x1, .f32⟩
  | .hbm, ⟨47, _⟩ => ⟨S8x64x16384, .f32⟩
  | .hbm, ⟨48, _⟩ => ⟨S512x16384, .f32⟩
  | .hbm, ⟨49, _⟩ => ⟨S8x64x16384, .f32⟩
  | .hbm, ⟨50, _⟩ => ⟨S8x16384x16384, .f32⟩
  | .hbm, ⟨51, _⟩ => ⟨S8x64x16384, .f32⟩
  | .hbm, ⟨52, _⟩ => ⟨S16384x8x64, .f32⟩
  | .hbm, ⟨53, _⟩ => ⟨S8x16384x16384, .f32⟩
  | .hbm, ⟨54, _⟩ => ⟨S8x16384x16384, .f32⟩
  | .hbm, ⟨55, _⟩ => ⟨S8x16384x16384, .f32⟩
  | .hbm, ⟨56, _⟩ => ⟨S_, .f32⟩
  | .hbm, ⟨57, _⟩ => ⟨S8x16384, .f32⟩
  | .hbm, ⟨58, _⟩ => ⟨S8x16384x1, .f32⟩
  | .hbm, ⟨59, _⟩ => ⟨S8x16384x1, .f32⟩
  | .hbm, ⟨60, _⟩ => ⟨S8x16384x16384, .f32⟩
  | .hbm, ⟨61, _⟩ => ⟨S8x16384x16384, .f32⟩
  | .hbm, ⟨62, _⟩ => ⟨S_, .f32⟩
  | .hbm, ⟨63, _⟩ => ⟨S8x16384, .f32⟩
  | .hbm, ⟨64, _⟩ => ⟨S8x16384x16384, .f32⟩
  | .hbm, ⟨65, _⟩ => ⟨S8x16384x16384, .f32⟩
  | .hbm, ⟨66, _⟩ => ⟨S8x16384x16384, .f32⟩
  | .hbm, ⟨67, _⟩ => ⟨S8x16384x16384, .f32⟩
  | .hbm, ⟨68, _⟩ => ⟨S8x16384x16384, .f32⟩
  | .hbm, ⟨69, _⟩ => ⟨S8x16384x96, .f32⟩
  | .hbm, ⟨70, _⟩ => ⟨S16384x8x96, .f32⟩
  | .hbm, ⟨71, _⟩ => ⟨S8x16384x96, .f32⟩
  | .hbm, ⟨72, _⟩ => ⟨S16384x8x96, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S512x1024 : Shape := ⟨2, ![512, 1024]⟩
abbrev S1024x1408 : Shape := ⟨2, ![1024, 1408]⟩
abbrev S512x1408 : Shape := ⟨2, ![512, 1408]⟩
abbrev S1408x1024 : Shape := ⟨2, ![1408, 1024]⟩
abbrev S512x2816 : Shape := ⟨2, ![512, 2816]⟩

abbrev nBuf : Space → Nat
  | .hbm => 16
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x1024, .bf16⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x2816, .bf16⟩
  | .hbm, ⟨10, _⟩ => ⟨S16384x2816, .bf16⟩
  | .hbm, ⟨11, _⟩ => ⟨S16384x2816, .bf16⟩
  | .hbm, ⟨12, _⟩ => ⟨S16384x1024, .bf16⟩
  | .hbm, ⟨13, _⟩ => ⟨S16384x2816, .bf16⟩
  | .hbm, ⟨14, _⟩ => ⟨S16384x2816, .bf16⟩
  | .hbm, ⟨15, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .bf16⟩
  | .local _ .vmem, ⟨13, _⟩ => ⟨S512x1024, .bf16⟩
  | .local _ .vmem, ⟨14, _⟩ => ⟨S1408x1024, .bf16⟩
  | .local _ .vmem, ⟨15, _⟩ => ⟨S1408x1024, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | .local _ .vmem, ⟨24, _⟩ => ⟨S512x2816, .bf16⟩
  | .local _ .vmem, ⟨25, _⟩ => ⟨S512x2816, .bf16⟩
  | .local _ .vmem, ⟨26, _⟩ => ⟨S512x2816, .bf16⟩
  | .local _ .vmem, ⟨27, _⟩ => ⟨S512x2816, .bf16⟩
  | .local _ .vmem, ⟨28, _⟩ => ⟨S1024x2816, .bf16⟩
  | .local _ .vmem, ⟨29, _⟩ => ⟨S1024x2816, .bf16⟩
  | .local _ .vmem, ⟨30, _⟩ => ⟨S512x1024, .f32⟩
  | .local _ .vmem, ⟨31, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2816 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x2816 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x2816 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x1024, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S16384x1024, .f32⟩
  | .hbm, ⟨31, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩

abbrev nD : Nat := 1
abbrev τ : Topo := Topo.v7x

variable {F : FTy → Type} [FloatOps F]
-- ==== Kernel3.lean ====
abbrev S16384x1024 : Shape := ⟨2, ![16384, 1024]⟩
abbrev S1024x8704 : Shape := ⟨2, ![1024, 8704]⟩
abbrev S16384x8704 : Shape := ⟨2, ![16384, 8704]⟩
abbrev S256x1024 : Shape := ⟨2, ![256, 1024]⟩
abbrev S1024x4352 : Shape := ⟨2, ![1024, 4352]⟩
abbrev S256x4352 : Shape := ⟨2, ![256, 4352]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x8704, .f32⟩
  | .hbm, ⟨2, _⟩ => ⟨S16384x1024, .bf16⟩
  | .hbm, ⟨3, _⟩ => ⟨S1024x8704, .bf16⟩
  | .hbm, ⟨4, _⟩ => ⟨S16384x8704, .f32⟩
  | .local _ .vmem, ⟨0, _⟩ => ⟨S256x1024, .bf16⟩
  | .local _ .vmem, ⟨1, _⟩ => ⟨S256x1024, .bf16⟩
  | .local _ .vmem, ⟨2, _⟩ => ⟨S1024x4352, .bf16⟩
  | .local _ .vmem, ⟨3, _⟩ => ⟨S1024x4352, .bf16⟩
  | .local _ .vmem, ⟨4, _⟩ => ⟨S256x4352, .f32⟩
  | .local _ .vmem, ⟨5, _⟩ => ⟨S256x4352, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S16384x1024 : Shape := ⟨2, ![16384, 1024]⟩
abbrev S1024x8704 : Shape := ⟨2, ![1024, 8704]⟩
abbrev S16384x8704 : Shape := ⟨2, ![16384, 8704]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x8704, .f32⟩
  | .hbm, ⟨2, _⟩ => ⟨S16384x8704, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel4.lean ====
abbrev S1024x8704 : Shape := ⟨2, ![1024, 8704]⟩
abbrev S16384x8704 : Shape := ⟨2, ![16384, 8704]⟩
abbrev S16384x1024 : Shape := ⟨2, ![16384, 1024]⟩
abbrev S1024x2176 : Shape := ⟨2, ![1024, 2176]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x8704, .f32⟩
  | .hbm, ⟨1, _⟩ => ⟨S16384x8704, .f32⟩
  | .hbm, ⟨2, _⟩ => ⟨S16384x8704, .bf16⟩
  | .hbm, ⟨3, _⟩ => ⟨S1024x8704, .bf16⟩
  | .hbm, ⟨4, _⟩ => ⟨S16384x1024, .bf16⟩
  | .local _ .vmem, ⟨0, _⟩ => ⟨S1024x2176, .bf16⟩
  | .local _ .vmem, ⟨1, _⟩ => ⟨S1024x2176, .bf16⟩
  | .local _ .vmem, ⟨2, _⟩ => ⟨S1024x2176, .bf16⟩
  | .local _ .vmem, ⟨3, _⟩ => ⟨S1024x2176, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1024x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S1024x8704 : Shape := ⟨2, ![1024, 8704]⟩
abbrev S16384x8704 : Shape := ⟨2, ![16384, 8704]⟩
abbrev S_ : Shape := ⟨0, ![]⟩
abbrev S16384x1024 : Shape := ⟨2, ![16384, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x8704, .f32⟩
  | .hbm, ⟨1, _⟩ => ⟨S16384x8704, .f32⟩
  | .hbm, ⟨2, _⟩ => ⟨S_, .bf16⟩
  | .hbm, ⟨3, _⟩ => ⟨S16384x1024, .bf16⟩
  | .hbm, ⟨4, _⟩ => ⟨S16384x1024, .f32⟩
  | .hbm, ⟨5, _⟩ => ⟨S16384x8704, .f32⟩
  | .hbm, ⟨6, _⟩ => ⟨S16384x1024, .f32⟩
  | .hbm, ⟨7, _⟩ => ⟨S16384x1024, .bf16⟩
  | _, _ => ⟨S1024x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S16384x1024 : Shape := ⟨2, ![16384, 1024]⟩
abbrev S16384x8704 : Shape := ⟨2, ![16384, 8704]⟩
abbrev S1024x8704 : Shape := ⟨2, ![1024, 8704]⟩
abbrev S1024x1024 : Shape := ⟨2, ![1024, 1024]⟩
abbrev S1024x2176 : Shape := ⟨2, ![1024, 2176]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x8704, .f32⟩
  | .hbm, ⟨2, _⟩ => ⟨S16384x1024, .bf16⟩
  | .hbm, ⟨3, _⟩ => ⟨S16384x8704, .bf16⟩
  | .hbm, ⟨4, _⟩ => ⟨S1024x8704, .f32⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .bf16⟩
  | .local _ .vmem, ⟨4, _⟩ => ⟨S1024x2176, .f32⟩
  | .local _ .vmem, ⟨5, _⟩ => ⟨S1024x2176, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x1024 : Shape := ⟨2, ![16384, 1024]⟩
abbrev S16384x8704 : Shape := ⟨2, ![16384, 8704]⟩
abbrev S_ : Shape := ⟨0, ![]⟩
abbrev S1024x8704 : Shape := ⟨2, ![1024, 8704]⟩
abbrev S8704x1024 : Shape := ⟨2, ![8704, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x8704, .f32⟩
  | .hbm, ⟨2, _⟩ => ⟨S_, .f32⟩
  | .hbm, ⟨3, _⟩ => ⟨S1024x8704, .f32⟩
  | .hbm, ⟨4, _⟩ => ⟨S16384x8704, .f32⟩
  | .hbm, ⟨5, _⟩ => ⟨S8704x1024, .f32⟩
  | .hbm, ⟨6, _⟩ => ⟨S1024x8704, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S16384x1024 : Shape := ⟨2, ![16384, 1024]⟩
abbrev S16384x2816 : Shape := ⟨2, ![16384, 2816]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S2816x1024, .f32⟩
  | .hbm, ⟨3, _⟩ => ⟨S16384x2816, .bf16⟩
  | .hbm, ⟨4, _⟩ => ⟨S2816x1024, .bf16⟩
  | .hbm, ⟨5, _⟩ => ⟨S16384x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16384x1024 : Shape := ⟨2, ![16384, 1024]⟩
abbrev S16384x2816 : Shape := ⟨2, ![16384, 2816]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S2816x1024, .f32⟩
  | .hbm, ⟨3, _⟩ => ⟨S16384x1024, .f32⟩
  | .hbm, ⟨4, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel7.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S16384x1024, .bf16⟩
  | .hbm, ⟨4, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x1024 : Shape := ⟨2, ![16384, 1024]⟩
abbrev S16384x2816 : Shape := ⟨2, ![16384, 2816]⟩
abbrev S1024x2816 : Shape := ⟨2, ![1024, 2816]⟩
abbrev S256x1024 : Shape := ⟨2, ![256, 1024]⟩
abbrev S256x2816 : Shape := ⟨2, ![256, 2816]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S16384x1024, .bf16⟩
  | .hbm, ⟨3, _⟩ => ⟨S16384x2816, .bf16⟩
  | .hbm, ⟨4, _⟩ => ⟨S1024x2816, .f32⟩
  | .local _ .vmem, ⟨0, _⟩ => ⟨S256x1024, .bf16⟩
  | .local _ .vmem, ⟨1, _⟩ => ⟨S256x1024, .bf16⟩
  | .local _ .vmem, ⟨2, _⟩ => ⟨S256x2816, .bf16⟩
  | .local _ .vmem, ⟨3, _⟩ => ⟨S256x2816, .bf16⟩
  | .local _ .vmem, ⟨4, _⟩ => ⟨S1024x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 64], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S16384x1024 : Shape := ⟨2, ![16384, 1024]⟩
abbrev S16384x2816 : Shape := ⟨2, ![16384, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .f32⟩
  | .hbm, ⟨2, _⟩ => ⟨S_, .f32⟩
  | .hbm, ⟨3, _⟩ => ⟨S1024x2816, .f32⟩
  | .hbm, ⟨4, _⟩ => ⟨S16384x2816, .f32⟩
  | .hbm, ⟨5, _⟩ => ⟨S2816x1024, .f32⟩
  | .hbm, ⟨6, _⟩ => ⟨S1024x2816, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.BwdRun.lean ====
/-
  One grid point of the backward kernel, run once.

  The body keeps three buffers of its own between points (`dq` of the query tile, `dk` and `dv` of every key tile of the
  head) and copies finished rows of `dk` and `dv` to two results it addresses itself. `bodyRun` says what one point
  leaves in each of them, as plain functions of what it found (`dqNew`, `dkNew`, `dvNew`), whichever of the four
  conditions on the coordinates hold.
-/
module

public import proofs.«01_k».proof.Proof.Gen.KernelIdeal.Regions
public import proofs.«01_k».proof.Proof.Gen.KernelIdeal.Skeleton
public import proofs.«01_k».proof.Proof.Gen.KernelIdeal.Points
public import Idealize.ShloMosaic.Lib.Tactic
public import Idealize.ShloMosaic.Lib.VecWindow
public import Idealize.ShloMosaic.Lib.ValueLayout
public import Idealize.ShloMosaic.Lib.Pipeline.ValueKit

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

/-- The resource algebra: the pipelines' own, beside the counters the body's transfers take their tokens from. -/
abbrev UU : Type := UR sig nD τ × Counters

local notation "𝕄" => MT nD τ sig Unit (Elt F) ℕ UU ℕ

/-- The contents of memref `M`'s buffer on core `c`. -/
abbrev Bf (c : Dev nD) {sp : Space} {S : Shape} {e : EltTy} (M : Memref sig .tc sp S e) : Type := Buf (Elt F) (M.view.loc (c : Thread nD τ))

/-- Memref `M`'s buffer held whole at `f`. -/
abbrev pt (c : Dev nD) {sp : Space} {S : Shape} {e : EltTy} (M : Memref sig .tc sp S e) (f : Bf (F := F) c M) : sProp 𝕄 :=
  M.view.loc (c : Thread nD τ) ↦{fullShare} f

/-- Memref `M`'s buffer held whole at contents that read `x`. -/
abbrev hold (c : Dev nD) {sp : Space} {S : Shape} {e : EltTy} (M : Memref sig .tc sp S e) (x : S.Idx → Elt F e) : sProp 𝕄 :=
  iprop(∃ f : Bf (F := F) c M, ⌜M.view.read (Elt F) f = x⌝ ∗ pt c M f)

/-- The first key tile: the query tile's `dq` starts from zero. -/
def jFirst (i : grid2.Coords) : Prop := (i 2).val = 0
instance (i : grid2.Coords) : Decidable (jFirst i) := inferInstanceAs (Decidable ((i 2).val = 0))
/-- The last key tile: `dq` is finished. -/
def jLast (i : grid2.Coords) : Prop := (i 2).val = 15
instance (i : grid2.Coords) : Decidable (jLast i) := inferInstanceAs (Decidable ((i 2).val = 15))
/-- The first query tile: the key tile's `dk` and `dv` start from zero. -/
def iFirst (i : grid2.Coords) : Prop := (i 1).val = 0
instance (i : grid2.Coords) : Decidable (iFirst i) := inferInstanceAs (Decidable ((i 1).val = 0))
/-- The last query tile: `dk` and `dv` are finished. -/
def iLast (i : grid2.Coords) : Prop := (i 1).val = 7
instance (i : grid2.Coords) : Decidable (iLast i) := inferInstanceAs (Decidable ((i 1).val = 7))

theorem cond1_iff (i : grid2.Coords) :
    (Scalar.cmpi .ne (Scalar.extui (Scalar.cmpi .eq (BitVec.ofNat 32 (i 2).val) 0#32) : BitVec 32) 0#32 = 1#1) ↔ jFirst i := by
  have : ∀ x : Fin 16, (Scalar.cmpi .ne (Scalar.extui (Scalar.cmpi .eq (BitVec.ofNat 32 x.val) 0#32) : BitVec 32) 0#32 = 1#1) ↔ x.val = 0 := by decide +kernel
  exact this (i 2)
theorem cond2_iff (i : grid2.Coords) : k2_cond2 i = 1#1 ↔ iFirst i := by
  have : ∀ x : Fin 8, (Scalar.cmpi .ne (Scalar.extui (Scalar.cmpi .eq (BitVec.ofNat 32 x.val) 0#32) : BitVec 32) 0#32 = 1#1) ↔ x.val = 0 := by decide +kernel
  exact this (i 1)
theorem cond3_iff (i : grid2.Coords) : k2_cond3 i = 1#1 ↔ jLast i := by
  have : ∀ x : Fin 16, (Scalar.cmpi .ne (Scalar.extui (Scalar.cmpi .eq (BitVec.ofNat 32 x.val) 15#32) : BitVec 32) 0#32 = 1#1) ↔ x.val = 15 := by decide +kernel
  exact this (i 2)
theorem cond4_iff (i : grid2.Coords) : k2_cond4 i = 1#1 ↔ iLast i := by
  have : ∀ x : Fin 8, (Scalar.cmpi .ne (Scalar.extui (Scalar.cmpi .eq (BitVec.ofNat 32 x.val) 7#32) : BitVec 32) 0#32 = 1#1) ↔ x.val = 7 := by decide +kernel
  exact this (i 1)

/-- The key tile's row of the buffers kept for every key tile. -/
abbrev rowAt (i : grid2.Coords) : Fin 3 → ℕ := ![(i 2).val, 0, 0]

theorem word_toNat (n : ℕ) (h : n < 16) : (BitVec.ofNat 32 n).toNat = n := by
  rw [BitVec.toNat_ofNat]; exact Nat.mod_eq_of_lt (by omega)

theorem off_row (i : grid2.Coords) : (![(BitVec.ofNat 32 (i 2).val).toNat, 0, 0] : Fin 3 → ℕ) = rowAt i := by
  rw [word_toNat _ (i 2).isLt]
theorem off_blk (i : grid2.Coords) :
    (![(BitVec.ofNat 32 (i 0).val).toNat, (BitVec.ofNat 32 (i 2).val).toNat, 0, 0] : Fin 4 → ℕ) = ![(i 0).val, (i 2).val, 0, 0] := by
  rw [word_toNat _ (i 2).isLt, word_toNat _ (lt_trans (i 0).isLt (by decide))]

theorem rowAt_inb96 (i : grid2.Coords) : ∀ a, rowAt i a + S1x96x1024.size a ≤ S16x96x1024.size a := by
  have h : (i 2).val < 16 := (i 2).isLt
  intro a; fin_cases a
  · show (i 2).val + 1 ≤ 16; omega
  · show 0 + 96 ≤ 96; omega
  · show 0 + 1024 ≤ 1024; omega
theorem rowAt_inb64 (i : grid2.Coords) : ∀ a, rowAt i a + S1x64x1024.size a ≤ S16x64x1024.size a := by
  have h : (i 2).val < 16 := (i 2).isLt
  intro a; fin_cases a
  · show (i 2).val + 1 ≤ 16; omega
  · show 0 + 64 ≤ 64; omega
  · show 0 + 1024 ≤ 1024; omega

/-- The query tile's `dq` after the point. -/
def dqNew (i : grid2.Coords) (q : Vec F S1x96x2048 .bf16) (k : Vec F S1x1024x96 .bf16) (kt : Vec F S1x96x1024 .bf16) (v : Vec F S1x1024x64 .bf16)
    (dy : Vec F S1x64x2048 .bf16) (lse dl : Vec F S1x1x2048 .f32) (s0 : Vec F S96x2048 .f32) : Vec F S96x2048 .f32 :=
  k2_pay10 (k2_pay7 q dy k lse v dl) (if jFirst i then k2_pay1 else s0) kt

/-- The key tile's row of `dk` after the point, before it is scaled. -/
def dkSum (i : grid2.Coords) (q : Vec F S1x96x2048 .bf16) (k : Vec F S1x1024x96 .bf16) (v : Vec F S1x1024x64 .bf16)
    (dy : Vec F S1x64x2048 .bf16) (lse dl : Vec F S1x1x2048 .f32) (r : Vec F S1x96x1024 .f32) : Vec F S1x96x1024 .f32 :=
  k2_pay9 (k2_pay4 q) (k2_pay7 q dy k lse v dl) (if iFirst i then k2_pay2 else r)

/-- The key tile's row of `dk` after the point: scaled once the last query tile is in. -/
def dkNew (i : grid2.Coords) (q : Vec F S1x96x2048 .bf16) (k : Vec F S1x1024x96 .bf16) (v : Vec F S1x1024x64 .bf16)
    (dy : Vec F S1x64x2048 .bf16) (lse dl : Vec F S1x1x2048 .f32) (r : Vec F S1x96x1024 .f32) : Vec F S1x96x1024 .f32 :=
  if iLast i then k2_pay12 (dkSum i q k v dy lse dl r) else dkSum i q k v dy lse dl r

/-- The key tile's row of `dv` after the point. -/
def dvNew (i : grid2.Coords) (q : Vec F S1x96x2048 .bf16) (k : Vec F S1x1024x96 .bf16)
    (dy : Vec F S1x64x2048 .bf16) (lse : Vec F S1x1x2048 .f32) (r : Vec F S1x64x1024 .f32) : Vec F S1x64x1024 .f32 :=
  k2_pay8 (k2_pay5 dy) (k2_pay6 q k lse) (if iFirst i then k2_pay3 else r)

/-- A result's buffer after the point: at the last query tile, the head's and key tile's block is the row `r`. -/
def blk96 (i : grid2.Coords) (r : Vec F S1x96x1024 .f32) (g : Vec F S8x16x96x1024 .f32) : Vec F S8x16x96x1024 .f32 :=
  if iLast i then put g ![(i 0).val, (i 2).val, 0, 0] ![1, 1, 96, 1024] (fun y => r (ix3 0 (y 2) (y 3))) else g
def blk64 (i : grid2.Coords) (r : Vec F S1x64x1024 .f32) (g : Vec F S8x16x64x1024 .f32) : Vec F S8x16x64x1024 .f32 :=
  if iLast i then put g ![(i 0).val, (i 2).val, 0, 0] ![1, 1, 64, 1024] (fun y => r (ix3 0 (y 2) (y 3))) else g

section Copies

variable {a b n m : ℕ}

/-- One row of a rank-three buffer, squeezed: its entries. -/
theorem read_row_squeezed {sp : Space} {e : EltTy} (v : View sig .tc sp ⟨3, ![n, a, b]⟩ e) {off off' : Fin 3 → ℕ}
    (inb : ∀ x, off x + (![1, a, b] : Fin 3 → ℕ) x ≤ (⟨3, ![n, a, b]⟩ : Shape).size x) (h : off = off')
    (inb' : ∀ x, off' x + (![1, a, b] : Fin 3 → ℕ) x ≤ (⟨3, ![n, a, b]⟩ : Shape).size x)
    (sq : (⟨2, ![a, b]⟩ : Shape).numel = (Rect.unit (s := ⟨3, ![n, a, b]⟩) off ![1, a, b] inb).shape.numel) (f : v.ty.Contents (Elt F)) (x : Fin a) (y : Fin b) :
    ((v.slice (Rect.unit (s := ⟨3, ![n, a, b]⟩) off ![1, a, b] inb)).reshape ⟨2, ![a, b]⟩ sq).read (Elt F) f (ix2 x y)
      = window (s := ⟨3, ![n, a, b]⟩) (v.read (Elt F) f) off' ![1, a, b] inb' (ix3 (0 : Fin 1) x y) := by
  subst h
  show (v.slice (Rect.unit (s := ⟨3, ![n, a, b]⟩) off ![1, a, b] inb)).read (Elt F) f (Shape.reshapeEquiv sq (ix2 x y)) = _
  rw [show Shape.reshapeEquiv sq (ix2 x y) = (ix3 (0 : Fin 1) x y : (⟨3, ![1, a, b]⟩ : Shape).Idx) from ValueIdx.reshapeEquiv_ix2_1ab _ _ _]
  rfl

/-- A whole matrix written to one block of a rank-four buffer through the block's squeeze. -/
theorem read_write_block_squeezed {sp : Space} {e : EltTy} (v : View sig .tc sp ⟨4, ![m, n, a, b]⟩ e) {off off' : Fin 4 → ℕ}
    (inb : ∀ x, off x + (![1, 1, a, b] : Fin 4 → ℕ) x ≤ (⟨4, ![m, n, a, b]⟩ : Shape).size x) (h : off = off')
    (sq : (⟨2, ![a, b]⟩ : Shape).numel = (Rect.unit (s := ⟨4, ![m, n, a, b]⟩) off ![1, 1, a, b] inb).shape.numel) (g : v.ty.Contents (Elt F))
    (w : (⟨2, ![a, b]⟩ : Shape).Idx → Elt F e) :
    v.read (Elt F) (((v.slice (Rect.unit (s := ⟨4, ![m, n, a, b]⟩) off ![1, 1, a, b] inb)).reshape ⟨2, ![a, b]⟩ sq).write (Elt F) g w Finset.univ)
      = put (s := ⟨4, ![m, n, a, b]⟩) (v.read (Elt F) g) off' ![1, 1, a, b] (fun y => w (ix2 (y 2) (y 3))) := by
  have e1 : ((v.slice (Rect.unit (s := ⟨4, ![m, n, a, b]⟩) off ![1, 1, a, b] inb)).reshape ⟨2, ![a, b]⟩ sq).write (Elt F) g w Finset.univ
      = v.writes (Elt F) g [⟨Rect.unit (s := ⟨4, ![m, n, a, b]⟩) off ![1, 1, a, b] inb, fun x => w ((Shape.reshapeEquiv sq).symm x)⟩] := by
    rw [View.writes_cons, View.writes_nil]
    exact View.write_reshape_univ (v.slice (Rect.unit (s := ⟨4, ![m, n, a, b]⟩) off ![1, 1, a, b] inb)) sq g w
  rw [e1, View.read_writes_cons_put _ _ _ _ _ h, View.writes_nil]
  congr 1
  funext y
  congr 1
  rw [Equiv.symm_apply_eq]
  have := ValueIdx.reshapeEquiv_ix2_11ab (a := a) (b := b) sq (y 2) (y 3)
  refine Eq.trans ?_ this.symm
  funext x
  fin_cases x
  · exact Fin.ext (by have := (y 0).isLt; show (y 0).val = 0; exact Nat.lt_one_iff.mp this)
  · exact Fin.ext (by have := (y 1).isLt; show (y 1).val = 0; exact Nat.lt_one_iff.mp this)
  · rfl
  · rfl

end Copies

set_option maxHeartbeats 8000000 in
/-- One point of the backward kernel: from the staged operands, the kernel's own three buffers, its two results and its
    two transfer semaphores at zero, the body runs to its end and leaves what `dqNew`, `dkNew`, `dvNew` and the blocks say. -/
theorem bodyRun (c : Dev nD) (i : grid2.Coords)
    (M0 : Memref sig .tc .vmem S1x96x2048 .bf16) (h0 : M0.IsWhole) (M1 : Memref sig .tc .vmem S1x1024x96 .bf16) (h1 : M1.IsWhole)
    (M2 : Memref sig .tc .vmem S1x96x1024 .bf16) (h2 : M2.IsWhole) (M3 : Memref sig .tc .vmem S1x1024x64 .bf16) (h3 : M3.IsWhole)
    (M4 : Memref sig .tc .vmem S1x64x2048 .bf16) (h4 : M4.IsWhole) (M5 : Memref sig .tc .vmem S1x1x2048 .f32) (h5 : M5.IsWhole)
    (M6 : Memref sig .tc .vmem S1x1x2048 .f32) (h6 : M6.IsWhole) (M7 : Memref sig .tc .vmem S1x96x2048 .f32) (h7 : M7.IsWhole)
    (q : Vec F S1x96x2048 .bf16) (k : Vec F S1x1024x96 .bf16) (kt : Vec F S1x96x1024 .bf16) (v : Vec F S1x1024x64 .bf16)
    (dy : Vec F S1x64x2048 .bf16) (lse dl : Vec F S1x1x2048 .f32) (d7 : Vec F S1x96x2048 .f32)
    (g1 : Vec F S8x16x96x1024 .f32) (g2 : Vec F S8x16x64x1024 .f32)
    (s0 : Vec F S96x2048 .f32) (s1 : Vec F S16x96x1024 .f32) (s2 : Vec F S16x64x1024 .f32)
    (W : Waits sig Unit) (Q : PUnit → sProp 𝕄) :
    iprop(hold c M0 q ∗ hold c M1 k ∗ hold c M2 kt ∗ hold c M3 v ∗ hold c M4 dy ∗ hold c M5 lse ∗ hold c M6 dl ∗ hold c M7 d7
      ∗ hold c (Memref.whole main_v18_1) g1 ∗ hold c (Memref.whole main_v18_2) g2
      ∗ hold c (Memref.whole cc2_scratch0) s0 ∗ hold c (Memref.whole cc2_scratch1) s1 ∗ hold c (Memref.whole cc2_scratch2) s2
      ∗ semVal ((c : Thread nD τ), .dma 32) 0 ∗ semVal ((c : Thread nD τ), .dma 33) 0 ∗ owes (c : Thread nD τ) 0 W
      ∗ (iprop(hold c M0 q ∗ hold c M1 k ∗ hold c M2 kt ∗ hold c M3 v ∗ hold c M4 dy ∗ hold c M5 lse ∗ hold c M6 dl
            ∗ hold c M7 (if jLast i then k2_pay11 (dqNew i q k kt v dy lse dl s0) else d7)
            ∗ hold c (Memref.whole main_v18_1) (blk96 i (dkNew i q k v dy lse dl (window s1 (rowAt i) S1x96x1024.size (rowAt_inb96 i))) g1)
            ∗ hold c (Memref.whole main_v18_2) (blk64 i (dvNew i q k dy lse (window s2 (rowAt i) S1x64x1024.size (rowAt_inb64 i))) g2)
            ∗ hold c (Memref.whole cc2_scratch0) (dqNew i q k kt v dy lse dl s0)
            ∗ hold c (Memref.whole cc2_scratch1) (put s1 (rowAt i) S1x96x1024.size (dkNew i q k v dy lse dl (window s1 (rowAt i) S1x96x1024.size (rowAt_inb96 i))))
            ∗ hold c (Memref.whole cc2_scratch2) (put s2 (rowAt i) S1x64x1024.size (dvNew i q k dy lse (window s2 (rowAt i) S1x64x1024.size (rowAt_inb64 i))))
            ∗ semVal ((c : Thread nD τ), .dma 32) 0 ∗ semVal ((c : Thread nD τ), .dma 33) 0 ∗ ∃ W, owes (c : Thread nD τ) 0 W) -∗ Q ⟨⟩))
    ⊢ wp frame (wpE (defs₀ (F := F)) Variants.none c none) Set.univ
        (cc2_mla_bwd i M0 h0 M1 h1 M2 h2 M3 h3 M4 h4 M5 h5 M6 h6 M7 h7 (Memref.whole main_v18_1) (Memref.isWhole_whole _) (Memref.whole main_v18_2) (Memref.isWhole_whole _)
          (Memref.whole cc2_scratch0) (Memref.isWhole_whole _) (Memref.whole cc2_scratch1) (Memref.isWhole_whole _) (Memref.whole cc2_scratch2) (Memref.isWhole_whole _) cc2_scoped0 cc2_scoped1) Q := by
  simp only [cc2_mla_bwd_eq_skeleton]; unfold cc2_mla_bwd_skel
  simp only [k2_part2_eq_skeleton]; unfold k2_part2_skel
  simp only [k2_part1_eq_skeleton]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%a1, %e8, G1⟩, ⟨%a2, %e9, G2⟩, ⟨%b0, %e10, S0⟩, ⟨%b1, %e11, S1⟩, ⟨%b2, %e12, S2⟩, D0, D1, HO, Hk⟩
  subst e0 e1 e2 e3 e4 e5 e6 e7 e8 e9 e10 e11 e12
  have r0 : ∀ f inb, View.readAt (Elt F) M0.view (Rect.unit (s := S1x96x2048) ![0, 0, 0] ![1, 96, 2048] inb).toLoadRect f = M0.view.read (Elt F) f := fun f inb => View.readAt_full M0.view f inb
  have r1 : ∀ f inb, View.readAt (Elt F) M1.view (Rect.unit (s := S1x1024x96) ![0, 0, 0] ![1, 1024, 96] inb).toLoadRect f = M1.view.read (Elt F) f := fun f inb => View.readAt_full M1.view f inb
  have r2 : ∀ f inb, View.readAt (Elt F) M2.view (Rect.unit (s := S1x96x1024) ![0, 0, 0] ![1, 96, 1024] inb).toLoadRect f = M2.view.read (Elt F) f := fun f inb => View.readAt_full M2.view f inb
  have r3 : ∀ f inb, View.readAt (Elt F) M3.view (Rect.unit (s := S1x1024x64) ![0, 0, 0] ![1, 1024, 64] inb).toLoadRect f = M3.view.read (Elt F) f := fun f inb => View.readAt_full M3.view f inb
  have r4 : ∀ f inb, View.readAt (Elt F) M4.view (Rect.unit (s := S1x64x2048) ![0, 0, 0] ![1, 64, 2048] inb).toLoadRect f = M4.view.read (Elt F) f := fun f inb => View.readAt_full M4.view f inb
  have r5 : ∀ f inb, View.readAt (Elt F) M5.view (Rect.unit (s := S1x1x2048) ![0, 0, 0] ![1, 1, 2048] inb).toLoadRect f = M5.view.read (Elt F) f := fun f inb => View.readAt_full M5.view f inb
  have r6 : ∀ f inb, View.readAt (Elt F) M6.view (Rect.unit (s := S1x1x2048) ![0, 0, 0] ![1, 1, 2048] inb).toLoadRect f = M6.view.read (Elt F) f := fun f inb => View.readAt_full M6.view f inb
  have rs : ∀ f inb, View.readAt (Elt F) (View.whole cc2_scratch0) (Rect.unit (s := S96x2048) ![0, 0] ![96, 2048] inb).toLoadRect f = (View.whole cc2_scratch0).read (Elt F) f := fun f inb => View.readAt_full (View.whole cc2_scratch0) f inb
  have cs : ∀ inb w inb' L, View.readCov (Val := Elt F) (View.whole cc2_scratch0) (⟨Rect.unit (s := S96x2048) ![0, 0] ![96, 2048] inb, w⟩ :: L) (Rect.unit (s := S96x2048) ![0, 0] ![96, 2048] inb').toLoadRect = w := fun inb w inb' L => View.readCov_full (View.whole cc2_scratch0) inb' inb w L
  have ws : ∀ f inb w L, (View.whole cc2_scratch0).read (Elt F) ((View.whole cc2_scratch0).writes (Elt F) f (⟨Rect.unit (s := S96x2048) ![0, 0] ![96, 2048] inb, w⟩ :: L)) = w := fun f inb w L => View.read_writes_full (View.whole cc2_scratch0) f inb w L
  have w7 : ∀ f inb w L, M7.view.read (Elt F) (M7.view.writes (Elt F) f (⟨Rect.unit (s := S1x96x2048) ![0, 0, 0] ![1, 96, 2048] inb, w⟩ :: L)) = w := fun f inb w L => View.read_writes_full M7.view f inb w L
  have ra1 : ∀ f inb, View.readAt (Elt F) (View.whole cc2_scratch1) (Rect.unit (s := S16x96x1024) ![(BitVec.ofNat 32 (i 2).val).toNat, 0, 0] ![1, 96, 1024] inb).toLoadRect f = window ((View.whole cc2_scratch1).read (Elt F) f) (rowAt i) ![1, 96, 1024] (rowAt_inb96 i) := fun f inb => View.readAt_unit (View.whole cc2_scratch1) f inb (off_row i) _
  have cv1 : ∀ inb w inb' L, View.readCov (Val := Elt F) (View.whole cc2_scratch1) (⟨Rect.unit (s := S16x96x1024) ![(BitVec.ofNat 32 (i 2).val).toNat, 0, 0] ![1, 96, 1024] inb, w⟩ :: L) (Rect.unit (s := S16x96x1024) ![(BitVec.ofNat 32 (i 2).val).toNat, 0, 0] ![1, 96, 1024] inb').toLoadRect = w := fun inb w inb' L => View.readCov_cons_toLoadRect (View.whole cc2_scratch1) (Rect.unit (s := S16x96x1024) ![(BitVec.ofNat 32 (i 2).val).toNat, 0, 0] ![1, 96, 1024] inb) w L
  have wr1 : ∀ f inb w L, (View.whole cc2_scratch1).read (Elt F) ((View.whole cc2_scratch1).writes (Elt F) f (⟨Rect.unit (s := S16x96x1024) ![(BitVec.ofNat 32 (i 2).val).toNat, 0, 0] ![1, 96, 1024] inb, w⟩ :: L)) = put ((View.whole cc2_scratch1).read (Elt F) ((View.whole cc2_scratch1).writes (Elt F) f L)) (rowAt i) ![1, 96, 1024] w := fun f inb w L => View.read_writes_cons_put (View.whole cc2_scratch1) f inb w L (off_row i)
  have ra2 : ∀ f inb, View.readAt (Elt F) (View.whole cc2_scratch2) (Rect.unit (s := S16x64x1024) ![(BitVec.ofNat 32 (i 2).val).toNat, 0, 0] ![1, 64, 1024] inb).toLoadRect f = window ((View.whole cc2_scratch2).read (Elt F) f) (rowAt i) ![1, 64, 1024] (rowAt_inb64 i) := fun f inb => View.readAt_unit (View.whole cc2_scratch2) f inb (off_row i) _
  have cv2 : ∀ inb w inb' L, View.readCov (Val := Elt F) (View.whole cc2_scratch2) (⟨Rect.unit (s := S16x64x1024) ![(BitVec.ofNat 32 (i 2).val).toNat, 0, 0] ![1, 64, 1024] inb, w⟩ :: L) (Rect.unit (s := S16x64x1024) ![(BitVec.ofNat 32 (i 2).val).toNat, 0, 0] ![1, 64, 1024] inb').toLoadRect = w := fun inb w inb' L => View.readCov_cons_toLoadRect (View.whole cc2_scratch2) (Rect.unit (s := S16x64x1024) ![(BitVec.ofNat 32 (i 2).val).toNat, 0, 0] ![1, 64, 1024] inb) w L
  have wr2 : ∀ f inb w L, (View.whole cc2_scratch2).read (Elt F) ((View.whole cc2_scratch2).writes (Elt F) f (⟨Rect.unit (s := S16x64x1024) ![(BitVec.ofNat 32 (i 2).val).toNat, 0, 0] ![1, 64, 1024] inb, w⟩ :: L)) = put ((View.whole cc2_scratch2).read (Elt F) ((View.whole cc2_scratch2).writes (Elt F) f L)) (rowAt i) ![1, 64, 1024] w := fun f inb w L => View.read_writes_cons_put (View.whole cc2_scratch2) f inb w L (off_row i)
  have rr1 : ∀ inb sq f (x : Fin 96) (y : Fin 1024), (((View.whole cc2_scratch1).slice (Rect.unit (s := S16x96x1024) ![(BitVec.ofNat 32 (i 2).val).toNat, 0, 0] ![1, 96, 1024] inb)).reshape S96x1024 sq).read (Elt F) f (ix2 x y) = window ((View.whole cc2_scratch1).read (Elt F) f) (rowAt i) ![1, 96, 1024] (rowAt_inb96 i) (ix3 (0 : Fin 1) x y) := fun inb sq f x y => read_row_squeezed (View.whole cc2_scratch1) inb (off_row i) _ sq f x y
  have gw1 : ∀ inb sq g w, (View.whole main_v18_1).read (Elt F) ((((View.whole main_v18_1).slice (Rect.unit (s := S8x16x96x1024) ![(BitVec.ofNat 32 (i 0).val).toNat, (BitVec.ofNat 32 (i 2).val).toNat, 0, 0] ![1, 1, 96, 1024] inb)).reshape S96x1024 sq).write (Elt F) g w Finset.univ) = put ((View.whole main_v18_1).read (Elt F) g) ![(i 0).val, (i 2).val, 0, 0] ![1, 1, 96, 1024] (fun y => w (ix2 (y 2) (y 3))) := fun inb sq g w => read_write_block_squeezed (View.whole main_v18_1) inb (off_blk i) sq g w
  have rr2 : ∀ inb sq f (x : Fin 64) (y : Fin 1024), (((View.whole cc2_scratch2).slice (Rect.unit (s := S16x64x1024) ![(BitVec.ofNat 32 (i 2).val).toNat, 0, 0] ![1, 64, 1024] inb)).reshape S64x1024 sq).read (Elt F) f (ix2 x y) = window ((View.whole cc2_scratch2).read (Elt F) f) (rowAt i) ![1, 64, 1024] (rowAt_inb64 i) (ix3 (0 : Fin 1) x y) := fun inb sq f x y => read_row_squeezed (View.whole cc2_scratch2) inb (off_row i) _ sq f x y
  have gw2 : ∀ inb sq g w, (View.whole main_v18_2).read (Elt F) ((((View.whole main_v18_2).slice (Rect.unit (s := S8x16x64x1024) ![(BitVec.ofNat 32 (i 0).val).toNat, (BitVec.ofNat 32 (i 2).val).toNat, 0, 0] ![1, 1, 64, 1024] inb)).reshape S64x1024 sq).write (Elt F) g w Finset.univ) = put ((View.whole main_v18_2).read (Elt F) g) ![(i 0).val, (i 2).val, 0, 0] ![1, 1, 64, 1024] (fun y => w (ix2 (y 2) (y 3))) := fun inb sq g w => read_write_block_squeezed (View.whole main_v18_2) inb (off_blk i) sq g w
  have wone1 : ∀ f inb (w : Vec F S1x96x1024 .f32), (View.whole cc2_scratch1).read (Elt F) ((View.whole cc2_scratch1).writes (Elt F) f [⟨Rect.unit (s := S16x96x1024) ![(BitVec.ofNat 32 (i 2).val).toNat, 0, 0] ![1, 96, 1024] inb, w⟩]) = put ((View.whole cc2_scratch1).read (Elt F) f) (rowAt i) ![1, 96, 1024] w := fun f inb w => wr1 f inb w []
  have wtwo1 : ∀ f inb (w : Vec F S1x96x1024 .f32) inb' (w' : Vec F S1x96x1024 .f32), (View.whole cc2_scratch1).read (Elt F) ((View.whole cc2_scratch1).writes (Elt F) f [⟨Rect.unit (s := S16x96x1024) ![(BitVec.ofNat 32 (i 2).val).toNat, 0, 0] ![1, 96, 1024] inb, w⟩, ⟨Rect.unit (s := S16x96x1024) ![(BitVec.ofNat 32 (i 2).val).toNat, 0, 0] ![1, 96, 1024] inb', w'⟩]) = put ((View.whole cc2_scratch1).read (Elt F) f) (rowAt i) ![1, 96, 1024] w := fun f inb w inb' w' =>
    (wr1 f inb w _).trans ((congrArg (fun z => put z (rowAt i) ![1, 96, 1024] w) (wone1 f inb' w')).trans (VecWindow.put_put_same _ _ _ _ _))
  have kone1 : ∀ f inb (w : Vec F S1x96x1024 .f32), window ((View.whole cc2_scratch1).read (Elt F) ((View.whole cc2_scratch1).writes (Elt F) f [⟨Rect.unit (s := S16x96x1024) ![(BitVec.ofNat 32 (i 2).val).toNat, 0, 0] ![1, 96, 1024] inb, w⟩])) (rowAt i) ![1, 96, 1024] (rowAt_inb96 i) = w := fun f inb w =>
    (congrArg (fun z => window z (rowAt i) ![1, 96, 1024] (rowAt_inb96 i)) (wone1 f inb w)).trans (VecWindow.window_put_same _ _ _ _ _)
  have ktwo1 : ∀ f inb (w : Vec F S1x96x1024 .f32) inb' (w' : Vec F S1x96x1024 .f32), window ((View.whole cc2_scratch1).read (Elt F) ((View.whole cc2_scratch1).writes (Elt F) f [⟨Rect.unit (s := S16x96x1024) ![(BitVec.ofNat 32 (i 2).val).toNat, 0, 0] ![1, 96, 1024] inb, w⟩, ⟨Rect.unit (s := S16x96x1024) ![(BitVec.ofNat 32 (i 2).val).toNat, 0, 0] ![1, 96, 1024] inb', w'⟩])) (rowAt i) ![1, 96, 1024] (rowAt_inb96 i) = w := fun f inb w inb' w' =>
    (congrArg (fun z => window z (rowAt i) ![1, 96, 1024] (rowAt_inb96 i)) (wtwo1 f inb w inb' w')).trans (VecWindow.window_put_same _ _ _ _ _)
  have wone2 : ∀ f inb (w : Vec F S1x64x1024 .f32), (View.whole cc2_scratch2).read (Elt F) ((View.whole cc2_scratch2).writes (Elt F) f [⟨Rect.unit (s := S16x64x1024) ![(BitVec.ofNat 32 (i 2).val).toNat, 0, 0] ![1, 64, 1024] inb, w⟩]) = put ((View.whole cc2_scratch2).read (Elt F) f) (rowAt i) ![1, 64, 1024] w := fun f inb w => wr2 f inb w []
  have wtwo2 : ∀ f inb (w : Vec F S1x64x1024 .f32) inb' (w' : Vec F S1x64x1024 .f32), (View.whole cc2_scratch2).read (Elt F) ((View.whole cc2_scratch2).writes (Elt F) f [⟨Rect.unit (s := S16x64x1024) ![(BitVec.ofNat 32 (i 2).val).toNat, 0, 0] ![1, 64, 1024] inb, w⟩, ⟨Rect.unit (s := S16x64x1024) ![(BitVec.ofNat 32 (i 2).val).toNat, 0, 0] ![1, 64, 1024] inb', w'⟩]) = put ((View.whole cc2_scratch2).read (Elt F) f) (rowAt i) ![1, 64, 1024] w := fun f inb w inb' w' =>
    (wr2 f inb w _).trans ((congrArg (fun z => put z (rowAt i) ![1, 64, 1024] w) (wone2 f inb' w')).trans (VecWindow.put_put_same _ _ _ _ _))
  have kone2 : ∀ f inb (w : Vec F S1x64x1024 .f32), window ((View.whole cc2_scratch2).read (Elt F) ((View.whole cc2_scratch2).writes (Elt F) f [⟨Rect.unit (s := S16x64x1024) ![(BitVec.ofNat 32 (i 2).val).toNat, 0, 0] ![1, 64, 1024] inb, w⟩])) (rowAt i) ![1, 64, 1024] (rowAt_inb64 i) = w := fun f inb w =>
    (congrArg (fun z => window z (rowAt i) ![1, 64, 1024] (rowAt_inb64 i)) (wone2 f inb w)).trans (VecWindow.window_put_same _ _ _ _ _)
  have ktwo2 : ∀ f inb (w : Vec F S1x64x1024 .f32) inb' (w' : Vec F S1x64x1024 .f32), window ((View.whole cc2_scratch2).read (Elt F) ((View.whole cc2_scratch2).writes (Elt F) f [⟨Rect.unit (s := S16x64x1024) ![(BitVec.ofNat 32 (i 2).val).toNat, 0, 0] ![1, 64, 1024] inb, w⟩, ⟨Rect.unit (s := S16x64x1024) ![(BitVec.ofNat 32 (i 2).val).toNat, 0, 0] ![1, 64, 1024] inb', w'⟩])) (rowAt i) ![1, 64, 1024] (rowAt_inb64 i) = w := fun f inb w inb' w' =>
    (congrArg (fun z => window z (rowAt i) ![1, 64, 1024] (rowAt_inb64 i)) (wtwo2 f inb w inb' w')).trans (VecWindow.window_put_same _ _ _ _ _)
  by_cases hc1 : Scalar.cmpi .ne (Scalar.extui (Scalar.cmpi .eq (BitVec.ofNat 32 (i 2).val) 0#32) : BitVec 32) 0#32 = 1#1 <;>
  by_cases hc3 : k2_cond3 i = 1#1
  · exact absurd ((cond1_iff i).mp hc1) (by have h := (cond3_iff i).mp hc3; unfold jFirst; unfold jLast at h; omega)
  all_goals
    by_cases hc2 : k2_cond2 i = 1#1 <;> by_cases hc4 : k2_cond4 i = 1#1
    · exact absurd ((cond2_iff i).mp hc2) (by have h := (cond4_iff i).mp hc4; unfold iFirst; unfold iLast at h; omega)
    all_goals
      have p1 := hc1; have p2 := hc2; have p3 := hc3; have p4 := hc4
      rw [cond1_iff] at p1; rw [cond2_iff] at p2; rw [cond3_iff] at p3; rw [cond4_iff] at p4
      sl_exec (disch := first | sl_exact hc1 | sl_exact hc2 | sl_exact hc3 | sl_exact hc4)
      sl_step
      iapply Hk
      isplitl [H0]; · iexists _; isplitr; swap; (· iexact H0); ipureintro; rfl
      isplitl [H1]; · iexists _; isplitr; swap; (· iexact H1); ipureintro; rfl
      isplitl [H2]; · iexists _; isplitr; swap; (· iexact H2); ipureintro; rfl
      isplitl [H3]; · iexists _; isplitr; swap; (· iexact H3); ipureintro; rfl
      isplitl [H4]; · iexists _; isplitr; swap; (· iexact H4); ipureintro; rfl
      isplitl [H5]; · iexists _; isplitr; swap; (· iexact H5); ipureintro; rfl
      isplitl [H6]; · iexists _; isplitr; swap; (· iexact H6); ipureintro; rfl
      isplitl [H7]
      · iexists _; isplitr; swap; (· iexact H7); ipureintro
        sl_unfold_words
        simp only [dqNew, p1, p3, if_true, if_false, r0, r1, r2, r3, r4, r5, r6, rs, cs, w7]
      isplitl [G1]
      · iexists _; isplitr; swap; (· iexact G1); ipureintro
        sl_unfold_words
        dsimp only [k2_off1, k2_off2, k2_off3, k2_off4, k2_off5, k2_off6, k2_off7, k2_off8, k2_off9, Scalar.indexCast]
        simp only [blk96, dkNew, dkSum, p2, p4, if_true, if_false, r0, r1, r2, r3, r4, r5, r6, ra1, cv1, gw1, ReadAs.apply, rr1] <;>
          (refine (gw1 _ _ _ _).trans ?_
           refine congrArg (put ((View.whole main_v18_1).read (Elt F) a1) ![(i 0).val, (i 2).val, 0, 0] ![1, 1, 96, 1024]) (funext fun y => ?_)
           refine (rr1 _ _ _ _ _).trans ?_
           exact congrFun (ktwo1 _ _ _ _ _) _)
      isplitl [G2]
      · iexists _; isplitr; swap; (· iexact G2); ipureintro
        sl_unfold_words
        dsimp only [k2_off1, k2_off2, k2_off3, k2_off4, k2_off5, k2_off6, k2_off7, k2_off8, k2_off9, Scalar.indexCast]
        simp only [blk64, dvNew, p2, p4, if_true, if_false, r0, r1, r2, r3, r4, r5, r6, ra2, cv2, gw2, ReadAs.apply, rr2] <;>
          (refine (gw2 _ _ _ _).trans ?_
           refine congrArg (put ((View.whole main_v18_2).read (Elt F) a2) ![(i 0).val, (i 2).val, 0, 0] ![1, 1, 64, 1024]) (funext fun y => ?_)
           refine (rr2 _ _ _ _ _).trans ?_
           exact congrFun (kone2 _ _ _) _)
      isplitl [S0]
      · iexists _; isplitr; swap; (· iexact S0); ipureintro
        sl_unfold_words
        simp only [dqNew, p1, p3, if_true, if_false, r0, r1, r2, r3, r4, r5, r6, rs, cs, ws]
      isplitl [S1]
      · iexists _; isplitr; swap; (· iexact S1); ipureintro
        sl_unfold_words
        dsimp only [k2_off1, k2_off2, k2_off3, k2_off4, k2_off5, k2_off6, k2_off7, k2_off8, k2_off9, Scalar.indexCast]
        simp only [dkNew, dkSum, p2, p4, if_true, if_false, r0, r1, r2, r3, r4, r5, r6, ra1, cv1]
        first
          | (have hh : iFirst i := p2; exact wtwo1 _ _ _ _ _)
          | (have hh : iLast i := p4; exact wtwo1 _ _ _ _ _)
          | exact wone1 _ _ _
      isplitl [S2]
      · iexists _; isplitr; swap; (· iexact S2); ipureintro
        sl_unfold_words
        dsimp only [k2_off1, k2_off2, k2_off3, k2_off4, k2_off5, k2_off6, k2_off7, k2_off8, k2_off9, Scalar.indexCast]
        simp only [dvNew, p2, p4, if_true, if_false, r0, r1, r2, r3, r4, r5, r6, ra2, cv2]
        first
          | (have hh : iFirst i := p2; exact wtwo2 _ _ _ _ _)
          | exact wone2 _ _ _
      isplitl [D0]; · iexact D0
      isplitl [D1]; · iexact D1
      iexists _; iexact HO

end Cert.Proof
end
-- ==== Proof.FwdRun.lean ====
/-
  One grid point of the forward kernel, and one of the kernel that sums `o · do`, each run once.

  The forward body keeps the running maximum and the running sums (of the values, and of the weights themselves in the
  rows below them) of one query tile while the key tiles pass. `fwdRun` says what one point leaves.
-/
module

public import proofs.«01_k».proof.Proof.BwdRun

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F] [Named F]

local notation "𝕄" => MT nD τ sig Unit (Elt F) ℕ UU ℕ

/-- The first key tile of a query tile's sweep. -/
def kFirst (i : grid0.Coords) : Prop := (i 2).val = 0
instance (i : grid0.Coords) : Decidable (kFirst i) := inferInstanceAs (Decidable ((i 2).val = 0))
/-- The last key tile. -/
def kLast (i : grid0.Coords) : Prop := (i 2).val = 7
instance (i : grid0.Coords) : Decidable (kLast i) := inferInstanceAs (Decidable ((i 2).val = 7))

theorem fcond1_iff (i : grid0.Coords) :
    (Scalar.cmpi .ne (Scalar.extui (Scalar.cmpi .eq (BitVec.ofNat 32 (i 2).val) 0#32) : BitVec 32) 0#32 = 1#1) ↔ kFirst i := by
  have : ∀ x : Fin 8, (Scalar.cmpi .ne (Scalar.extui (Scalar.cmpi .eq (BitVec.ofNat 32 x.val) 0#32) : BitVec 32) 0#32 = 1#1) ↔ x.val = 0 := by decide +kernel
  exact this (i 2)
theorem fcond2_iff (i : grid0.Coords) : k0_cond2 i = 1#1 ↔ kLast i := by
  have : ∀ x : Fin 8, (Scalar.cmpi .ne (Scalar.extui (Scalar.cmpi .eq (BitVec.ofNat 32 x.val) 7#32) : BitVec 32) 0#32 = 1#1) ↔ x.val = 7 := by decide +kernel
  exact this (i 2)

/-- The running maximum after the point. -/
def mNew (i : grid0.Coords) (q : Vec F S1x96x2048 .bf16) (k : Vec F S1x2048x96 .bf16) (m0 : Vec F S1x2048 .f32) : Vec F S1x2048 .f32 :=
  k0_pay1 (k0_pay7 k q (if kFirst i then k0_pay4 else m0))

/-- The running sums after the point. -/
def accNew (i : grid0.Coords) (q : Vec F S1x96x2048 .bf16) (k : Vec F S1x2048x96 .bf16) (vt : Vec F S1x80x2048 .bf16) (m0 : Vec F S1x2048 .f32) (a0 : Vec F S80x2048 .f32) : Vec F S80x2048 .f32 :=
  k0_pay8 k q (if kFirst i then k0_pay4 else m0) (if kFirst i then k0_pay5 else a0) vt

theorem inb_sums : ∀ a, (![64, 0] : Fin 2 → ℕ) a + S1x2048.size a ≤ S80x2048.size a := inb_S80x2048_S1x2048_64_0
theorem inb_vals : ∀ a, (![0, 0] : Fin 2 → ℕ) a + S64x2048.size a ≤ S80x2048.size a := inb_S80x2048_S64x2048_0_0

/-- The sums of the weights. -/
def sums (a : Vec F S80x2048 .f32) : Vec F S1x2048 .f32 := window (s := S80x2048) a ![64, 0] S1x2048.size inb_sums
/-- The sums of the values. -/
def vals (a : Vec F S80x2048 .f32) : Vec F S64x2048 .f32 := window (s := S80x2048) a ![0, 0] S64x2048.size inb_vals

set_option maxHeartbeats 8000000 in
/-- One point of the forward kernel. -/
theorem fwdRun (c : Dev nD) (i : grid0.Coords)
    (M0 : Memref sig .tc .vmem S1x96x2048 .bf16) (h0 : M0.IsWhole) (M1 : Memref sig .tc .vmem S1x2048x96 .bf16) (h1 : M1.IsWhole)
    (M2 : Memref sig .tc .vmem S1x80x2048 .bf16) (h2 : M2.IsWhole) (M3 : Memref sig .tc .vmem S1x64x2048 .bf16) (h3 : M3.IsWhole)
    (M4 : Memref sig .tc .vmem S1x1x2048 .f32) (h4 : M4.IsWhole)
    (q : Vec F S1x96x2048 .bf16) (k : Vec F S1x2048x96 .bf16) (vt : Vec F S1x80x2048 .bf16) (d3 : Vec F S1x64x2048 .bf16) (d4 : Vec F S1x1x2048 .f32)
    (m0 : Vec F S1x2048 .f32) (a0 : Vec F S80x2048 .f32) (Q : PUnit → sProp 𝕄) :
    iprop(hold c M0 q ∗ hold c M1 k ∗ hold c M2 vt ∗ hold c M3 d3 ∗ hold c M4 d4
      ∗ hold c (Memref.whole cc0_scratch0) m0 ∗ hold c (Memref.whole cc0_scratch1) a0
      ∗ (iprop(hold c M0 q ∗ hold c M1 k ∗ hold c M2 vt
            ∗ hold c M3 (if kLast i then k0_pay2 (sums (accNew i q k vt m0 a0)) (vals (accNew i q k vt m0 a0)) else d3)
            ∗ hold c M4 (if kLast i then k0_pay3 (sums (accNew i q k vt m0 a0)) (mNew i q k m0) else d4)
            ∗ hold c (Memref.whole cc0_scratch0) (mNew i q k m0) ∗ hold c (Memref.whole cc0_scratch1) (accNew i q k vt m0 a0)) -∗ Q ⟨⟩))
    ⊢ wp frame (wpE (defs₀ (F := F)) Variants.none c none) Set.univ
        (cc0_mla_fwd i M0 h0 M1 h1 M2 h2 M3 h3 M4 h4 (Memref.whole cc0_scratch0) (Memref.isWhole_whole _) (Memref.whole cc0_scratch1) (Memref.isWhole_whole _)) Q := by
  simp only [cc0_mla_fwd_eq_skeleton]; unfold cc0_mla_fwd_skel
  simp only [k0_part1_eq_skeleton]; unfold k0_part1_skel
  iintro ⟨⟨%f0, %e0, H0⟩, ⟨%f1, %e1, H1⟩, ⟨%f2, %e2, H2⟩, ⟨%f3, %e3, H3⟩, ⟨%f4, %e4, H4⟩, ⟨%b0, %e5, S0⟩, ⟨%b1, %e6, S1⟩, Hk⟩
  subst e0 e1 e2 e3 e4 e5 e6
  have r0 : ∀ f inb, View.readAt (Elt F) M0.view (Rect.unit (s := S1x96x2048) ![0, 0, 0] ![1, 96, 2048] inb).toLoadRect f = M0.view.read (Elt F) f := fun f inb => View.readAt_full M0.view f inb
  have r1 : ∀ f inb, View.readAt (Elt F) M1.view (Rect.unit (s := S1x2048x96) ![0, 0, 0] ![1, 2048, 96] inb).toLoadRect f = M1.view.read (Elt F) f := fun f inb => View.readAt_full M1.view f inb
  have r2 : ∀ f inb, View.readAt (Elt F) M2.view (Rect.unit (s := S1x80x2048) ![0, 0, 0] ![1, 80, 2048] inb).toLoadRect f = M2.view.read (Elt F) f := fun f inb => View.readAt_full M2.view f inb
  have rm : ∀ f inb, View.readAt (Elt F) (View.whole cc0_scratch0) (Rect.unit (s := S1x2048) ![0, 0] ![1, 2048] inb).toLoadRect f = (View.whole cc0_scratch0).read (Elt F) f := fun f inb => View.readAt_full (View.whole cc0_scratch0) f inb
  have ra : ∀ f inb, View.readAt (Elt F) (View.whole cc0_scratch1) (Rect.unit (s := S80x2048) ![0, 0] ![80, 2048] inb).toLoadRect f = (View.whole cc0_scratch1).read (Elt F) f := fun f inb => View.readAt_full (View.whole cc0_scratch1) f inb
  have cm : ∀ inb w inb' L, View.readCov (Val := Elt F) (View.whole cc0_scratch0) (⟨Rect.unit (s := S1x2048) ![0, 0] ![1, 2048] inb, w⟩ :: L) (Rect.unit (s := S1x2048) ![0, 0] ![1, 2048] inb').toLoadRect = w := fun inb w inb' L => View.readCov_full (View.whole cc0_scratch0) inb' inb w L
  have ca : ∀ inb w inb' L, View.readCov (Val := Elt F) (View.whole cc0_scratch1) (⟨Rect.unit (s := S80x2048) ![0, 0] ![80, 2048] inb, w⟩ :: L) (Rect.unit (s := S80x2048) ![0, 0] ![80, 2048] inb').toLoadRect = w := fun inb w inb' L => View.readCov_full (View.whole cc0_scratch1) inb' inb w L
  have wm : ∀ f inb w L, (View.whole cc0_scratch0).read (Elt F) ((View.whole cc0_scratch0).writes (Elt F) f (⟨Rect.unit (s := S1x2048) ![0, 0] ![1, 2048] inb, w⟩ :: L)) = w := fun f inb w L => View.read_writes_full (View.whole cc0_scratch0) f inb w L
  have wa : ∀ f inb w L, (View.whole cc0_scratch1).read (Elt F) ((View.whole cc0_scratch1).writes (Elt F) f (⟨Rect.unit (s := S80x2048) ![0, 0] ![80, 2048] inb, w⟩ :: L)) = w := fun f inb w L => View.read_writes_full (View.whole cc0_scratch1) f inb w L
  have cs : ∀ inb (w : Vec F S80x2048 .f32) inb' L, View.readCov (Val := Elt F) (View.whole cc0_scratch1) (⟨Rect.unit (s := S80x2048) ![0, 0] ![80, 2048] inb, w⟩ :: L) (Rect.unit (s := S80x2048) ![64, 0] ![1, 2048] inb').toLoadRect = sums w :=
    fun inb w inb' L => (View.readAt_unit (View.whole cc0_scratch1) _ inb' rfl inb_sums).trans (congrArg sums (View.read_writes_full (View.whole cc0_scratch1) _ inb w L))
  have cv : ∀ inb (w : Vec F S80x2048 .f32) inb' L, View.readCov (Val := Elt F) (View.whole cc0_scratch1) (⟨Rect.unit (s := S80x2048) ![0, 0] ![80, 2048] inb, w⟩ :: L) (Rect.unit (s := S80x2048) ![0, 0] ![64, 2048] inb').toLoadRect = vals w :=
    fun inb w inb' L => (View.readAt_unit (View.whole cc0_scratch1) _ inb' rfl inb_vals).trans (congrArg vals (View.read_writes_full (View.whole cc0_scratch1) _ inb w L))
  have w3 : ∀ f inb w L, M3.view.read (Elt F) (M3.view.writes (Elt F) f (⟨Rect.unit (s := S1x64x2048) ![0, 0, 0] ![1, 64, 2048] inb, w⟩ :: L)) = w := fun f inb w L => View.read_writes_full M3.view f inb w L
  have w4 : ∀ f inb w L, M4.view.read (Elt F) (M4.view.writes (Elt F) f (⟨Rect.unit (s := S1x1x2048) ![0, 0, 0] ![1, 1, 2048] inb, w⟩ :: L)) = w := fun f inb w L => View.read_writes_full M4.view f inb w L
  by_cases hc1 : Scalar.cmpi .ne (Scalar.extui (Scalar.cmpi .eq (BitVec.ofNat 32 (i 2).val) 0#32) : BitVec 32) 0#32 = 1#1 <;>
  by_cases hc2 : k0_cond2 i = 1#1
  · exact absurd ((fcond1_iff i).mp hc1) (by have h := (fcond2_iff i).mp hc2; unfold kFirst; unfold kLast at h; omega)
  all_goals
    have p1 := hc1; have p2 := hc2
    rw [fcond1_iff] at p1; rw [fcond2_iff] at p2
    sl_exec (disch := first | sl_exact hc1 | sl_exact hc2)
    sl_step
    iapply Hk
    isplitl [H0]; · iexists _; isplitr; swap; (· iexact H0); ipureintro; rfl
    isplitl [H1]; · iexists _; isplitr; swap; (· iexact H1); ipureintro; rfl
    isplitl [H2]; · iexists _; isplitr; swap; (· iexact H2); ipureintro; rfl
    isplitl [H3]
    · iexists _; isplitr; swap; (· iexact H3); ipureintro
      sl_unfold_words
      simp only [accNew, mNew, p1, p2, if_true, if_false, r0, r1, r2, rm, ra, cm, ca, cs, cv, w3]
    isplitl [H4]
    · iexists _; isplitr; swap; (· iexact H4); ipureintro
      sl_unfold_words
      simp only [accNew, mNew, p1, p2, if_true, if_false, r0, r1, r2, rm, ra, cm, ca, cs, cv, w4]
    isplitl [S0]
    · iexists _; isplitr; swap; (· iexact S0); ipureintro
      sl_unfold_words
      simp only [accNew, mNew, p1, p2, if_true, if_false, r0, r1, r2, rm, ra, cm, ca, wm]
    iexists _; isplitr; swap; (· iexact S1); ipureintro
    sl_unfold_words
    simp only [accNew, mNew, p1, p2, if_true, if_false, r0, r1, r2, rm, ra, cm, ca, wa]

set_option maxHeartbeats 2000000 in
/-- One point of the kernel that sums `o · do`. -/
theorem deltaRun (c : Dev nD) (i : grid1.Coords)
    (M0 : Memref sig .tc .vmem S1x64x2048 .bf16) (h0 : M0.IsWhole) (M1 : Memref sig .tc .vmem S1x64x2048 .bf16) (h1 : M1.IsWhole)
    (M2 : Memref sig .tc .vmem S1x1x2048 .f32) (h2 : M2.IsWhole)
    (o dy : Vec F S1x64x2048 .bf16) (d2 : Vec F S1x1x2048 .f32) (Q : PUnit → sProp 𝕄) :
    iprop(hold c M0 o ∗ hold c M1 dy ∗ hold c M2 d2
      ∗ (iprop(hold c M0 o ∗ hold c M1 dy ∗ hold c M2 (k1_pay1 o dy)) -∗ Q ⟨⟩))
    ⊢ wp frame (wpE (defs₀ (F := F)) Variants.none c none) Set.univ (cc1_mla_delta i M0 h0 M1 h1 M2 h2) Q := by
  simp only [cc1_mla_delta_eq_skeleton]; unfold cc1_mla_delta_skel
  iintro ⟨⟨%f0, %e0, H0⟩, ⟨%f1, %e1, H1⟩, ⟨%f2, %e2, H2⟩, Hk⟩
  subst e0 e1 e2
  have r0 : ∀ f inb, View.readAt (Elt F) M0.view (Rect.unit (s := S1x64x2048) ![0, 0, 0] ![1, 64, 2048] inb).toLoadRect f = M0.view.read (Elt F) f := fun f inb => View.readAt_full M0.view f inb
  have r1 : ∀ f inb, View.readAt (Elt F) M1.view (Rect.unit (s := S1x64x2048) ![0, 0, 0] ![1, 64, 2048] inb).toLoadRect f = M1.view.read (Elt F) f := fun f inb => View.readAt_full M1.view f inb
  have w2 : ∀ f inb w L, M2.view.read (Elt F) (M2.view.writes (Elt F) f (⟨Rect.unit (s := S1x1x2048) ![0, 0, 0] ![1, 1, 2048] inb, w⟩ :: L)) = w := fun f inb w L => View.read_writes_full M2.view f inb w L
  sl_exec
  sl_step
  iapply Hk
  isplitl [H0]; · iexists _; isplitr; swap; (· iexact H0); ipureintro; rfl
  isplitl [H1]; · iexists _; isplitr; swap; (· iexact H1); ipureintro; rfl
  iexists _; isplitr; swap; (· iexact H2); ipureintro
  sl_unfold_words
  simp only [r0, r1, w2]

end Cert.Proof

end
-- ==== Proof.BwdSteps.lean ====
/-
  What the backward kernel has gathered before each grid point.

  The grid runs over heads, query tiles and key tiles, the key tile fastest: point `n` is head `n / 128`, query tile
  `n / 16 % 8`, key tile `n % 16`. `dqA` sums over the key tiles met so far in the query tile's sweep, `dkA` and `dvA`
  over the query tiles met so far by a key tile. The lemmas say that one more point takes each sum one step further,
  keeps the rows of the other key tiles (`RowsOk`), and that the finished rows are in the two results (`BlocksOk`).
-/
module

public import proofs.«01_k».proof.Proof.BwdRun

@[expose] public section

set_option maxRecDepth 16384

noncomputable section

namespace Cert.Proof

open Cert.KernelIdeal Cert.KernelIdeal.Gen
open Idealize.ShloMosaic
open Idealize.ShloMosaic.VecWindow (window put)

variable {F : FTy → Type} [FloatOps F] [Named F]

/-- The blocks each grid point reads, by its number. -/
structure Ops (F : FTy → Type) where
  q : ℕ → Vec F S1x96x2048 .bf16
  k : ℕ → Vec F S1x1024x96 .bf16
  kt : ℕ → Vec F S1x96x1024 .bf16
  v : ℕ → Vec F S1x1024x64 .bf16
  dy : ℕ → Vec F S1x64x2048 .bf16
  lse : ℕ → Vec F S1x1x2048 .f32
  dl : ℕ → Vec F S1x1x2048 .f32

variable (o : Ops F)

/-- The gradient of the scores at point `n`. -/
def dsA (n : ℕ) := k2_pay7 (o.q n) (o.dy n) (o.k n) (o.lse n) (o.v n) (o.dl n)

/-- `dq` of the query tile whose sweep starts at point `b`, after the key tiles `0 … j`. -/
def dqA (b : ℕ) : ℕ → Vec F S96x2048 .f32
  | 0 => k2_pay10 (dsA o b) k2_pay1 (o.kt b)
  | j + 1 => k2_pay10 (dsA o (b + (j + 1))) (dqA b j) (o.kt (b + (j + 1)))

/-- `dk` of the key tile first met at point `b`, after the query tiles `0 … i`, not yet scaled. -/
def dkA (b : ℕ) : ℕ → Vec F S1x96x1024 .f32
  | 0 => k2_pay9 (k2_pay4 (o.q b)) (dsA o b) k2_pay2
  | i + 1 => k2_pay9 (k2_pay4 (o.q (b + 16 * (i + 1)))) (dsA o (b + 16 * (i + 1))) (dkA b i)

/-- `dv` of the key tile first met at point `b`, after the query tiles `0 … i`. -/
def dvA (b : ℕ) : ℕ → Vec F S1x64x1024 .f32
  | 0 => k2_pay8 (k2_pay5 (o.dy b)) (k2_pay6 (o.q b) (o.k b) (o.lse b)) k2_pay3
  | i + 1 => k2_pay8 (k2_pay5 (o.dy (b + 16 * (i + 1))))
      (k2_pay6 (o.q (b + 16 * (i + 1))) (o.k (b + 16 * (i + 1))) (o.lse (b + 16 * (i + 1)))) (dvA b i)

/-- The point at which a key tile is first met by the head of point `n`. -/
abbrev colOf (n : ℕ) : ℕ := 128 * (n / 128) + n % 16

/-- `i` holds the coordinates of point `n`. -/
structure AtPoint (i : grid2.Coords) (n : ℕ) : Prop where
  lt : n < 1024
  c0 : (i 0).val = n / 128
  c1 : (i 1).val = n / 16 % 8
  c2 : (i 2).val = n % 16

variable {i : grid2.Coords} {n : ℕ}

theorem dqNew_eq (h : AtPoint i n) (s0 : Vec F S96x2048 .f32) (hs : n % 16 ≠ 0 → s0 = dqA o (16 * (n / 16)) (n % 16 - 1)) :
    dqNew i (o.q n) (o.k n) (o.kt n) (o.v n) (o.dy n) (o.lse n) (o.dl n) s0 = dqA o (16 * (n / 16)) (n % 16) := by
  unfold dqNew
  have hn : n = 16 * (n / 16) + n % 16 := by omega
  cases hj : n % 16 with
  | zero =>
    rw [if_pos (show jFirst i from h.c2.trans hj)]
    have hb : 16 * (n / 16) = n := by omega
    rw [hb]; rfl
  | succ j =>
    rw [if_neg (fun hl : jFirst i => Nat.succ_ne_zero j (hj.symm.trans (h.c2.symm.trans hl))), hs (by omega), hj]
    have hb : n = 16 * (n / 16) + (j + 1) := by omega
    show k2_pay10 (dsA o n) _ (o.kt n) = k2_pay10 (dsA o (16 * (n / 16) + (j + 1))) _ (o.kt (16 * (n / 16) + (j + 1)))
    rw [← hb]; rfl

theorem dkSum_eq (h : AtPoint i n) (r : Vec F S1x96x1024 .f32) (hr : n / 16 % 8 ≠ 0 → r = dkA o (colOf n) (n / 16 % 8 - 1)) :
    dkSum i (o.q n) (o.k n) (o.v n) (o.dy n) (o.lse n) (o.dl n) r = dkA o (colOf n) (n / 16 % 8) := by
  unfold dkSum
  cases hj : n / 16 % 8 with
  | zero =>
    rw [if_pos (show iFirst i from h.c1.trans hj)]
    have hb : colOf n = n := by unfold colOf; omega
    rw [hb]; rfl
  | succ j =>
    rw [if_neg (fun hl : iFirst i => Nat.succ_ne_zero j (hj.symm.trans (h.c1.symm.trans hl))), hr (by omega), hj]
    have hb : n = colOf n + 16 * (j + 1) := by unfold colOf; omega
    show k2_pay9 (k2_pay4 (o.q n)) (dsA o n) _ = k2_pay9 (k2_pay4 (o.q (colOf n + 16 * (j + 1)))) (dsA o (colOf n + 16 * (j + 1))) _
    rw [← hb]; rfl

theorem dvNew_eq (h : AtPoint i n) (r : Vec F S1x64x1024 .f32) (hr : n / 16 % 8 ≠ 0 → r = dvA o (colOf n) (n / 16 % 8 - 1)) :
    dvNew i (o.q n) (o.k n) (o.dy n) (o.lse n) r = dvA o (colOf n) (n / 16 % 8) := by
  unfold dvNew
  cases hj : n / 16 % 8 with
  | zero =>
    rw [if_pos (show iFirst i from h.c1.trans hj)]
    have hb : colOf n = n := by unfold colOf; omega
    rw [hb]; rfl
  | succ j =>
    rw [if_neg (fun hl : iFirst i => Nat.succ_ne_zero j (hj.symm.trans (h.c1.symm.trans hl))), hr (by omega), hj]
    have hb : n = colOf n + 16 * (j + 1) := by unfold colOf; omega
    show k2_pay8 (k2_pay5 (o.dy n)) (k2_pay6 (o.q n) (o.k n) (o.lse n)) _
      = k2_pay8 (k2_pay5 (o.dy (colOf n + 16 * (j + 1)))) (k2_pay6 (o.q (colOf n + 16 * (j + 1))) (o.k (colOf n + 16 * (j + 1))) (o.lse (colOf n + 16 * (j + 1)))) _
    rw [← hb]; rfl

section Rows

variable {d : ℕ} {α : Type} (A : ℕ → ℕ → (⟨3, ![1, d, 1024]⟩ : Shape).Idx → α) (B : ℕ → (⟨3, ![1, d, 1024]⟩ : Shape).Idx → α)

/-- Before point `n`: the row of each key tile met within the last sixteen points holds its sum so far, unless it is
    finished. -/
def RowsOk (n : ℕ) (s : (⟨3, ![16, d, 1024]⟩ : Shape).Idx → α) : Prop :=
  ∀ n' < n, n ≤ n' + 16 → n' / 16 % 8 ≠ 7 → ∀ (x : Fin d) (y : Fin 1024),
    s (ix3 (⟨n' % 16, Nat.mod_lt _ (by decide)⟩ : Fin 16) x y) = A (colOf n') (n' / 16 % 8) (ix3 (0 : Fin 1) x y)

/-- Before point `n`: the finished rows are in the result. -/
def BlocksOk (n : ℕ) (g : (⟨4, ![8, 16, d, 1024]⟩ : Shape).Idx → α) : Prop :=
  ∀ n' < n, n' / 16 % 8 = 7 → ∀ (x : Fin d) (y : Fin 1024),
    g (ix4 (⟨n' / 128 % 8, Nat.mod_lt _ (by decide)⟩ : Fin 8) (⟨n' % 16, Nat.mod_lt _ (by decide)⟩ : Fin 16) x y) = B (colOf n') (ix3 (0 : Fin 1) x y)

theorem RowsOk.row {s : (⟨3, ![16, d, 1024]⟩ : Shape).Idx → α} (hs : RowsOk A n s) (h : AtPoint i n)
    (inb : ∀ a, rowAt i a + (![1, d, 1024] : Fin 3 → ℕ) a ≤ (⟨3, ![16, d, 1024]⟩ : Shape).size a) (hi : n / 16 % 8 ≠ 0) :
    window (s := ⟨3, ![16, d, 1024]⟩) s (rowAt i) ![1, d, 1024] inb = A (colOf n) (n / 16 % 8 - 1) := by
  funext y
  obtain ⟨y0, y1, y2, rfl⟩ : ∃ (y0 : Fin 1) (y1 : Fin d) (y2 : Fin 1024), y = ix3 y0 y1 y2 := ⟨y 0, y 1, y 2, eq_ix3 y⟩
  have h16 : 16 ≤ n := by omega
  have e := hs (n - 16) (by omega) (by omega) (by omega) y1 y2
  have e1 : colOf (n - 16) = colOf n := by unfold colOf; omega
  have e2 : (n - 16) / 16 % 8 = n / 16 % 8 - 1 := by omega
  have e3 : (ix3 (0 : Fin 1) y1 y2 : (⟨3, ![1, d, 1024]⟩ : Shape).Idx) = ix3 y0 y1 y2 := by rw [Subsingleton.elim y0 0]
  rw [e1, e2, e3] at e
  refine Eq.trans (congrArg s ?_) e
  funext a
  have hc := h.c2
  have hy : y0.val = 0 := Nat.lt_one_iff.mp y0.isLt
  fin_cases a
  · exact Fin.ext (show (i 2).val + 1 * y0.val = (n - 16) % 16 by omega)
  · exact Fin.ext (show 0 + 1 * y1.val = y1.val by omega)
  · exact Fin.ext (show 0 + 1 * y2.val = y2.val by omega)

theorem RowsOk.step {s : (⟨3, ![16, d, 1024]⟩ : Shape).Idx → α} (hs : RowsOk A n s) (h : AtPoint i n)
    (r : (⟨3, ![1, d, 1024]⟩ : Shape).Idx → α) (hr : n / 16 % 8 ≠ 7 → r = A (colOf n) (n / 16 % 8)) :
    RowsOk A (n + 1) (put (s := ⟨3, ![16, d, 1024]⟩) s (rowAt i) ![1, d, 1024] r) := by
  intro n' hn' hle h7 x y
  have hc := h.c2
  unfold put
  by_cases e : n' = n
  · subst e
    rw [dif_pos (by
      intro a; fin_cases a
      · show (i 2).val ≤ n' % 16 ∧ n' % 16 < (i 2).val + 1; omega
      · show 0 ≤ x.val ∧ x.val < 0 + d; have := x.isLt; omega
      · show 0 ≤ y.val ∧ y.val < 0 + 1024; have := y.isLt; omega), hr h7]
    refine congrArg _ (funext fun a => ?_)
    fin_cases a
    · exact Fin.ext (show n' % 16 - (i 2).val = 0 by omega)
    · exact Fin.ext (show x.val - 0 = x.val by omega)
    · exact Fin.ext (show y.val - 0 = y.val by omega)
  · rw [dif_neg (by
      intro hall
      have := hall 0
      have h0 : (i 2).val ≤ n' % 16 ∧ n' % 16 < (i 2).val + 1 := this
      omega)]
    exact hs n' (by omega) (by omega) h7 x y

theorem BlocksOk.step {g : (⟨4, ![8, 16, d, 1024]⟩ : Shape).Idx → α} (hg : BlocksOk B n g) (h : AtPoint i n)
    (r : (⟨3, ![1, d, 1024]⟩ : Shape).Idx → α) (hr : n / 16 % 8 = 7 → r = B (colOf n)) :
    BlocksOk B (n + 1) (if iLast i then put (s := ⟨4, ![8, 16, d, 1024]⟩) g ![(i 0).val, (i 2).val, 0, 0] ![1, 1, d, 1024] (fun y => r (ix3 (0 : Fin 1) (y 2) (y 3))) else g) := by
  intro n' hn' h7 x y
  have hc := h.c2
  have hc0 := h.c0
  have hc1 := h.c1
  have hlt := h.lt
  by_cases e : n' = n
  · subst e
    rw [if_pos (show iLast i from hc1.trans h7)]
    unfold put
    rw [dif_pos (by
      intro a; fin_cases a
      · show (i 0).val ≤ n' / 128 % 8 ∧ n' / 128 % 8 < (i 0).val + 1; omega
      · show (i 2).val ≤ n' % 16 ∧ n' % 16 < (i 2).val + 1; omega
      · show 0 ≤ x.val ∧ x.val < 0 + d; have := x.isLt; omega
      · show 0 ≤ y.val ∧ y.val < 0 + 1024; have := y.isLt; omega), hr h7]
    refine congrArg _ (funext fun a => ?_)
    fin_cases a
    · rfl
    · exact Fin.ext (show x.val - 0 = x.val by omega)
    · exact Fin.ext (show y.val - 0 = y.val by omega)
  · by_cases hl : iLast i
    · rw [if_pos hl]
      unfold put
      have hl' : (i 1).val = 7 := hl
      rw [dif_neg (by
        intro hall
        have h0 : (i 0).val ≤ n' / 128 % 8 ∧ n' / 128 % 8 < (i 0).val + 1 := hall 0
        have h1 : (i 2).val ≤ n' % 16 ∧ n' % 16 < (i 2).val + 1 := hall 1
        omega)]
      exact hg n' (by omega) h7 x y
    · rw [if_neg hl]
      exact hg n' (by omega) h7 x y

/-- After the last point the result is named everywhere. -/
theorem BlocksOk.all {g : (⟨4, ![8, 16, d, 1024]⟩ : Shape).Idx → α} (hg : BlocksOk B 1024 g) :
    g = fun z => B (128 * (z 0).val + (z 1).val) (ix3 (0 : Fin 1) (z 2) (z 3)) := by
  funext z
  obtain ⟨z0, z1, z2, z3, rfl⟩ : ∃ (z0 : Fin 8) (z1 : Fin 16) (z2 : Fin d) (z3 : Fin 1024), z = ix4 z0 z1 z2 z3 := ⟨z 0, z 1, z 2, z 3, eq_ix4 z⟩
  have l0 := z0.isLt
  have l1 := z1.isLt
  have e := hg (128 * z0.val + 112 + z1.val) (by omega) (by omega) z2 z3
  have e1 : colOf (128 * z0.val + 112 + z1.val) = 128 * z0.val + z1.val := by unfold colOf; omega
  rw [e1] at e
  refine Eq.trans (congrArg g ?_) e
  funext a
  fin_cases a
  · exact Fin.ext (show z0.val = (128 * z0.val + 112 + z1.val) / 128 % 8 by omega)
  · exact Fin.ext (show z1.val = (128 * z0.val + 112 + z1.val) % 16 by omega)
  · rfl
  · rfl

end Rows

/-- What the backward kernel keeps between points, before point `n`: the query tile's `dq`, the unfinished rows of `dk`
    and `dv`, and the finished rows in the two results. -/
structure Inv (n : ℕ) (s0 : Vec F S96x2048 .f32) (s1 : Vec F S16x96x1024 .f32) (s2 : Vec F S16x64x1024 .f32)
    (g1 : Vec F S8x16x96x1024 .f32) (g2 : Vec F S8x16x64x1024 .f32) : Prop where
  dq : n % 16 ≠ 0 → s0 = dqA o (16 * (n / 16)) (n % 16 - 1)
  dk : RowsOk (dkA o) n s1
  dv : RowsOk (dvA o) n s2
  dkOut : BlocksOk (fun b => k2_pay12 (dkA o b 7)) n g1
  dvOut : BlocksOk (fun b => dvA o b 7) n g2

theorem Inv.zero (s0 : Vec F S96x2048 .f32) (s1 : Vec F S16x96x1024 .f32) (s2 : Vec F S16x64x1024 .f32)
    (g1 : Vec F S8x16x96x1024 .f32) (g2 : Vec F S8x16x64x1024 .f32) : Inv o 0 s0 s1 s2 g1 g2 :=
  ⟨fun h => absurd rfl h, fun _ h => absurd h (Nat.not_lt_zero _), fun _ h => absurd h (Nat.not_lt_zero _),
    fun _ h => absurd h (Nat.not_lt_zero _), fun _ h => absurd h (Nat.not_lt_zero _)⟩

/-- One point takes the invariant one step further. -/
theorem Inv.step {s0 : Vec F S96x2048 .f32} {s1 : Vec F S16x96x1024 .f32} {s2 : Vec F S16x64x1024 .f32}
    {g1 : Vec F S8x16x96x1024 .f32} {g2 : Vec F S8x16x64x1024 .f32} (hI : Inv o n s0 s1 s2 g1 g2) (h : AtPoint i n) :
    Inv o (n + 1) (dqNew i (o.q n) (o.k n) (o.kt n) (o.v n) (o.dy n) (o.lse n) (o.dl n) s0)
      (put s1 (rowAt i) S1x96x1024.size (dkNew i (o.q n) (o.k n) (o.v n) (o.dy n) (o.lse n) (o.dl n) (window s1 (rowAt i) S1x96x1024.size (rowAt_inb96 i))))
      (put s2 (rowAt i) S1x64x1024.size (dvNew i (o.q n) (o.k n) (o.dy n) (o.lse n) (window s2 (rowAt i) S1x64x1024.size (rowAt_inb64 i))))
      (blk96 i (dkNew i (o.q n) (o.k n) (o.v n) (o.dy n) (o.lse n) (o.dl n) (window s1 (rowAt i) S1x96x1024.size (rowAt_inb96 i))) g1)
      (blk64 i (dvNew i (o.q n) (o.k n) (o.dy n) (o.lse n) (window s2 (rowAt i) S1x64x1024.size (rowAt_inb64 i))) g2) := by
  have hk := dkSum_eq o h (window s1 (rowAt i) S1x96x1024.size (rowAt_inb96 i)) (fun hi => hI.dk.row _ h _ hi)
  have hv := dvNew_eq o h (window s2 (rowAt i) S1x64x1024.size (rowAt_inb64 i)) (fun hi => hI.dv.row _ h _ hi)
  have hc1 := h.c1
  refine ⟨fun h0 => ?_, hI.dk.step _ h _ fun h7 => ?_, hI.dv.step _ h _ fun _ => hv, hI.dkOut.step _ h _ fun h7 => ?_, hI.dvOut.step _ h _ fun h7 => ?_⟩
  · rw [dqNew_eq o h s0 hI.dq]
    have e1 : (n + 1) / 16 = n / 16 := by omega
    have e2 : (n + 1) % 16 - 1 = n % 16 := by omega
    rw [e1, e2]
  · unfold dkNew
    rw [if_neg (fun hl : iLast i => h7 (hc1.symm.trans hl))]
    exact hk
  · unfold dkNew
    rw [if_pos (show iLast i from hc1.trans h7), hk, h7]
  · rw [hv, h7]

end Cert.Proof

end
-- ==== Proof.Bwd.lean ====
/-
  The backward kernel's call: what it leaves, from any contents of its operands.

  `dat2` is the call's proof data over the contents `V` the call finds; `body2` says that the kernel's body keeps it.
  `dkOut` and `dvOut` name the two results the kernel copies itself, `dqA` the one the pipeline writes back.
-/
module

public import proofs.«01_k».proof.Proof.BwdSteps

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRef)
open Idealize.ShloMosaic.VecWindow (window put)

variable {F : FTy → Type} [FloatOps F] [Named F]

local notation "𝕄" => MT nD τ sig Unit (Elt F) ℕ UU ℕ

/-- Owning a whole memref is holding its buffer. -/
theorem owns_eq_hold (c : Dev nD) {sp : Space} {S : Shape} {e : EltTy} (M : Memref sig .tc sp S e) (h : M.IsWhole) (x : S.Idx → Elt F e) :
    (owns (c : Thread nD τ) M fullShare x : sProp 𝕄) = hold c M x := by
  unfold owns; rw [h.set_eq_univ]

variable (V : Dev nD → Valuation τ sig (Elt F))

/-- Grid point `n` of the backward call. -/
def pt2 (n : ℕ) : Fin cfg2.N := ⟨n % 1024, lt_of_lt_of_eq (Nat.mod_lt n (by decide)) N_2.symm⟩

theorem pt2_val (t : Fin cfg2.N) : pt2 t.val = t := Fin.ext (Nat.mod_eq_of_lt (lt_of_lt_of_eq t.isLt N_2))

theorem atPoint2 (t : Fin cfg2.N) : AtPoint (grid2.coords t) t.val := by
  have hN : t.val < 1024 := lt_of_lt_of_eq t.isLt N_2
  have h0 : (grid2.coords t 0).val = t.val / 128 % 8 := Pipeline.Grid.coords_val t 0 (by decide) rfl
  have h1 : (grid2.coords t 1).val = t.val / 16 % 8 := Pipeline.Grid.coords_val t 1 (by decide) rfl
  have h2 : (grid2.coords t 2).val = t.val / 1 % 16 := Pipeline.Grid.coords_val t 2 (by decide) rfl
  refine ⟨hN, ?_, ?_, ?_⟩
  · rw [h0]; omega
  · rw [h1]
  · rw [h2, Nat.div_one]

/-- Window `w`'s block at point `t`, of the contents the call finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (arrRef spec2 w)))

/-- The blocks the points read. -/
def ops2 (c : Dev nD) : Ops F where
  q n := iblk2 V c 0 (pt2 n)
  k n := iblk2 V c 1 (pt2 n)
  kt n := iblk2 V c 2 (pt2 n)
  v n := iblk2 V c 3 (pt2 n)
  dy n := iblk2 V c 4 (pt2 n)
  lse n := iblk2 V c 5 (pt2 n)
  dl n := iblk2 V c 6 (pt2 n)

theorem ops2_q (c : Dev nD) (t : Fin cfg2.N) : (ops2 V c).q t.val = iblk2 V c 0 t := by dsimp only [ops2]; rw [pt2_val]
theorem ops2_k (c : Dev nD) (t : Fin cfg2.N) : (ops2 V c).k t.val = iblk2 V c 1 t := by dsimp only [ops2]; rw [pt2_val]
theorem ops2_kt (c : Dev nD) (t : Fin cfg2.N) : (ops2 V c).kt t.val = iblk2 V c 2 t := by dsimp only [ops2]; rw [pt2_val]
theorem ops2_v (c : Dev nD) (t : Fin cfg2.N) : (ops2 V c).v t.val = iblk2 V c 3 t := by dsimp only [ops2]; rw [pt2_val]
theorem ops2_dy (c : Dev nD) (t : Fin cfg2.N) : (ops2 V c).dy t.val = iblk2 V c 4 t := by dsimp only [ops2]; rw [pt2_val]
theorem ops2_lse (c : Dev nD) (t : Fin cfg2.N) : (ops2 V c).lse t.val = iblk2 V c 5 t := by dsimp only [ops2]; rw [pt2_val]
theorem ops2_dl (c : Dev nD) (t : Fin cfg2.N) : (ops2 V c).dl t.val = iblk2 V c 6 t := by dsimp only [ops2]; rw [pt2_val]

/-- What the call leaves in its `dk` result. -/
def dkOut (c : Dev nD) : Vec F S8x16x96x1024 .f32 := fun z => k2_pay12 (dkA (ops2 V c) (128 * (z 0).val + (z 1).val) 7) (ix3 (0 : Fin 1) (z 2) (z 3))
/-- What the call leaves in its `dv` result. -/
def dvOut (c : Dev nD) : Vec F S8x16x64x1024 .f32 := fun z => dvA (ops2 V c) (128 * (z 0).val + (z 1).val) 7 (ix3 (0 : Fin 1) (z 2) (z 3))

/-- The scoped buffers that are none of the kernel's own three, and the generator register. -/
def others2 (c : Dev nD) : sProp 𝕄 :=
  iprop(Pipeline.scopedRestBut (Ix := Unit) (Name := ℕ) (U := UU) (Lvl := ℕ) (Val := Elt F) spec2 c [cc2_scratch0, cc2_scratch1, cc2_scratch2] ∗ (∃ r, prngReg c r))

/-- Before point `n`: the kernel's buffers, its two results and its semaphores. -/
def Phi2 (c : Dev nD) (n : ℕ) : sProp 𝕄 :=
  iprop(∃ s0 s1 s2 g1 g2, ⌜Inv (ops2 V c) n s0 s1 s2 g1 g2⌝
    ∗ hold c (Memref.whole main_v18_1) g1 ∗ hold c (Memref.whole main_v18_2) g2
    ∗ hold c (Memref.whole cc2_scratch0) s0 ∗ hold c (Memref.whole cc2_scratch1) s1 ∗ hold c (Memref.whole cc2_scratch2) s2
    ∗ semVal ((c : Thread nD τ), .dma 32) 0 ∗ semVal ((c : Thread nD τ), .dma 33) 0 ∗ others2 c)

/-- The call's proof data. -/
def dat2 (c : Dev nD) : Dat τ (Elt F) Unit ℕ UU ℕ cfg2 c where
  A w := V c (Proc.devRef .tc (arrRef spec2 w))
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => k2_pay11 (dqA (ops2 V c) (16 * (t.val / 16)) (t.val % 16))
  Φ t := Phi2 V c t.val
  q _ := fullShare
  owed _ := 0

theorem A2_eq (c : Dev nD) (w : Fin cfg2.W) : (dat2 V c).A w = V c (Proc.devRef .tc (arrRef spec2 w)) := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = k2_pay11 (dqA (ops2 V c) (16 * (t.val / 16)) (t.val % 16)) := by dsimp only [dat2]

/-- Each input's current staging buffer holds its block, fetched at the point or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2_eq]) t d).trans
    (by unfold Dat.fetched Dat.blockOf iblk2; rw [A2_eq]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2_eq]) t d).trans
    (by unfold Dat.fetched Dat.blockOf iblk2; rw [A2_eq]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A2_eq]) t d).trans
    (by unfold Dat.fetched Dat.blockOf iblk2; rw [A2_eq]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A2_eq]) t d).trans
    (by unfold Dat.fetched Dat.blockOf iblk2; rw [A2_eq]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A2_eq]) t d).trans
    (by unfold Dat.fetched Dat.blockOf iblk2; rw [A2_eq]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A2_eq]) t d).trans
    (by unfold Dat.fetched Dat.blockOf iblk2; rw [A2_eq]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A2_eq]) t d).trans
    (by unfold Dat.fetched Dat.blockOf iblk2; rw [A2_eq]; try rfl)

/-- The result's window is left alone but at the last key tile, where it is written back. -/
theorem leaves2_7 (c : Dev nD) (t : Fin cfg2.N) :
    iprop(∃ d, owns (c : Thread nD τ) (st2_7 t) fullShare (if jLast (grid2.coords t) then (dat2 V c).after 7 t else (dat2 V c).before 7 t d))
      ⊢ (dat2 V c).leavesExact 7 t := by
  have h := (atPoint2 t).c2
  by_cases hl : jLast (grid2.coords t)
  · have hi : cfg2.idle 7 (grid2.coords t) = false := by
      show (!(k2_cond3 (grid2.coords t) == 1#1)) = false
      rw [(cond3_iff _).mpr hl]; rfl
    rw [show (dat2 V c).leavesExact 7 t = owns (c : Thread nD τ) (st2_7 t) fullShare ((dat2 V c).after 7 t) from by
      unfold Dat.leavesExact; rw [hi]]
    simp only [if_pos hl]
    iintro ⟨%d, H⟩
    iexact H
  · have hi : cfg2.idle 7 (grid2.coords t) = true := by
      show (!(k2_cond3 (grid2.coords t) == 1#1)) = true
      rw [beq_eq_false_iff_ne.mpr (fun e => hl ((cond3_iff _).mp e))]; rfl
    have hf : (cfg2.win 7).flush t = false := by
      rw [Bool.eq_false_iff]; intro e
      exact hl (h.trans ((flush2_7 t).mp e))
    rw [(dat2 V c).leavesExact_idle 7 t hi hf]
    simp only [if_neg hl]
    iintro ⟨%d, H⟩
    iexists d
    iexact H

/-- What the body is called with at point `t`, window by window, and what it returns. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

def post2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t ∗ (dat2 V c).leavesExact 5 t ∗ (dat2 V c).leavesExact 6 t ∗ (dat2 V c).leavesExact 7 t)

set_option maxHeartbeats 4800000 in
theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3, before2_4, before2_5, before2_6]
  rw [show (dat2 V c).Φ t.castSucc = Phi2 V c t.val from rfl, show (dat2 V c).Φ t.succ = Phi2 V c (t.val + 1) from rfl]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  rw [show (dat2 V c).leavesExact 2 t = owns (c : Thread nD τ) (st2_2 t) fullShare ((dat2 V c).after 2 t) from rfl, after2_2]
  rw [show (dat2 V c).leavesExact 3 t = owns (c : Thread nD τ) (st2_3 t) fullShare ((dat2 V c).after 3 t) from rfl, after2_3]
  rw [show (dat2 V c).leavesExact 4 t = owns (c : Thread nD τ) (st2_4 t) fullShare ((dat2 V c).after 4 t) from rfl, after2_4]
  rw [show (dat2 V c).leavesExact 5 t = owns (c : Thread nD τ) (st2_5 t) fullShare ((dat2 V c).after 5 t) from rfl, after2_5]
  rw [show (dat2 V c).leavesExact 6 t = owns (c : Thread nD τ) (st2_6 t) fullShare ((dat2 V c).after 6 t) from rfl, after2_6]
  have hp := atPoint2 t
  have e0 := ops2_q V c t
  have e1 := ops2_k V c t
  have e2 := ops2_kt V c t
  have e3 := ops2_v V c t
  have e4 := ops2_dy V c t
  have e5 := ops2_lse V c t
  have e6 := ops2_dl V c t
  rw [owns_eq_hold c (st2_0 t) (hstage2_0 _), owns_eq_hold c (st2_1 t) (hstage2_1 _), owns_eq_hold c (st2_2 t) (hstage2_2 _),
    owns_eq_hold c (st2_3 t) (hstage2_3 _), owns_eq_hold c (st2_4 t) (hstage2_4 _), owns_eq_hold c (st2_5 t) (hstage2_5 _), owns_eq_hold c (st2_6 t) (hstage2_6 _)]
  unfold Phi2
  iintro ⟨⟨%s0, %s1, %s2, %g1, %g2, %hI, HG1, HG2, HS0, HS1, HS2, HD0, HD1, HR⟩, ⟨%Wd, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  have hst := hI.step _ hp
  have hdq := dqNew_eq _ hp s0 hI.dq
  rw [e0, e1, e2, e3, e4, e5, e6] at hst hdq
  iapply (bodyRun c (grid2.coords t) (st2_0 t) (hstage2_0 _) (st2_1 t) (hstage2_1 _) (st2_2 t) (hstage2_2 _) (st2_3 t) (hstage2_3 _)
    (st2_4 t) (hstage2_4 _) (st2_5 t) (hstage2_5 _) (st2_6 t) (hstage2_6 _) (st2_7 t) (hstage2_7 _)
    (iblk2 V c 0 t) (iblk2 V c 1 t) (iblk2 V c 2 t) (iblk2 V c 3 t) (iblk2 V c 4 t) (iblk2 V c 5 t) (iblk2 V c 6 t) ((dat2 V c).before 7 t d7)
    g1 g2 s0 s1 s2 Wd _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · rw [← owns_eq_hold c (st2_7 t) (hstage2_7 _)]; iexact H7
  isplitl [HG1]; · iexact HG1
  isplitl [HG2]; · iexact HG2
  isplitl [HS0]; · iexact HS0
  isplitl [HS1]; · iexact HS1
  isplitl [HS2]; · iexact HS2
  isplitl [HD0]; · iexact HD0
  isplitl [HD1]; · iexact HD1
  isplitl [HO]; · iexact HO
  iintro ⟨H0, H1, H2, H3, H4, H5, H6, H7, HG1, HG2, HS0, HS1, HS2, HD0, HD1, ⟨%Wd', HO⟩⟩
  isplitl [HG1 HG2 HS0 HS1 HS2 HD0 HD1 HR]
  · iexists _, _, _, _, _
    isplitr
    · ipureintro; exact hst
    isplitl [HG1]; · iexact HG1
    isplitl [HG2]; · iexact HG2
    isplitl [HS0]; · iexact HS0
    isplitl [HS1]; · iexact HS1
    isplitl [HS2]; · iexact HS2
    isplitl [HD0]; · iexact HD0
    isplitl [HD1]; · iexact HD1
    iexact HR
  isplitl [HO]
  · iexists Wd'
    isplitr
    · ipureintro; exact fun x _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iapply leaves2_7 V c t
  iexists d7
  rw [after2_7, ← hdq, owns_eq_hold c (st2_7 t) (hstage2_7 _)]
  iexact H7

theorem row2 (t : Fin cfg2.N) : defs₀ (F := F) .tc cfg2.body (cfg2.bodyArgs t (cfg2.slots t)) = bodyAt2 t := by
  unfold defs₀; rw [Defs.onTc_tc]

theorem body2 (c : Dev nD) : BodyObligation (dat2 V c) (defs₀ (F := F)) Variants.none () Set.univ := fun t => by
  rw [bigSep_W2, bigSep_W2, row2]
  exact triple_restated (sound2 V c t) rfl .rfl fun _ => .rfl

end Cert.Proof

end
-- ==== Proof.Fwd.lean ====
/-
  The forward kernel's call: what it leaves, from any contents of its operands.

  `dat0` is the call's proof data over the contents `V` the call finds; `body0` says that the kernel's body keeps it.
  `mA` and `accA` are the running maximum and the running sums after each key tile of a query tile's sweep.
-/
module

public import proofs.«01_k».proof.Proof.FwdRun
public import proofs.«01_k».proof.Proof.Bwd

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRef)
open Idealize.ShloMosaic.VecWindow (window put)

variable {F : FTy → Type} [FloatOps F] [Named F]

local notation "𝕄" => MT nD τ sig Unit (Elt F) ℕ UU ℕ

/-- The blocks the points read. -/
structure Ops0 (F : FTy → Type) where
  q : ℕ → Vec F S1x96x2048 .bf16
  k : ℕ → Vec F S1x2048x96 .bf16
  vt : ℕ → Vec F S1x80x2048 .bf16

/-- The running maximum after key tile `j` of the sweep that starts at point `b`. -/
def mA (o : Ops0 F) (b : ℕ) : ℕ → Vec F S1x2048 .f32
  | 0 => k0_pay1 (k0_pay7 (o.k b) (o.q b) k0_pay4)
  | j + 1 => k0_pay1 (k0_pay7 (o.k (b + (j + 1))) (o.q (b + (j + 1))) (mA o b j))

/-- The running sums after key tile `j`. -/
def accA (o : Ops0 F) (b : ℕ) : ℕ → Vec F S80x2048 .f32
  | 0 => k0_pay8 (o.k b) (o.q b) k0_pay4 k0_pay5 (o.vt b)
  | j + 1 => k0_pay8 (o.k (b + (j + 1))) (o.q (b + (j + 1))) (mA o b j) (accA o b j) (o.vt (b + (j + 1)))

/-- What the two buffers hold before point `n`. -/
def Inv0 (o : Ops0 F) (n : ℕ) (m : Vec F S1x2048 .f32) (a : Vec F S80x2048 .f32) : Prop :=
  n % 8 ≠ 0 → m = mA o (8 * (n / 8)) (n % 8 - 1) ∧ a = accA o (8 * (n / 8)) (n % 8 - 1)

theorem new_eq (o : Ops0 F) {i : grid0.Coords} {n : ℕ} (hi : (i 2).val = n % 8) (m : Vec F S1x2048 .f32) (a : Vec F S80x2048 .f32) (h : Inv0 o n m a) :
    mNew i (o.q n) (o.k n) m = mA o (8 * (n / 8)) (n % 8) ∧ accNew i (o.q n) (o.k n) (o.vt n) m a = accA o (8 * (n / 8)) (n % 8) := by
  unfold mNew accNew
  by_cases hk : n % 8 = 0
  · have e : 8 * (n / 8) = n := by omega
    rw [if_pos (show kFirst i from hi.trans hk), if_pos (show kFirst i from hi.trans hk), hk, e]
    exact ⟨rfl, rfl⟩
  · obtain ⟨e1, e2⟩ := h hk
    obtain ⟨j, hj⟩ : ∃ j, n % 8 = j + 1 := ⟨n % 8 - 1, by omega⟩
    have e : 8 * (n / 8) + (j + 1) = n := by omega
    rw [hj] at e1 e2
    rw [if_neg (fun hf : kFirst i => hk (hi.symm.trans hf)), if_neg (fun hf : kFirst i => hk (hi.symm.trans hf)), hj]
    subst e1 e2
    simp only [mA, accA, e, Nat.add_sub_cancel, and_self]

theorem Inv0.step (o : Ops0 F) {i : grid0.Coords} {n : ℕ} (hi : (i 2).val = n % 8) (m : Vec F S1x2048 .f32) (a : Vec F S80x2048 .f32) (h : Inv0 o n m a) :
    Inv0 o (n + 1) (mNew i (o.q n) (o.k n) m) (accNew i (o.q n) (o.k n) (o.vt n) m a) := fun hn => by
  obtain ⟨e1, e2⟩ := new_eq o hi m a h
  have h1 : (n + 1) / 8 = n / 8 := by omega
  have h2 : (n + 1) % 8 - 1 = n % 8 := by omega
  rw [e1, e2, h1, h2]
  exact ⟨rfl, rfl⟩

variable (V : Dev nD → Valuation τ sig (Elt F))

/-- Grid point `n` of the forward call. -/
def pt0 (n : ℕ) : Fin cfg0.N := ⟨n % 512, lt_of_lt_of_eq (Nat.mod_lt n (by decide)) N_0.symm⟩

theorem pt0_val (t : Fin cfg0.N) : pt0 t.val = t := Fin.ext (Nat.mod_eq_of_lt (lt_of_lt_of_eq t.isLt N_0))

theorem atPoint0 (t : Fin cfg0.N) : t.val < 512 ∧ (grid0.coords t 2).val = t.val % 8 := by
  have h2 : (grid0.coords t 2).val = t.val / 1 % 8 := Pipeline.Grid.coords_val t 2 (by decide) rfl
  exact ⟨lt_of_lt_of_eq t.isLt N_0, by rw [h2, Nat.div_one]⟩

/-- Window `w`'s block at point `t`, of the contents the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (arrRef spec0 w)))

/-- The blocks the points read. -/
def ops0 (c : Dev nD) : Ops0 F where
  q n := iblk0 V c 0 (pt0 n)
  k n := iblk0 V c 1 (pt0 n)
  vt n := iblk0 V c 2 (pt0 n)

theorem ops0_q (c : Dev nD) (t : Fin cfg0.N) : (ops0 V c).q t.val = iblk0 V c 0 t := by dsimp only [ops0]; rw [pt0_val]
theorem ops0_k (c : Dev nD) (t : Fin cfg0.N) : (ops0 V c).k t.val = iblk0 V c 1 t := by dsimp only [ops0]; rw [pt0_val]
theorem ops0_vt (c : Dev nD) (t : Fin cfg0.N) : (ops0 V c).vt t.val = iblk0 V c 2 t := by dsimp only [ops0]; rw [pt0_val]

/-- The sums after the whole sweep up to point `n`, and the maximum. -/
def accAt (c : Dev nD) (n : ℕ) : Vec F S80x2048 .f32 := accA (ops0 V c) (8 * (n / 8)) (n % 8)
def mAt (c : Dev nD) (n : ℕ) : Vec F S1x2048 .f32 := mA (ops0 V c) (8 * (n / 8)) (n % 8)

/-- Before point `n`: the kernel's two buffers, and the scoped buffers that are none of its own. -/
def Phi0 (c : Dev nD) (n : ℕ) : sProp 𝕄 :=
  iprop(∃ m a, ⌜Inv0 (ops0 V c) n m a⌝ ∗ hold c (Memref.whole cc0_scratch0) m ∗ hold c (Memref.whole cc0_scratch1) a
    ∗ Pipeline.scopedRestBut (Ix := Unit) (Name := ℕ) (U := UU) (Lvl := ℕ) (Val := Elt F) spec0 c [cc0_scratch0, cc0_scratch1])

/-- The call's proof data. -/
def dat0 (c : Dev nD) : Dat τ (Elt F) Unit ℕ UU ℕ cfg0 c where
  A w := V c (Proc.devRef .tc (arrRef spec0 w))
  after w t := match w with
    | ⟨0, _⟩ => iblk0 V c 0 t
    | ⟨1, _⟩ => iblk0 V c 1 t
    | ⟨2, _⟩ => iblk0 V c 2 t
    | ⟨3, _⟩ => k0_pay2 (sums (accAt V c t.val)) (vals (accAt V c t.val))
    | ⟨4, _⟩ => k0_pay3 (sums (accAt V c t.val)) (mAt V c t.val)
  Φ t := Phi0 V c t.val
  q _ := fullShare
  owed _ := 0

theorem A0_eq (c : Dev nD) (w : Fin cfg0.W) : (dat0 V c).A w = V c (Proc.devRef .tc (arrRef spec0 w)) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay2 (sums (accAt V c t.val)) (vals (accAt V c t.val)) := by dsimp only [dat0]
theorem after0_4 (c : Dev nD) (t : Fin cfg0.N) : (dat0 V c).after 4 t = k0_pay3 (sums (accAt V c t.val)) (mAt V c t.val) := by dsimp only [dat0]

/-- Each input's current staging buffer holds its block, fetched at the point or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]) t d).trans
    (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]) t d).trans
    (by unfold Dat.fetched Dat.blockOf iblk0; rw [A0_eq]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0_eq]) t d).trans
    (by unfold Dat.fetched Dat.blockOf iblk0; rw [A0_eq]; try rfl)

/-- The results' windows are left alone but at the last key tile, where they are written back. -/
theorem leaves0_3 (c : Dev nD) (t : Fin cfg0.N) :
    iprop(∃ d, owns (c : Thread nD τ) (st0_3 t) fullShare (if kLast (grid0.coords t) then (dat0 V c).after 3 t else (dat0 V c).before 3 t d))
      ⊢ (dat0 V c).leavesExact 3 t := by
  have h := (atPoint0 t).2
  by_cases hl : kLast (grid0.coords t)
  · have hi : cfg0.idle 3 (grid0.coords t) = false := by
      show (!(k0_cond2 (grid0.coords t) == 1#1)) = false
      rw [(fcond2_iff _).mpr hl]; rfl
    rw [show (dat0 V c).leavesExact 3 t = owns (c : Thread nD τ) (st0_3 t) fullShare ((dat0 V c).after 3 t) from by
      unfold Dat.leavesExact; rw [hi]]
    simp only [if_pos hl]
    iintro ⟨%d, H⟩
    iexact H
  · have hi : cfg0.idle 3 (grid0.coords t) = true := by
      show (!(k0_cond2 (grid0.coords t) == 1#1)) = true
      rw [beq_eq_false_iff_ne.mpr (fun e => hl ((fcond2_iff _).mp e))]; rfl
    have hf : (cfg0.win 3).flush t = false := by
      rw [Bool.eq_false_iff]; intro e
      exact hl (h.trans ((flush0_3 t).mp e))
    rw [(dat0 V c).leavesExact_idle 3 t hi hf]
    simp only [if_neg hl]
    iintro ⟨%d, H⟩
    iexists d
    iexact H

theorem leaves0_4 (c : Dev nD) (t : Fin cfg0.N) :
    iprop(∃ d, owns (c : Thread nD τ) (st0_4 t) fullShare (if kLast (grid0.coords t) then (dat0 V c).after 4 t else (dat0 V c).before 4 t d))
      ⊢ (dat0 V c).leavesExact 4 t := by
  have h := (atPoint0 t).2
  by_cases hl : kLast (grid0.coords t)
  · have hi : cfg0.idle 4 (grid0.coords t) = false := by
      show (!(k0_cond2 (grid0.coords t) == 1#1)) = false
      rw [(fcond2_iff _).mpr hl]; rfl
    rw [show (dat0 V c).leavesExact 4 t = owns (c : Thread nD τ) (st0_4 t) fullShare ((dat0 V c).after 4 t) from by
      unfold Dat.leavesExact; rw [hi]]
    simp only [if_pos hl]
    iintro ⟨%d, H⟩
    iexact H
  · have hi : cfg0.idle 4 (grid0.coords t) = true := by
      show (!(k0_cond2 (grid0.coords t) == 1#1)) = true
      rw [beq_eq_false_iff_ne.mpr (fun e => hl ((fcond2_iff _).mp e))]; rfl
    have hf : (cfg0.win 4).flush t = false := by
      rw [Bool.eq_false_iff]; intro e
      exact hl (h.trans ((flush0_4 t).mp e))
    rw [(dat0 V c).leavesExact_idle 4 t hi hf]
    simp only [if_neg hl]
    iintro ⟨%d, H⟩
    iexists d
    iexact H

/-- What the body is called with at point `t`, window by window, and what it returns. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def post0 (c : Dev nD) (t : Fin cfg0.N) : sProp 𝕄 :=
  iprop((dat0 V c).Φ t.succ ∗ (dat0 V c).owesAt () t.succ ∗ (dat0 V c).leavesExact 0 t ∗ (dat0 V c).leavesExact 1 t ∗ (dat0 V c).leavesExact 2 t ∗ (dat0 V c).leavesExact 3 t ∗ (dat0 V c).leavesExact 4 t)

set_option maxHeartbeats 4800000 in
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).Φ t.castSucc = Phi0 V c t.val from rfl, show (dat0 V c).Φ t.succ = Phi0 V c (t.val + 1) from rfl]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  rw [show (dat0 V c).leavesExact 2 t = owns (c : Thread nD τ) (st0_2 t) fullShare ((dat0 V c).after 2 t) from rfl, after0_2]
  have hp := (atPoint0 t).2
  have e0 := ops0_q V c t
  have e1 := ops0_k V c t
  have e2 := ops0_vt V c t
  rw [owns_eq_hold c (st0_0 t) (hstage0_0 _), owns_eq_hold c (st0_1 t) (hstage0_1 _), owns_eq_hold c (st0_2 t) (hstage0_2 _)]
  unfold Phi0
  iintro ⟨⟨%m, %a, %hI, HS0, HS1, HR⟩, HO, ⟨%d0, H0⟩, ⟨%d1, H1⟩, ⟨%d2, H2⟩, ⟨%d3, H3⟩, ⟨%d4, H4⟩⟩
  have hst := Inv0.step _ hp m a hI
  have hnew := new_eq _ hp m a hI
  rw [e0, e1, e2] at hst hnew
  iapply (fwdRun c (grid0.coords t) (st0_0 t) (hstage0_0 _) (st0_1 t) (hstage0_1 _) (st0_2 t) (hstage0_2 _) (st0_3 t) (hstage0_3 _)
    (st0_4 t) (hstage0_4 _) (iblk0 V c 0 t) (iblk0 V c 1 t) (iblk0 V c 2 t) ((dat0 V c).before 3 t d3) ((dat0 V c).before 4 t d4) m a _)
  isplitl [H0]; · iexact H0
  isplitl [H1]; · iexact H1
  isplitl [H2]; · iexact H2
  isplitl [H3]
  · rw [← owns_eq_hold c (st0_3 t) (hstage0_3 _)]; iexact H3
  isplitl [H4]
  · rw [← owns_eq_hold c (st0_4 t) (hstage0_4 _)]; iexact H4
  isplitl [HS0]; · iexact HS0
  isplitl [HS1]; · iexact HS1
  iintro ⟨H0, H1, H2, H3, H4, HS0, HS1⟩
  isplitl [HS0 HS1 HR]
  · iexists _, _
    isplitr
    · ipureintro; exact hst
    isplitl [HS0]; · iexact HS0
    isplitl [HS1]; · iexact HS1
    iexact HR
  isplitl [HO]; · iexact HO
  isplitl [H0]; · iexact H0
  isplitl [H1]; · iexact H1
  isplitl [H2]; · iexact H2
  isplitl [H3]
  · iapply leaves0_3 V c t
    iexists d3
    rw [after0_3, show accAt V c t.val = _ from hnew.2.symm, owns_eq_hold c (st0_3 t) (hstage0_3 _)]
    iexact H3
  iapply leaves0_4 V c t
  iexists d4
  rw [after0_4, show accAt V c t.val = _ from hnew.2.symm, show mAt V c t.val = _ from hnew.1.symm, owns_eq_hold c (st0_4 t) (hstage0_4 _)]
  iexact H4

theorem row0 (t : Fin cfg0.N) : defs₀ (F := F) .tc cfg0.body (cfg0.bodyArgs t (cfg0.slots t)) = bodyAt0 t := by
  unfold defs₀; rw [Defs.onTc_tc]

theorem body0 (c : Dev nD) : BodyObligation (dat0 V c) (defs₀ (F := F)) Variants.none () Set.univ := fun t => by
  rw [bigSep_W0, bigSep_W0, row0]
  exact triple_restated (sound0 V c t) rfl .rfl fun _ => .rfl

end Cert.Proof

end
-- ==== Proof.Delta.lean ====
/-
  The call that sums `o · do` over the head's columns: what it leaves, from any contents of its operands.
-/
module

public import proofs.«01_k».proof.Proof.Fwd

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRef)
open Idealize.ShloMosaic.VecWindow (window put)

variable {F : FTy → Type} [FloatOps F] [Named F]

local notation "𝕄" => MT nD τ sig Unit (Elt F) ℕ UU ℕ

variable (V : Dev nD → Valuation τ sig (Elt F))

/-- Window `w`'s block at point `t`, of the contents the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (arrRef spec1 w)))

/-- The call's proof data. -/
def dat1 (c : Dev nD) : Dat τ (Elt F) Unit ℕ UU ℕ cfg1 c where
  A w := V c (Proc.devRef .tc (arrRef spec1 w))
  after w t := match w with
    | ⟨0, _⟩ => iblk1 V c 0 t
    | ⟨1, _⟩ => iblk1 V c 1 t
    | ⟨2, _⟩ => k1_pay1 (iblk1 V c 0 t) (iblk1 V c 1 t)
  Φ _ := Pipeline.scopedRest (Ix := Unit) (Name := ℕ) (U := UU) (Lvl := ℕ) (Val := Elt F) spec1 c
  q _ := fullShare
  owed _ := 0

theorem A1_eq (c : Dev nD) (w : Fin cfg1.W) : (dat1 V c).A w = V c (Proc.devRef .tc (arrRef spec1 w)) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]

/-- Each input's current staging buffer holds its block. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]) t d).trans
    (by unfold Dat.fetched Dat.blockOf iblk1; rw [A1_eq]; try rfl)

/-- What the body is called with at point `t`, window by window, and what it returns. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def post1 (c : Dev nD) (t : Fin cfg1.N) : sProp 𝕄 :=
  iprop((dat1 V c).Φ t.succ ∗ (dat1 V c).owesAt () t.succ ∗ (dat1 V c).leavesExact 0 t ∗ (dat1 V c).leavesExact 1 t ∗ (dat1 V c).leavesExact 2 t)

set_option maxHeartbeats 4800000 in
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1]
  rw [show (dat1 V c).Φ t.castSucc = (dat1 V c).Φ t.succ from rfl]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [owns_eq_hold c (st1_0 t) (hstage1_0 _), owns_eq_hold c (st1_1 t) (hstage1_1 _), owns_eq_hold c (st1_2 t) (hstage1_2 _)]
  iintro ⟨HR, HO, ⟨%d0, H0⟩, ⟨%d1, H1⟩, ⟨%d2, H2⟩⟩
  iapply (deltaRun c (grid1.coords t) (st1_0 t) (hstage1_0 _) (st1_1 t) (hstage1_1 _) (st1_2 t) (hstage1_2 _)
    (iblk1 V c 0 t) (iblk1 V c 1 t) ((dat1 V c).before 2 t d2) _)
  isplitl [H0]; · iexact H0
  isplitl [H1]; · iexact H1
  isplitl [H2]
  · rw [← owns_eq_hold c (st1_2 t) (hstage1_2 _)]; iexact H2
  iintro ⟨H0, H1, H2⟩
  isplitl [HR]; · iexact HR
  isplitl [HO]; · iexact HO
  isplitl [H0]; · iexact H0
  isplitl [H1]; · iexact H1
  iexact H2

theorem row1 (t : Fin cfg1.N) : defs₀ (F := F) .tc cfg1.body (cfg1.bodyArgs t (cfg1.slots t)) = bodyAt1 t := by
  unfold defs₀; rw [Defs.onTc_tc]

theorem body1 (c : Dev nD) : BodyObligation (dat1 V c) (defs₀ (F := F)) Variants.none () Set.univ := fun t => by
  rw [bigSep_W1, bigSep_W1, row1]
  exact triple_restated (sound1 V c t) rfl .rfl fun _ => .rfl

end Cert.Proof

end
-- ==== Proof.Run.lean ====
/-
  The whole program: its three calls in turn, from any launch memory.

  `U2`, `U4`, `U5` are the buffers' contents after each call; `run` says that every execution terminates with every
  buffer outside the calls' own at the last contents and every semaphore at zero. The frames and the values are both
  read off it.
-/
module

public import proofs.«01_k».proof.Proof.Delta
public import proofs.«01_k».proof.Proof.Gen.KernelIdeal.Regions
public import Idealize.ShloMosaic.Lib.Pipeline.RegionArraysS
public import Idealize.ShloMosaic.Lib.Pipeline.RegionArraysD

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg arrRef arrRefs afterRegion LevelCut ucRefs)

variable {F : FTy → Type} [FloatOps F] [Named F]

local notation "𝕄" => MT nD τ sig Unit (Elt F) ℕ UU ℕ

/-- A buffer that is no result window's array is left by a call as the call found it. -/
theorem afterRegion_keep {Λ : Labels} {cfg : Cfg sig Λ} {c : Dev nD} (dat : Dat τ (Elt F) Unit ℕ UU ℕ cfg c) (V : Valuation τ sig (Elt F))
    (hinj : Function.Injective (arrRef cfg.spec)) (hA : ∀ w, dat.A w = V (Proc.devRef .tc (arrRef cfg.spec w))) (x : DevRef τ sig)
    (h : ∀ w, x = Proc.devRef .tc (arrRef cfg.spec w) → (cfg.win w).isOut = false) : afterRegion dat V x = V x := by
  by_cases hx : ∃ w, x = Proc.devRef .tc (arrRef cfg.spec w)
  · obtain ⟨w, rfl⟩ := hx
    exact (Pipeline.afterRegion_arr dat V hinj w).trans ((dat.arrAt_in w (h w rfl) _).trans (hA w))
  · unfold afterRegion; rw [dif_neg hx]

variable (m : (ℓ : Loc nD τ sig) → Buf (Elt F) ℓ)

/-- The buffers after the forward call. -/
def U2 (c : Dev nD) : Valuation τ sig (Elt F) := afterRegion (dat0 (V1 m) c) (V1 m c)
/-- The contents the second call finds, and leaves. -/
def U3 (c : Dev nD) : Valuation τ sig (Elt F) := V3 m (fun _ r c => U2 m c r) c
def U4 (c : Dev nD) : Valuation τ sig (Elt F) := afterRegion (dat1 (U3 m) c) (U3 m c)
/-- The buffers after the backward call. -/
def U5 (c : Dev nD) : Valuation τ sig (Elt F) :=
  Function.update (Function.update (afterRegion (dat2 (U4 m) c) (U4 m c)) main_v18_1 (dkOut (U4 m) c)) main_v18_2 (dvOut (U4 m) c)

/-- What the calls leave, item by item. -/
def outs : Outs (F := F)
  | 2, r, c => U2 m c r
  | 4, r, c => U4 m c r
  | _, r, c => U5 m c r

theorem V2_eq (c : Dev nD) : V2 m (outs m) c = U2 m c := by
  funext x
  by_cases h1 : x = (Proc.devRef .tc main_v12_1 : DevRef τ sig)
  · subst h1; exact Function.update_self ..
  by_cases h0 : x = (Proc.devRef .tc main_v12_0 : DevRef τ sig)
  · subst h0; exact (Function.update_of_ne h1 _ _).trans (Function.update_self ..)
  refine (Function.update_of_ne h1 _ _).trans ((Function.update_of_ne h0 _ _).trans ?_)
  refine (afterRegion_keep (dat0 (V1 m) c) (V1 m c) launch0.win.arr_inj (A0_eq (V1 m) c) x fun w => ?_).symm
  match w with
  | ⟨0, _⟩ => exact fun _ => rfl
  | ⟨1, _⟩ => exact fun _ => rfl
  | ⟨2, _⟩ => exact fun _ => rfl
  | ⟨3, _⟩ => exact fun e => absurd e h0
  | ⟨4, _⟩ => exact fun e => absurd e h1

theorem V3_eq (c : Dev nD) : V3 m (outs m) c = U3 m c := by rfl

theorem V4_eq (c : Dev nD) : V4 m (outs m) c = U4 m c := by
  funext x
  by_cases h1 : x = (Proc.devRef .tc main_v17 : DevRef τ sig)
  · subst h1; exact Function.update_self ..
  refine (Function.update_of_ne h1 _ _).trans ?_
  refine (afterRegion_keep (dat1 (U3 m) c) (U3 m c) launch1.win.arr_inj (A1_eq (U3 m) c) x fun w => ?_).symm
  match w with
  | ⟨0, _⟩ => exact fun _ => rfl
  | ⟨1, _⟩ => exact fun _ => rfl
  | ⟨2, _⟩ => exact fun e => absurd e h1

/-- Off its three results the backward call changes nothing. -/
theorem U5_keep (c : Dev nD) (x : DevRef τ sig) (h0 : x ≠ Proc.devRef .tc main_v18_0) (h1 : x ≠ Proc.devRef .tc main_v18_1)
    (h2 : x ≠ Proc.devRef .tc main_v18_2) : U5 m c x = U4 m c x := by
  refine (Function.update_of_ne h2 _ _).trans ((Function.update_of_ne h1 _ _).trans ?_)
  refine afterRegion_keep (dat2 (U4 m) c) (U4 m c) launch2.win.arr_inj (A2_eq (U4 m) c) x fun w => ?_
  match w with
  | ⟨0, _⟩ => exact fun _ => rfl
  | ⟨1, _⟩ => exact fun _ => rfl
  | ⟨2, _⟩ => exact fun _ => rfl
  | ⟨3, _⟩ => exact fun _ => rfl
  | ⟨4, _⟩ => exact fun _ => rfl
  | ⟨5, _⟩ => exact fun _ => rfl
  | ⟨6, _⟩ => exact fun _ => rfl
  | ⟨7, _⟩ => exact fun e => absurd e h0

theorem U5_dk (c : Dev nD) : U5 m c main_v18_1 = dkOut (U4 m) c :=
  (Function.update_of_ne (StableHlo.devRef_ne_of_ne (by decide)) _ _).trans (Function.update_self ..)
theorem U5_dv (c : Dev nD) : U5 m c main_v18_2 = dvOut (U4 m) c := Function.update_self ..
theorem U5_arr (c : Dev nD) (w : Fin cfg2.W) : U5 m c (Proc.devRef .tc (arrRef spec2 w)) = (dat2 (U4 m) c).arrAt w cfg2.N := by
  refine (Function.update_of_ne ?_ _ _).trans ((Function.update_of_ne ?_ _ _).trans (Pipeline.afterRegion_arr (dat2 (U4 m) c) (U4 m c) launch2.win.arr_inj w))
  · exact StableHlo.devRef_ne_of_ne ((by decide : ∀ w, arrRef spec2 w ≠ main_v18_2) w)
  · exact StableHlo.devRef_ne_of_ne ((by decide : ∀ w, arrRef spec2 w ≠ main_v18_1) w)

theorem V5_eq (c : Dev nD) : V5 m (outs m) c = U5 m c := by
  funext x
  by_cases h2 : x = (Proc.devRef .tc main_v18_2 : DevRef τ sig)
  · subst h2; exact Function.update_self ..
  by_cases h1 : x = (Proc.devRef .tc main_v18_1 : DevRef τ sig)
  · subst h1; exact (Function.update_of_ne h2 _ _).trans (Function.update_self ..)
  by_cases h0 : x = (Proc.devRef .tc main_v18_0 : DevRef τ sig)
  · subst h0; exact (Function.update_of_ne h2 _ _).trans ((Function.update_of_ne h1 _ _).trans (Function.update_self ..))
  refine (Function.update_of_ne h2 _ _).trans ((Function.update_of_ne h1 _ _).trans ((Function.update_of_ne h0 _ _).trans ?_))
  exact (congrFun (V4_eq m c) x).trans (U5_keep m c x h0 h1 h2).symm

/-- The calls' proof data, at the contents each finds. -/
def pdats : (p : Fin 3) → (c : Dev nD) → Dat τ (Elt F) Unit ℕ UU ℕ (cfgs p) c
  | ⟨0, _⟩, c => dat0 (V1 m) c
  | ⟨1, _⟩, c => dat1 (U3 m) c
  | ⟨2, _⟩, c => dat2 (U4 m) c

/-- No semaphore is waited on out of order: one level for all. -/
def L : GSem nD τ sig → Finset Unit := fun g => if g.1.2 = .tc then {()} else ∅
def lv : GSem nD τ sig → Unit → ℕ := fun _ _ => 0

theorem cut (p : Fin 3) : LevelCut (pcfgs (F := F)) adm () L lv p (fun _ => 0) (fun _ => 0) where
  hι c w s := by simp [L]
  hιb c w s := le_refl _
  hD c g i h := absurd h (lt_irrefl _)

/-- What rides beside the buffers between items: the generator's register, and nothing owed. -/
def E (_ : Fin 4) (c : Dev nD) : sProp 𝕄 := iprop((∃ r, prngReg c r) ∗ ∃ W, owes (c : Thread nD τ) 0 W)

/-- The scoped buffers at the forward call's first point. -/
theorem in0 (c : Dev nD) :
    (iprop(Pipeline.scopedRest (Ix := Unit) (Name := ℕ) (U := UU) (Lvl := ℕ) (Val := Elt F) spec0 c ∗ emp) : sProp 𝕄) ⊢ Phi0 (V1 m) c 0 := by
  rw [scopedRest0_split]
  unfold Phi0
  iintro ⟨⟨⟨⟨%f0, H0⟩, ⟨%f1, H1⟩⟩, HR⟩, -⟩
  iexists f0, f1
  isplitr
  · ipureintro; exact fun h => absurd rfl h
  isplitl [H0]
  · iexists f0; isplitr; · ipureintro; rfl
    iexact H0
  isplitl [H1]
  · iexists f1; isplitr; · ipureintro; rfl
    iexact H1
  iexact HR

theorem out0 (c : Dev nD) (n : ℕ) :
    Phi0 (V1 m) c n ⊢ (iprop(Pipeline.scopedRest (Ix := Unit) (Name := ℕ) (U := UU) (Lvl := ℕ) (Val := Elt F) spec0 c ∗ emp) : sProp 𝕄) := by
  rw [scopedRest0_split]
  unfold Phi0
  iintro ⟨%m, %a, -, ⟨%f0, -, H0⟩, ⟨%f1, -, H1⟩, HR⟩
  isplitl
  · isplitr [HR]
    · isplitl [H0]
      · iexists f0; iexact H0
      iexists f1; iexact H1
    iexact HR
  iempintro

/-- The backward kernel's two semaphores. -/
def osem2 : Fin 2 → SemLoc sig := ![.dma 32, .dma 33]

theorem ownSems2 (c : Dev nD) :
    (Pipeline.ownSems0 (Ix := Unit) (Name := ℕ) (U := UU) (Lvl := ℕ) (Val := Elt F) (τ := τ) osem2 c : sProp 𝕄)
      = iprop(semVal ((c : Thread nD τ), .dma 32) 0 ∗ semVal ((c : Thread nD τ), .dma 33) 0) :=
  Pipeline.ownSems0_eq_of_list c osem2 [(0 : Fin 2), (1 : Fin 2)] (by decide) (by decide)

theorem scopedRest2_split (c : Dev nD) :
    (Pipeline.scopedRest (Ix := Unit) (Name := ℕ) (U := UU) (Lvl := ℕ) (Val := Elt F) spec2 c : sProp 𝕄)
      = iprop(iprop((∃ f : Buf (Elt F) ((c : Thread nD τ).loc cc2_scratch0), ((c : Thread nD τ).loc cc2_scratch0) ↦{fullShare} f)
            ∗ (∃ f : Buf (Elt F) ((c : Thread nD τ).loc cc2_scratch1), ((c : Thread nD τ).loc cc2_scratch1) ↦{fullShare} f)
            ∗ (∃ f : Buf (Elt F) ((c : Thread nD τ).loc cc2_scratch2), ((c : Thread nD τ).loc cc2_scratch2) ↦{fullShare} f))
          ∗ Pipeline.scopedRestBut (Ix := Unit) (Name := ℕ) (U := UU) (Lvl := ℕ) (Val := Elt F) spec2 c [cc2_scratch0, cc2_scratch1, cc2_scratch2]) :=
  Pipeline.scopedRest_split_of_list spec2 c [cc2_scratch0, cc2_scratch1, cc2_scratch2] (by decide) (by decide)

/-- The two results the backward kernel copies itself. -/
def Rw2 : Finset (Ref sig .tc) := {main_v18_1, main_v18_2}

theorem bigSep_Rw2 (Φ : Ref sig .tc → sProp 𝕄) : bigSep Rw2 Φ = iprop(Φ main_v18_1 ∗ Φ main_v18_2) := by
  unfold Rw2
  rw [bigSep_insert (by decide), bigSep_singleton]
  rfl

theorem in2 (c : Dev nD) :
    (iprop(Pipeline.scopedRest (Ix := Unit) (Name := ℕ) (U := UU) (Lvl := ℕ) (Val := Elt F) spec2 c ∗ (∃ r, prngReg c r)
        ∗ Pipeline.ownSems0 (Ix := Unit) (Name := ℕ) (U := UU) (Lvl := ℕ) (Val := Elt F) (τ := τ) osem2 c
        ∗ (bigSep (∅ : Finset (Ref sig .tc)) fun b => ((c.tc : Thread nD τ).loc b) ↦{fullShare} U4 m c (Proc.devRef .tc b))
        ∗ (bigSep Rw2 fun b => ((c.tc : Thread nD τ).loc b) ↦{fullShare} U4 m c (Proc.devRef .tc b))
        ∗ Transfers.MayWaits (c : Thread nD τ) () 0) : sProp 𝕄) ⊢ Phi2 (U4 m) c 0 := by
  rw [scopedRest2_split, ownSems2, bigSep_Rw2]
  unfold Phi2 others2
  iintro ⟨⟨⟨⟨%f0, H0⟩, ⟨%f1, H1⟩, ⟨%f2, H2⟩⟩, HR⟩, HP, ⟨HD0, HD1⟩, -, ⟨HG1, HG2⟩, -⟩
  iexists f0, f1, f2, (U4 m c main_v18_1), (U4 m c main_v18_2)
  isplitr
  · ipureintro; exact Inv.zero _ _ _ _ _ _
  isplitl [HG1]
  · iexists _; isplitr; swap; (· iexact HG1); ipureintro; rfl
  isplitl [HG2]
  · iexists _; isplitr; swap; (· iexact HG2); ipureintro; rfl
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HD0]; · iexact HD0
  isplitl [HD1]; · iexact HD1
  isplitl [HR]; · iexact HR
  iexact HP

theorem out2 (c : Dev nD) :
    Phi2 (U4 m) c 1024 ⊢
    (iprop(Pipeline.scopedRest (Ix := Unit) (Name := ℕ) (U := UU) (Lvl := ℕ) (Val := Elt F) spec2 c ∗ (∃ r, prngReg c r)
        ∗ Pipeline.ownSems0 (Ix := Unit) (Name := ℕ) (U := UU) (Lvl := ℕ) (Val := Elt F) (τ := τ) osem2 c
        ∗ (bigSep (∅ : Finset (Ref sig .tc)) fun b => ((c.tc : Thread nD τ).loc b) ↦{fullShare} U4 m c (Proc.devRef .tc b))
        ∗ (bigSep Rw2 fun b => ((c.tc : Thread nD τ).loc b) ↦{fullShare} U5 m c (Proc.devRef .tc b))) : sProp 𝕄) := by
  rw [scopedRest2_split, ownSems2, bigSep_Rw2, bigSep_empty]
  unfold Phi2 others2
  iintro ⟨%s0, %s1, %s2, %g1, %g2, %hI, ⟨%h1, %e1, HG1⟩, ⟨%h2, %e2, HG2⟩, ⟨%f0, -, H0⟩, ⟨%f1, -, H1⟩, ⟨%f2, -, H2⟩, HD0, HD1, HR, HP⟩
  have d1 : h1 = U5 m c main_v18_1 := by
    rw [U5_dk]; exact (show h1 = g1 from e1).trans hI.dkOut.all
  have d2 : h2 = U5 m c main_v18_2 := by
    rw [U5_dv]; exact (show h2 = g2 from e2).trans hI.dvOut.all
  subst d1 d2
  isplitl [H0 H1 H2 HR]
  · isplitr [HR]
    · isplitl [H0]
      · iexists f0; iexact H0
      isplitl [H1]
      · iexists f1; iexact H1
      iexists f2; iexact H2
    iexact HR
  isplitl [HP]; · iexact HP
  isplitl [HD0 HD1]
  · isplitl [HD0]; · iexact HD0
    iexact HD1
  isplitr
  · iempintro
  isplitl [HG1]; · iexact HG1
  iexact HG2

end Cert.Proof

end
-- ==== Proof.Whole.lean ====
/-
  The three calls as segments of the program, and the program's run.
-/
module

public import proofs.«01_k».proof.Proof.Run

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg arrRef arrRefs afterRegion LevelCut ucRefs)

variable {F : FTy → Type} [FloatOps F] [Named F]

local notation "𝕄" => MT nD τ sig Unit (Elt F) ℕ UU ℕ

variable (m : (ℓ : Loc nD τ sig) → Buf (Elt F) ℓ)

theorem share_full {Λ : Labels} {cfg : Cfg sig Λ} {c : Dev nD} (dat : Dat τ (Elt F) Unit ℕ UU ℕ cfg c) (h : ∀ w, dat.q w = fullShare) (w : Fin cfg.W) :
    dat.share w = fullShare := by
  unfold Dat.share; rw [h w, ite_self]

set_option backward.isDefEq.respectTransparency.types false in
/-- The forward call. -/
def R0 : RegionSeg (pcfgs (F := F)) adm (pdats m) () defs₀ Variants.none L lv 0 :=
  RegionSeg.ofHeldIn (pcfgs (F := F)) adm (pdats m) () defs₀ Variants.none L lv 0 (fun _ => 0) (ucRefs τ sig) (fun _ => iprop(emp)) (fun _ => iprop(emp))
    launch0.toP rfl (fun c => (body0 (V1 m) c).loose) (fun _ _ => rfl) (fun _ => rfl) (fun c w => share_full (dat0 (V1 m) c) (fun _ => rfl) w)
    (fun c => in0 m c) (fun c => out0 m c _) (fun _ => 0) (cut 0) (fun c => iprop(∃ r, prngReg c r)) (V1 m) (fun c w => A0_eq (V1 m) c w)

theorem in1 (c : Dev nD) :
    (iprop(Pipeline.scopedRest (Ix := Unit) (Name := ℕ) (U := UU) (Lvl := ℕ) (Val := Elt F) spec1 c ∗ emp) : sProp 𝕄)
      ⊢ Pipeline.scopedRest (Ix := Unit) (Name := ℕ) (U := UU) (Lvl := ℕ) (Val := Elt F) spec1 c := by
  iintro ⟨H, -⟩; iexact H
theorem out1 (c : Dev nD) :
    (Pipeline.scopedRest (Ix := Unit) (Name := ℕ) (U := UU) (Lvl := ℕ) (Val := Elt F) spec1 c : sProp 𝕄)
      ⊢ iprop(Pipeline.scopedRest (Ix := Unit) (Name := ℕ) (U := UU) (Lvl := ℕ) (Val := Elt F) spec1 c ∗ emp) := by
  iintro H
  isplitl
  · iexact H
  iempintro

set_option backward.isDefEq.respectTransparency.types false in
/-- The call that sums `o · do`. -/
def R1 : RegionSeg (pcfgs (F := F)) adm (pdats m) () defs₀ Variants.none L lv 1 :=
  RegionSeg.ofHeldIn (pcfgs (F := F)) adm (pdats m) () defs₀ Variants.none L lv 1 (fun _ => 0) (ucRefs τ sig) (fun _ => iprop(emp)) (fun _ => iprop(emp))
    launch1.toP rfl (fun c => (body1 (U3 m) c).loose) (fun _ _ => rfl) (fun _ => rfl) (fun c w => share_full (dat1 (U3 m) c) (fun _ => rfl) w)
    (fun c => in1 c) (fun c => out1 c) (fun _ => 0) (cut 1) (fun c => iprop(∃ r, prngReg c r)) (U3 m) (fun c w => A1_eq (U3 m) c w)

/-- The other buffers of the backward call. -/
def Sr2 : Finset (DevRef τ sig) := ucRefs τ sig \ arrRefs spec2

theorem own2 : Pipeline.OwnSemFacts (sig := sig) spec2 osem2 := by decide

theorem Rw2_sub : Pipeline.hbmRefs (τ := τ) Rw2 ⊆ Sr2 \ Pipeline.hbmRefs (τ := τ) ∅ := by decide

theorem Rw2_off (c : Dev nD) (b : DevRef τ sig) (hb : b ∈ Sr2 \ Pipeline.hbmRefs (τ := τ) Rw2) : U5 m c b = U4 m c b := by
  obtain ⟨h1, h2⟩ := Finset.mem_sdiff.mp hb
  refine U5_keep m c b ?_ ?_ ?_
  · rintro rfl; exact (Finset.mem_sdiff.mp h1).2 (by decide)
  · rintro rfl; exact h2 (by decide)
  · rintro rfl; exact h2 (by decide)

set_option backward.isDefEq.respectTransparency.types false in
/-- The backward call. -/
def R2 : RegionSeg (pcfgs (F := F)) adm (pdats m) () defs₀ Variants.none L lv 2 :=
  RegionSeg.ofHeldDW (pcfgs (F := F)) adm (pdats m) () defs₀ Variants.none L lv 2 (fun _ => 0) () osem2 own2 ∅ Rw2 Sr2 (Finset.empty_subset _) Rw2_sub
    launch2.toP rfl (fun c => (body2 (U4 m) c).loose) (fun _ _ => rfl) (fun _ => rfl) (fun c w => share_full (dat2 (U4 m) c) (fun _ => rfl) w)
    (fun c => by iintro -; iapply (Transfers.MayWaits.zero c ()); iempintro) (U4 m) (U5 m) (fun c b hb => Rw2_off m c b hb)
    (fun c => in2 m c) (fun c => out2 m c) (fun _ => 0) (cut 2) (fun _ => iprop(emp)) (fun c w => A2_eq (U4 m) c w) (fun c w => (U5_arr m c w).symm)

theorem arrs0 : arrRefs (τ := τ) spec0 ⊆ ucRefs τ sig := Pipeline.arrRefs_sub_ucRefs spec0 (by decide)
theorem arrs1 : arrRefs (τ := τ) spec1 ⊆ ucRefs τ sig := Pipeline.arrRefs_sub_ucRefs spec1 (by decide)
theorem arrs2 : arrRefs (τ := τ) spec2 ⊆ ucRefs τ sig := Pipeline.arrRefs_sub_ucRefs spec2 (by decide)

theorem pre0_in (c : Dev nD) : iprop(StableHlo.held (c : Thread nD τ) (ucRefs τ sig) (V1 m c) ∗ E (F := F) 0 c) ⊢ (R0 m).pre c := by
  refine BIBase.Entails.trans ?_ (RegionSeg.ofHeldIn_pre arrs0 c)
  unfold E
  iintro ⟨H, HP, HO⟩
  isplitl [H]; · iexact H
  isplitl [HO]; · iexact HO
  isplitr; · iempintro
  iexact HP

theorem post0_out (c : Dev nD) : (R0 m).post c ⊢ iprop(StableHlo.held (c : Thread nD τ) (ucRefs τ sig) (V2 m (outs m) c) ∗ E (F := F) 1 c) := by
  refine BIBase.Entails.trans (RegionSeg.ofHeldIn_post arrs0 c) ?_
  rw [V2_eq]
  unfold E
  iintro ⟨H, HO, -, HP⟩
  isplitl [H]; · iexact H
  isplitl [HP]; · iexact HP
  iexact HO

theorem pre1_in (c : Dev nD) : iprop(StableHlo.held (c : Thread nD τ) (ucRefs τ sig) (V3 m (outs m) c) ∗ E (F := F) 1 c) ⊢ (R1 m).pre c := by
  refine BIBase.Entails.trans ?_ (RegionSeg.ofHeldIn_pre arrs1 c)
  rw [V3_eq]
  unfold E
  iintro ⟨H, HP, HO⟩
  isplitl [H]; · iexact H
  isplitl [HO]; · iexact HO
  isplitr; · iempintro
  iexact HP

theorem post1_out (c : Dev nD) : (R1 m).post c ⊢ iprop(StableHlo.held (c : Thread nD τ) (ucRefs τ sig) (V4 m (outs m) c) ∗ E (F := F) 2 c) := by
  refine BIBase.Entails.trans (RegionSeg.ofHeldIn_post arrs1 c) ?_
  rw [V4_eq]
  unfold E
  iintro ⟨H, HO, -, HP⟩
  isplitl [H]; · iexact H
  isplitl [HP]; · iexact HP
  iexact HO

theorem pre2_in (c : Dev nD) : iprop(StableHlo.held (c : Thread nD τ) (ucRefs τ sig) (V4 m (outs m) c) ∗ E (F := F) 2 c) ⊢ (R2 m).pre c := by
  refine BIBase.Entails.trans ?_ (show iprop(StableHlo.held (c.tc : Thread nD τ) (arrRefs spec2) (U4 m c) ∗ (∃ r, prngReg c r)
    ∗ (StableHlo.held (c.tc : Thread nD τ) Sr2 (U4 m c) ∗ emp) ∗ ∃ Wd, owes (c : Thread nD τ) 0 Wd) ⊢ (R2 m).pre c from .rfl)
  rw [V4_eq, StableHlo.held_sub_split (c.tc : Thread nD τ) arrs2 (U4 m c)]
  unfold E Sr2
  iintro ⟨⟨Ha, Hu⟩, HP, HO⟩
  isplitl [Ha]; · iexact Ha
  isplitl [HP]; · iexact HP
  isplitl [Hu]
  · isplitl; · iexact Hu
    iempintro
  iexact HO

theorem post2_out (c : Dev nD) : (R2 m).post c ⊢ iprop(StableHlo.held (c : Thread nD τ) (ucRefs τ sig) (V5 m (outs m) c) ∗ E (F := F) 3 c) := by
  refine BIBase.Entails.trans (show (R2 m).post c ⊢ iprop(StableHlo.held (c.tc : Thread nD τ) (arrRefs spec2) (U5 m c) ∗ (∃ r, prngReg c r)
    ∗ (StableHlo.held (c.tc : Thread nD τ) Sr2 (U5 m c) ∗ emp) ∗ ∃ Wd, owes (c : Thread nD τ) 0 Wd) from .rfl) ?_
  rw [V5_eq, StableHlo.held_sub_split (c.tc : Thread nD τ) arrs2 (U5 m c)]
  unfold E Sr2
  iintro ⟨Ha, HP, ⟨Hu, -⟩, HO⟩
  isplitl [Ha Hu]
  · isplitl [Ha]; · iexact Ha
    iexact Hu
  isplitl [HP]; · iexact HP
  iexact HO

/-- What the launch hands each core makes the first rest. -/
theorem launchE1 (ρ : Dev nD → PrngReg) (c : Dev nD) :
    (iprop(unscopedSems0 c ∗ owes (c : Thread nD τ) 0 ∅ ∗ Pipeline.launchCred (fun _ => 0) c ∗ prngReg c (ρ c) ∗ emp) : sProp 𝕄) ⊢ E (F := F) 0 c := by
  unfold E
  iintro ⟨-, HO, -, HP, -⟩
  isplitl [HP]
  · iexists _; iexact HP
  iexists _; iexact HO

theorem launchE (ρ : Dev nD → PrngReg) :
    (iprop((bigSep Finset.univ fun c : Dev nD => iprop(unscopedSems0 c ∗ owes (c : Thread nD τ) 0 ∅ ∗ Pipeline.launchCred (fun _ => 0) c ∗ prngReg c (ρ c) ∗ emp)) ∗ levAts L lv) : sProp 𝕄)
      ⊢ |={Set.univ}=> bigSep Finset.univ (E (F := F) 0) := by
  have h : (bigSep Finset.univ fun c : Dev nD => iprop(unscopedSems0 c ∗ owes (c : Thread nD τ) 0 ∅ ∗ Pipeline.launchCred (fun _ => 0) c ∗ prngReg c (ρ c) ∗ emp))
      ⊢ (bigSep Finset.univ (E (F := F) 0) : sProp 𝕄) := bigSep_mono fun c _ => launchE1 ρ c
  iintro ⟨H, -⟩
  imodintro
  iapply h
  iexact H

/-- The launch's ghost state: the pipelines' own. -/
theorem launchU :
    (ownU ((initOf (Pipeline.cells cfgs cellOf_inj) (Pipeline.launchToks cfgs cellOf_inj), 1) : UU) : sProp 𝕄)
      ⊢ |={Set.univ}=> iprop(BI.own (embL (initOf (Pipeline.cells cfgs cellOf_inj) (Pipeline.launchToks cfgs cellOf_inj))) ∗ bigSep Finset.univ (fun _ : Dev nD => (BI.emp : sProp 𝕄))) := by
  iintro Hu
  ihave H' := (ownU_pair _ _) $$ Hu
  icases H' with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

set_option backward.isDefEq.respectTransparency.types false in
/-- Every execution from memory `m` terminates, every buffer outside the calls' own at the last contents and every
    semaphore at zero. -/
theorem run (ρ : Dev nD → PrngReg) :
    θ_run defs (onTc (τ := τ) (main (F := F))) ⟨m, fun _ => 0, ρ⟩ (fun r =>
      (∀ c : Dev nD, ∀ b ∈ ucRefs τ sig, r.2.mem (c, b) = V6 m (outs m) c b) ∧ r.2.sem = fun _ => 0) := by
  refine Pipeline.θ_run_regions_kit_dev_sems (pcfgs (F := F)) adm (pdats m) () cellOf_inj embL defs₀ Variants.none L lv m ρ main
    (segs m (outs m) Variants.none L lv (E (F := F)) () (pdats m) (R0 m) (R1 m) (R2 m))
    (fun c Q => by
      rewrite [main_chain c, Seg.run_eq_chain,
        show (segs m (outs m) Variants.none L lv (E (F := F)) () (pdats m) (R0 m) (R1 m) (R2 m) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g hg => by unfold L; rw [if_neg hg]) (fun _ => iprop(emp)) _ launchU
    (T₀ := fun c => iprop(StableHlo.held (c : Thread nD τ) (ucRefs τ sig) (V0 m c) ∗ E (F := F) 0 c))
    (Tₙ := fun c => StableHlo.held (c : Thread nD τ) (ucRefs τ sig) (V6 m (outs m) c))
    (hch := fun c => ⟨.rfl, pre0_in m c, post0_out m c, pre1_in m c, (post1_out m c).trans (pre2_in m c), post2_out m c, sep_mono .rfl (by
      unfold E; iintro ⟨-, H⟩; iexact H)⟩)
    (hinit := ?_) (QY := fun c s => ∀ b ∈ ucRefs τ sig, s.mem (c, b) = V6 m (outs m) c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) 0 ∅ ∗ Pipeline.launchCred (fun _ => 0) c ∗ prngReg c (ρ c) ∗ emp))
        ⊢ (iprop((bigSep Finset.univ fun c : Dev nD => StableHlo.held (c : Thread nD τ) (ucRefs τ sig) (V0 m c))
            ∗ bigSep Finset.univ fun c : Dev nD => iprop(unscopedSems0 c ∗ owes (c : Thread nD τ) 0 ∅ ∗ Pipeline.launchCred (fun _ => 0) c ∗ prngReg c (ρ c) ∗ emp)) : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launchE ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (ucRefs τ sig) (fun b => ((c : Thread nD τ).1, b)) (V6 m (outs m) c) s') $$ [Hh HSI]
    · isplitl [Hh] <;> iassumption
    icases Hr with ⟨%h, HSI⟩
    imodintro
    isplitr
    · ipureintro; exact h
    · iexact HSI

/-- An unscoped buffer of the core's. -/
theorem mem_uc (r : Ref sig .tc) (h : r.isScoped = false) : (Proc.devRef .tc r : DevRef τ sig) ∈ ucRefs τ sig :=
  Finset.mem_filter.mpr ⟨StableHlo.devRef_mem_tcRefs r, fun h' => Bool.false_ne_true (h.symm.trans h')⟩

end Cert.Proof

end
-- ==== Proof.Frames.lean ====
/-
  The frames of the three programs and the named constants.

  The kernel's run (`Whole.lean`) is stated once, over any float values. At the extended reals it is the frame of the
  idealized kernel; at the bit patterns, with every named constant read as its pattern, the same program is the kernel as
  written, and the run is its frame. The reference's frame is its generated run.
-/
module

public import proofs.«01_k».proof.Defs
public import proofs.«01_k».proof.Proof.Gen.Kernel
public import proofs.«01_k».proof.Proof.Gen.ReferenceIdeal.Run
public import proofs.«01_k».proof.Proof.Whole
public import Idealize.ShloMosaic.Lib.Quiescent

@[expose] public section

noncomputable section

open Idealize.ShloMosaic Idealize.ShloMosaic.TcCoe Idealize.SL.Sem

namespace Cert.Frames

open Cert.KernelIdeal Cert.KernelIdeal.Gen

/-- Over any float values the kernel terminates, its four arguments end as they began, and every counter ends at zero. -/
theorem kernelRun {F : FTy → Type} [FloatOps F] [Named F] (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (Proof.mem_uc main_arg0 rfl)).trans (V6_main_arg0 m (Proof.outs m) c),
        (h.1 c _ (Proof.mem_uc main_arg1 rfl)).trans (V6_main_arg1 m (Proof.outs m) c),
        (h.1 c _ (Proof.mem_uc main_arg2 rfl)).trans (V6_main_arg2 m (Proof.outs m) c),
        (h.1 c _ (Proof.mem_uc main_arg3 rfl)).trans (V6_main_arg3 m (Proof.outs m) c)⟩, h.2⟩)
    (Proof.run m ρ)

/-- The idealized kernel's frame: the run at the extended reals. -/
theorem frame_pi : Cert.quiescent_KernelIdeal := fun m ρ _ => kernelRun (F := Ideal) m ρ

/-- At the bit patterns a named constant is its pattern. -/
local instance patterns : Named Bits := ⟨fun _ _ _ b => FloatOps.ofBits _ b⟩

set_option maxRecDepth 16384

set_option maxHeartbeats 2000000 in
/-- The three calls' bodies are the same text, the names read as their patterns. -/
theorem fwd_eq : @Cert.Kernel.cc0_mla_fwd Bits _ Cert.Kernel.Gen.facts = @cc0_mla_fwd Bits _ _ facts := rfl

set_option maxHeartbeats 2000000 in
theorem delta_eq : @Cert.Kernel.cc1_mla_delta Bits _ Cert.Kernel.Gen.facts = @cc1_mla_delta Bits _ facts := rfl

set_option maxHeartbeats 2000000 in
theorem bwd_eq : @Cert.Kernel.cc2_mla_bwd Bits _ Cert.Kernel.Gen.facts = @cc2_mla_bwd Bits _ _ facts := rfl

set_option maxHeartbeats 2000000 in
theorem main_eq : Cert.Kernel.main (F := Bits) = main (F := Bits) := rfl

set_option maxHeartbeats 2000000 in
theorem bodies_eq : Cert.Kernel.defs₀ (F := Bits) = defs₀ (F := Bits) := by
  unfold Cert.Kernel.defs₀ defs₀
  rewrite [fwd_eq, delta_eq, bwd_eq]
  refine congrArg Defs.onTc (funext fun l => ?_)
  revert l
  refine Fin.forall_fin_succ.mpr ⟨?_, Fin.forall_fin_succ.mpr ⟨?_, Fin.forall_fin_succ.mpr ⟨?_, fun l => l.elim0⟩⟩⟩ <;>
    exact funext fun ⟨_, _⟩ => rfl

set_option maxHeartbeats 2000000 in
theorem defs_eq : Cert.Kernel.defs (F := Bits) = defs (F := Bits) := by
  unfold Cert.Kernel.defs
  rewrite [bodies_eq]
  rfl

set_option maxHeartbeats 2000000 in
/-- The kernel's frame: the run at the bit patterns. -/
theorem frame_p : Cert.quiescent_Kernel := fun m ρ _ => by
  rewrite [defs_eq, main_eq]
  exact kernelRun (F := Bits) m ρ

/-- The reference's frame. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- Each named constant is the real the certificate's table gives it. -/
theorem preserves : Cert.preserves_Kernel_KernelIdeal :=
  ⟨IdealRules.named_const.statement Cert.KernelIdeal.κ "scale_log2e" .f32 0x3E16C740#32 _ rfl,
    IdealRules.named_const.statement Cert.KernelIdeal.κ "inv_ln2" .f32 0x3FB8AA3B#32 _ rfl,
    IdealRules.named_const.statement Cert.KernelIdeal.κ "scale" .f32 0x3DD105EC#32 _ rfl⟩

end Cert.Frames

end
-- ==== Proof.Spec.lean ====
/-
  Softmax attention and its three gradients over the real numbers, and the two facts the proof uses of
  them: a softmax does not change when every score is shifted, and its gradient in the form `P · (dP − D)`.
-/
module

public import Mathlib.Analysis.SpecialFunctions.Log.Basic
public import Mathlib.Analysis.SpecialFunctions.Pow.Real
public import Mathlib.Data.EReal.Operations
public import Mathlib.Data.EReal.Inv

@[expose] public section

noncomputable section

namespace Cert.Spec

/-- Rows (queries or keys), heads, and a head's columns. -/
abbrev Rows := Fin 16384
abbrev Heads := Fin 8

variable (q k : Rows → Heads → Fin 96 → ℝ) (v : Rows → Heads → Fin 64 → ℝ) (y : Heads → Fin 64 → Rows → ℝ)

/-- A query row times a key row. -/
def score (h : Heads) (r t : Rows) : ℝ := ∑ d, q r h d * k t h d
/-- The scale `1/√96`. -/
def sc : ℝ := (√96)⁻¹
/-- The softmax's exponentials, with nothing subtracted. -/
def w (h : Heads) (r t : Rows) : ℝ := Real.exp (score q k h r t * sc)
/-- Their sum over the keys. -/
def Z (h : Heads) (r : Rows) : ℝ := ∑ t, w q k h r t
/-- The softmax. -/
def P (h : Heads) (r t : Rows) : ℝ := w q k h r t / Z q k h r
/-- The output. -/
def O (h : Heads) (d : Fin 64) (r : Rows) : ℝ := ∑ t, v t h d * P q k h r t
/-- The gradient of the softmax's result. -/
def dP (h : Heads) (r t : Rows) : ℝ := ∑ d, y h d r * v t h d
/-- The row's sum of `dP · P`. -/
def D (h : Heads) (r : Rows) : ℝ := ∑ t, dP v y h r t * P q k h r t
/-- The gradient of the scaled scores. -/
def dS (h : Heads) (r t : Rows) : ℝ := P q k h r t * (dP v y h r t - D q k v y h r)
/-- The gradients of the three operands. -/
def dQ (r : Rows) (h : Heads) (d : Fin 96) : ℝ := (∑ t, dS q k v y h r t * k t h d) * sc
def dK (t : Rows) (h : Heads) (d : Fin 96) : ℝ := (∑ r, dS q k v y h r t * q r h d) * sc
def dV (t : Rows) (h : Heads) (d : Fin 64) : ℝ := ∑ r, y h d r * P q k h r t

theorem Z_pos (h : Heads) (r : Rows) : 0 < Z q k h r :=
  Finset.sum_pos (fun _ _ => Real.exp_pos _) ⟨0, Finset.mem_univ _⟩

/-- `D` is the output times its gradient, summed over the head's columns. -/
theorem D_eq (h : Heads) (r : Rows) : D q k v y h r = ∑ d, O q k v h d r * y h d r := by
  simp only [D, dP, O, Finset.sum_mul]
  rw [Finset.sum_comm]
  exact Finset.sum_congr rfl fun _ _ => Finset.sum_congr rfl fun _ _ => by ring

/-! ### With the scores shifted by `M` -/

variable (M : Heads → Rows → ℝ)

/-- The exponentials of the shifted scores, and their sum. -/
def E (h : Heads) (r t : Rows) : ℝ := Real.exp (score q k h r t * sc - M h r)
def L (h : Heads) (r : Rows) : ℝ := ∑ t, E q k M h r t

theorem E_eq (h : Heads) (r t : Rows) : E q k M h r t = w q k h r t * (Real.exp (M h r))⁻¹ := by
  rw [E, Real.exp_sub, div_eq_mul_inv, w]
theorem L_eq (h : Heads) (r : Rows) : L q k M h r = Z q k h r * (Real.exp (M h r))⁻¹ := by
  simp only [L, E_eq, Z, Finset.sum_mul]
theorem L_pos (h : Heads) (r : Rows) : 0 < L q k M h r := by
  rw [L_eq]; exact mul_pos (Z_pos q k h r) (inv_pos.2 (Real.exp_pos _))
theorem P_eq (h : Heads) (r t : Rows) : E q k M h r t * (1 / L q k M h r) = P q k h r t := by
  have h1 := (Real.exp_pos (M h r)).ne'
  have h2 := (Z_pos q k h r).ne'
  rw [E_eq, L_eq, P]; field_simp

/-- A softmax's gradient as differentiation leaves it, with the shifted exponentials. -/
theorem dS_eq (h : Heads) (r t : Rows) :
    (dP v y h r t * (1 / L q k M h r) + -(∑ u, dP v y h r u * (1 * (1 / (L q k M h r * L q k M h r))) * E q k M h r u)) * E q k M h r t
      = dS q k v y h r t := by
  have hD : (∑ u, dP v y h r u * (1 * (1 / (L q k M h r * L q k M h r))) * E q k M h r u) = D q k v y h r * (1 / L q k M h r) := by
    rw [D, Finset.sum_mul]
    refine Finset.sum_congr rfl fun u _ => ?_
    rw [← P_eq q k M]
    have := (L_pos q k M h r).ne'
    field_simp
  rw [hD, dS, ← P_eq q k M]; ring

end Cert.Spec

end
-- ==== Proof.Consts.lean ====
/-
  The constants both programs name or write, as extended real numbers, and finite sums and maxima of real numbers there.
-/
module

public import proofs.«01_k».proof.Proof.Gen.KernelIdeal
public import Idealize.ShloMosaic.Lib.ValueIdx
public import Idealize.ShloMosaic.PureOps.Ideal.Laws
public import Idealize.ShloMosaic.PureOps.IdealRules
public import proofs.«01_k».proof.Proof.Spec

@[expose] public section

noncomputable section

namespace Cert.Consts

open Idealize.ShloMosaic

/-- 96. -/
theorem w96 : Ideal.ofBits .f32 0x42C00000#32 = ((96 : ℝ) : EReal) := by
  simp [Ideal.ofBits, Ideal.ieee, -EReal.coe_mul]; norm_num
/-- 1. -/
theorem one : Ideal.ofBits .f32 0x3F800000#32 = ((1 : ℝ) : EReal) := by
  simp [Ideal.ofBits, Ideal.ieee, -EReal.coe_mul]; norm_num
/-- −∞. -/
theorem ninf : Ideal.ofBits .f32 0xFF800000#32 = ⊥ := by
  simp [Ideal.ofBits, Ideal.ieee, -EReal.coe_mul]
/-- +∞. -/
theorem pinf : Ideal.ofBits .f32 0x7F800000#32 = ⊤ := by
  simp [Ideal.ofBits, Ideal.ieee, -EReal.coe_mul]
/-- 0. -/
theorem zero : Ideal.ofBits .f32 0x00000000#32 = ((0 : ℝ) : EReal) := by
  simp [Ideal.ofBits, Ideal.ieee, -EReal.coe_mul]
/-- The running maximum's start, a finite number. -/
theorem neg : ∃ M : ℝ, Ideal.ofBits .f32 0xF149F2CA#32 = (M : EReal) := by
  refine ⟨(Ideal.ofBits .f32 0xF149F2CA#32).toReal, (EReal.coe_toReal ?_ ?_).symm⟩ <;> simp [Ideal.ofBits, Ideal.ieee, -EReal.coe_mul]

/-- A finite sum of real numbers. -/
theorem coe_sum {ι : Type*} (s : Finset ι) (f : ι → ℝ) : (∑ i ∈ s, (f i : EReal)) = ((∑ i ∈ s, f i : ℝ) : EReal) := by
  induction s using Finset.cons_induction with
  | empty => simp
  | cons a s ha ih => rw [Finset.sum_cons, Finset.sum_cons, ih, EReal.coe_add]

/-- The maximum of finitely many real numbers, at least one, taken from −∞, is a real number. -/
theorem coe_max {ι : Type*} (op : EReal → EReal → EReal) [Std.Commutative op] [Std.Associative op] (hop : ∀ x y, op x y = max x y)
    (s : Finset ι) (hs : s.Nonempty) (b : EReal) (hb : b = ⊥) (g : ι → EReal) (f : ι → ℝ) (hg : ∀ i, g i = (f i : EReal)) :
    ∃ M : ℝ, s.fold op b g = (M : EReal) := by
  induction hs using Finset.Nonempty.cons_induction with
  | singleton a => exact ⟨f a, by rw [Finset.fold_singleton, hop, hb, hg, max_eq_left bot_le]⟩
  | cons a s ha hs ih =>
      obtain ⟨M, hM⟩ := ih
      exact ⟨max (f a) M, by rw [Finset.fold_cons, hM, hop, hg, EReal.coe_strictMono.monotone.map_max]⟩

/-- The named constants of the kernel at the ideal values. -/
theorem scaleLog2e : Named.named (F := Ideal) Cert.KernelIdeal.κ "scale_log2e" (φ := .f32) 0x3E16C740#32
    = (((Real.sqrt 96)⁻¹ * (Real.log 2)⁻¹ : ℝ) : EReal) :=
  IdealRules.named_const.ideal_named_scalar _ _ _ _ rfl

theorem scale : Named.named (F := Ideal) Cert.KernelIdeal.κ "scale" (φ := .f32) 0x3DD105EC#32
    = (((Real.sqrt 96)⁻¹ : ℝ) : EReal) :=
  IdealRules.named_const.ideal_named_scalar _ _ _ _ rfl

theorem invLn2 : Named.named (F := Ideal) Cert.KernelIdeal.κ "inv_ln2" (φ := .f32) 0x3FB8AA3B#32
    = (((Real.log 2)⁻¹ : ℝ) : EReal) :=
  IdealRules.named_const.ideal_named_scalar _ _ _ _ rfl

end Cert.Consts

end
-- ==== Proof.RefValue.lean ====
/-
  The reference at the ideal values: on finite arguments its four results are the real-valued output and gradients.
-/
module

public import proofs.«01_k».proof.Proof.Gen.ReferenceIdeal.Read
public import Idealize.ShloMosaic.Lib.Pointwise
public import proofs.«01_k».proof.Proof.Consts

@[expose] public section

set_option maxRecDepth 16384

noncomputable section

namespace Cert.RefValue

open Cert.ReferenceIdeal Cert.ReferenceIdeal.Gen Cert.ReferenceIdeal.Read Idealize.ShloMosaic
open Cert.Spec

variable {q k : Rows → Heads → Fin 96 → ℝ} {v : Rows → Heads → Fin 64 → ℝ} {y : Heads → Fin 64 → Rows → ℝ}
  {x0 x1 : (⟨S16384x8x96, .f32⟩ : BufTy).Contents (Elt Ideal)} {x2 : (⟨S16384x8x64, .f32⟩ : BufTy).Contents (Elt Ideal)}
  {x3 : (⟨S512x16384, .f32⟩ : BufTy).Contents (Elt Ideal)}

/-- The arguments are these real arrays. -/
structure Args (q k : Rows → Heads → Fin 96 → ℝ) (v : Rows → Heads → Fin 64 → ℝ) (y : Heads → Fin 64 → Rows → ℝ)
    (x0 x1 : (⟨S16384x8x96, .f32⟩ : BufTy).Contents (Elt Ideal)) (x2 : (⟨S16384x8x64, .f32⟩ : BufTy).Contents (Elt Ideal))
    (x3 : (⟨S512x16384, .f32⟩ : BufTy).Contents (Elt Ideal)) : Prop where
  q : ∀ r h d, x0 (ix3 r h d) = ((q r h d : ℝ) : EReal)
  k : ∀ r h d, x1 (ix3 r h d) = ((k r h d : ℝ) : EReal)
  v : ∀ r h d, x2 (ix3 r h d) = ((v r h d : ℝ) : EReal)
  y : ∀ (h : Heads) (d : Fin 64) r, x3 (ix2 ⟨h.val * 64 + d.val, by omega⟩ r) = ((y h d r : ℝ) : EReal)

variable (A : Args q k v y x0 x1 x2 x3)
include A

theorem scores (h : Heads) (r t : Rows) : val_main_v3 (F := Ideal) x0 x1 (ix3 h r t) = ((score q k h r t * sc : ℝ) : EReal) := by
  have e0 : ∀ d : Fin 96, lidx_main_v0 (ix3 h r t) d = ix3 r h d := fun d => eq_ix3 _
  have e1 : ∀ d : Fin 96, ridx_main_v0 (ix3 h r t) d = ix3 t h d := fun d => eq_ix3 _
  rw [val_main_v3_apply, val_main_v0_apply, val_main_v2_apply, val_main_v1_apply, val_main_cst_apply]
  have e2 : (∑ d : Fin 96, x0 (lidx_main_v0 (ix3 h r t) d) * x1 (ridx_main_v0 (ix3 h r t) d)) = ((score q k h r t : ℝ) : EReal) := by
    simp only [e0, e1, A.q, A.k, ← EReal.coe_mul]
    rw [Consts.coe_sum]
    rfl
  rw [e2, Ideal.hostUnary_sqrt_def, Ideal.ofBits_def, Consts.w96, Ideal.sqrt_coe, if_neg (by norm_num), Ideal.hostDivf_def,
    Ideal.div_coe (by positivity), ← EReal.coe_mul, one_div, sc]

/-- The row's maximum is a real number. -/
theorem rowMax : ∃ M : Heads → Rows → ℝ, ∀ h r, val_main_v4 (F := Ideal) x0 x1 (ix2 h r) = ((M h r : ℝ) : EReal) := by
  have : ∀ h r, ∃ M : ℝ, val_main_v4 (F := Ideal) x0 x1 (ix2 h r) = (M : EReal) := fun h r => by
    have hred : S8x16384x16384.Reduces [2] S8x16384 := by decide
    obtain ⟨M, hM⟩ := Consts.coe_max (FloatOps.maximumf (F := Ideal) (φ := .f32)) (fun _ _ => rfl) Finset.univ ⟨(0 : Rows), Finset.mem_univ _⟩
      (val_main_cst_0 (F := Ideal) (Shape.Idx.first h_S_)) (by rw [val_main_cst_0_apply, Ideal.ofBits_def, Consts.ninf])
      (val_main_v3 (F := Ideal) x0 x1 ∘ hred.lift (ix2 h r)) (fun t => score q k h r t * sc)
      (fun t => by rw [← scores A h r t]; exact congrArg (val_main_v3 (F := Ideal) x0 x1) (eq_ix3 _))
    exact ⟨M, (Host.reduce_eq_fold_single FloatOps.maximumf _ _ reducesTo_S8x16384x16384_S8x16384_d2 hred h_S_ _).trans hM⟩
  choose M hM using this
  exact ⟨M, hM⟩

variable {M : Heads → Rows → ℝ} (hM : ∀ h r, val_main_v4 (F := Ideal) x0 x1 (ix2 h r) = ((M h r : ℝ) : EReal))
include hM

theorem exps (h : Heads) (r t : Rows) : val_main_v24 (F := Ideal) x0 x1 (ix3 h r t) = ((E q k M h r t : ℝ) : EReal) := by
  have e0 : idx_main_v21 (idx_main_v22 (ix3 h r t)) = ix2 h r := eq_ix2 _
  rw [val_main_v24_apply, val_main_v23_apply, scores A, val_main_v22_apply, val_main_v21_apply, val_main_v11_apply, e0, hM, val_main_v10_apply,
    val_main_cst_2_apply, Ideal.ofBits_def, Consts.ninf, Ideal.maximumf_def, max_eq_right bot_le, Ideal.subf_def, ← EReal.coe_sub,
    Ideal.hostUnary_exp_def, Ideal.exp_coe]
  rfl

theorem denom (h : Heads) (r : Rows) : val_main_v25 (F := Ideal) x0 x1 (ix2 h r) = ((L q k M h r : ℝ) : EReal) := by
  have e0 : ∀ t, idx_main_v25 (ix2 h r) t = ix3 h r t := fun t => eq_ix3 _
  rw [val_main_v25_apply, val_main_cst_8_apply, Ideal.ofBits_def, Consts.zero]
  simp only [e0, exps A hM]
  rw [Consts.coe_sum, ← EReal.coe_add, zero_add]
  rfl

theorem probs (h : Heads) (r t : Rows) : val_main_v28 (F := Ideal) x0 x1 (ix3 h r t) = ((P q k h r t : ℝ) : EReal) := by
  have e0 : idx_main_v26 (idx_main_v27 (ix3 h r t)) = ix2 h r := eq_ix2 _
  rw [val_main_v28_apply, exps A hM, val_main_v27_apply, val_main_v26_apply, e0, denom A hM, Ideal.hostDivf_def, Ideal.div_coe (L_pos q k M h r).ne',
    ← EReal.coe_mul, P_eq]

theorem out (h : Heads) (d : Fin 64) (r : Rows) : val_main_v33 (F := Ideal) x0 x1 x2 (ix2 ⟨h.val * 64 + d.val, by omega⟩ r) = ((O q k v h d r : ℝ) : EReal) := by
  have e : idx_main_v33 (ix2 ⟨h.val * 64 + d.val, by omega⟩ r) = ix3 h d r := by
    refine (eq_ix3 _).trans ?_
    have hd := d.isLt
    have hr := r.isLt
    congr 1
    · exact Fin.ext (show ((h.val * 64 + d.val) * 16384 + r.val) / 1048576 = h.val by omega)
    · exact Fin.ext (show ((h.val * 64 + d.val) * 16384 + r.val) / 16384 % 64 = d.val by omega)
    · exact Fin.ext (show ((h.val * 64 + d.val) * 16384 + r.val) % 16384 = r.val by omega)
  have e0 : ∀ t, lidx_main_v32 (ix3 h d r) t = ix3 t h d := fun t => eq_ix3 _
  have e1 : ∀ t, ridx_main_v32 (ix3 h d r) t = ix3 h r t := fun t => eq_ix3 _
  rw [val_main_v33_apply, e, val_main_v32_apply]
  simp only [e0, e1, A.v, probs A hM, ← EReal.coe_mul]
  rw [Consts.coe_sum]
  rfl

omit hM in
theorem dout (h : Heads) (d : Fin 64) (r : Rows) : val_main_v34 (F := Ideal) x3 (ix3 h d r) = ((y h d r : ℝ) : EReal) := by
  rw [val_main_v34_apply, ← A.y]
  refine congrArg _ ((eq_ix2 _).trans ?_)
  have hd := d.isLt
  have hr := r.isLt
  congr 1
  · exact Fin.ext (show ((h.val * 64 + d.val) * 16384 + r.val) / 16384 = h.val * 64 + d.val by omega)
  · exact Fin.ext (show ((h.val * 64 + d.val) * 16384 + r.val) % 16384 = r.val by omega)

omit hM in
theorem dprobs (h : Heads) (r t : Rows) : val_main_v35 (F := Ideal) x2 x3 (ix3 h r t) = ((dP v y h r t : ℝ) : EReal) := by
  have e0 : ∀ d : Fin 64, lidx_main_v35 (ix3 h r t) d = ix3 h d r := fun d => eq_ix3 _
  have e1 : ∀ d : Fin 64, ridx_main_v35 (ix3 h r t) d = ix3 t h d := fun d => eq_ix3 _
  rw [val_main_v35_apply]
  simp only [e0, e1, A.v, dout A, ← EReal.coe_mul]
  rw [Consts.coe_sum]
  rfl

theorem dv (t : Rows) (h : Heads) (d : Fin 64) : val_main_v37 (F := Ideal) x0 x1 x3 (ix3 t h d) = ((dV q k y t h d : ℝ) : EReal) := by
  have e : idx_main_v37 (ix3 t h d) = ix3 h d t := eq_ix3 _
  have e0 : ∀ r, lidx_main_v36 (ix3 h d t) r = ix3 h d r := fun r => eq_ix3 _
  have e1 : ∀ r, ridx_main_v36 (ix3 h d t) r = ix3 h r t := fun r => eq_ix3 _
  rw [val_main_v37_apply, e, val_main_v36_apply]
  simp only [e0, e1, dout A, probs A hM, ← EReal.coe_mul]
  rw [Consts.coe_sum]
  rfl

theorem inner (h : Heads) (r : Rows) : val_main_v41 (F := Ideal) x0 x1 x2 x3 (ix2 h r)
    = ((∑ u, dP v y h r u * (1 * (1 / (L q k M h r * L q k M h r))) * E q k M h r u : ℝ) : EReal) := by
  have e0 : ∀ t, idx_main_v41 (ix2 h r) t = ix3 h r t := fun t => eq_ix3 _
  have e1 : ∀ t, idx_main_v26 (idx_main_v38 (ix3 h r t)) = ix2 h r := fun t => eq_ix2 _
  rw [val_main_v41_apply, val_main_cst_10_apply, Ideal.ofBits_def, Consts.zero]
  simp only [e0, val_main_v40_apply, val_main_v39_apply, val_main_v38_apply, val_main_v31_apply, val_main_v30_apply, val_main_cst_9_apply,
    val_main_v29_apply, val_main_v26_apply, e1, denom A hM, exps A hM, dprobs A, Ideal.mulf_def, Ideal.ofBits_def, Consts.one,
    ← EReal.coe_mul, Ideal.hostDivf_def, Ideal.div_coe (mul_self_ne_zero.2 (L_pos q k M h r).ne')]
  rw [Consts.coe_sum, ← EReal.coe_add, zero_add]

theorem dscores (h : Heads) (r t : Rows) : val_main_v51 (F := Ideal) x0 x1 x2 x3 (ix3 h r t) = ((dS q k v y h r t * sc : ℝ) : EReal) := by
  have e0 : idx_main_v26 (idx_main_v44 (ix3 h r t)) = ix2 h r := eq_ix2 _
  have e1 : ∀ a : Fin 1, idx_main_v42 (idx_main_v46 (idx_main_v47 (ix3 h r t)) a) = ix2 h r := fun a => by
    refine (eq_ix2 _).trans ?_
    have ha := a.isLt
    have hr := r.isLt
    congr 1
    · exact Fin.ext (show ((h.val * 16384 + r.val) * 1 + a.val) / 16384 = h.val by omega)
    · exact Fin.ext (show ((h.val * 16384 + r.val) * 1 + a.val) % 16384 = r.val by omega)
  rw [val_main_v51_apply, val_main_v49_apply, val_main_v48_apply, val_main_v45_apply, val_main_v44_apply, val_main_v26_apply, e0, denom A hM,
    dprobs A, exps A hM, val_main_v47_apply, val_main_v46_apply, val_main_v50_apply, val_main_v1_apply, val_main_cst_apply, val_main_cst_11_apply,
    Fin.sum_univ_one, val_main_v43_apply, val_main_v42_apply, e1, inner A hM, Ideal.ofBits_def, Ideal.ofBits_def, Consts.zero,
    Ideal.hostUnary_sqrt_def, Consts.w96, Ideal.sqrt_coe, if_neg (by norm_num), Ideal.hostDivf_def, Ideal.hostDivf_def,
    Ideal.div_coe (by positivity), Ideal.div_coe (L_pos q k M h r).ne', Ideal.hostNegf_def, Ideal.negf_def, ← EReal.coe_neg, ← EReal.coe_add, zero_add,
    ← EReal.coe_mul, Ideal.addf_def, ← EReal.coe_add, Ideal.mulf_def, ← EReal.coe_mul, ← EReal.coe_mul, dS_eq, one_div, sc]

theorem dq (r : Rows) (h : Heads) (d : Fin 96) : val_main_v55 (F := Ideal) x0 x1 x2 x3 (ix3 r h d) = ((dQ q k v y r h d : ℝ) : EReal) := by
  have e : idx_main_v55 (ix3 r h d) = ix3 h r d := eq_ix3 _
  have e0 : ∀ t, lidx_main_v54 (ix3 h r d) t = ix3 h r t := fun t => eq_ix3 _
  have e1 : ∀ t, ridx_main_v54 (ix3 h r d) t = ix3 t h d := fun t => eq_ix3 _
  rw [val_main_v55_apply, e, val_main_v54_apply]
  simp only [e0, e1, A.k, dscores A hM, ← EReal.coe_mul]
  rw [Consts.coe_sum, dQ, Finset.sum_mul]
  exact congrArg _ (Finset.sum_congr rfl fun _ _ => by ring)

theorem dk (t : Rows) (h : Heads) (d : Fin 96) : val_main_v53 (F := Ideal) x0 x1 x2 x3 (ix3 t h d) = ((dK q k v y t h d : ℝ) : EReal) := by
  have e : idx_main_v53 (ix3 t h d) = ix3 h t d := eq_ix3 _
  have e0 : ∀ r, lidx_main_v52 (ix3 h t d) r = ix3 h r t := fun r => eq_ix3 _
  have e1 : ∀ r, ridx_main_v52 (ix3 h t d) r = ix3 r h d := fun r => eq_ix3 _
  rw [val_main_v53_apply, e, val_main_v52_apply]
  simp only [e0, e1, A.q, dscores A hM, ← EReal.coe_mul]
  rw [Consts.coe_sum, dK, Finset.sum_mul]
  exact congrArg _ (Finset.sum_congr rfl fun _ _ => by ring)

end Cert.RefValue

end
-- ==== Proof.PayFwd.lean ====
/-
  What the stored values of the forward call and of the row-dot call are at an index, over the ideal values.
-/
module

public import proofs.«01_k».proof.Proof.Gen.KernelIdeal.Skeleton
public import proofs.«01_k».proof.Proof.Consts
public import Idealize.ShloMosaic.Lib.Pointwise

@[expose] public section

set_option maxRecDepth 16384

noncomputable section

namespace Cert.Pay

open Cert.KernelIdeal Cert.KernelIdeal.Gen Idealize.ShloMosaic

/-- The scores of a tile: key `s` against query `r`. -/
theorem pay6 (k : FVec Ideal S1x2048x96 .bf16) (q : FVec Ideal S1x96x2048 .bf16) (s r : Fin 2048) :
    k0_pay6 (F := Ideal) k q (ix2 s r) = ∑ x, k (ix3 0 s x) * q (ix3 0 x r) := by
  pointwise [k0_pay6]

theorem pay1 (x : FVec Ideal S1x2048 .f32) (r : Fin 2048) : k0_pay1 (F := Ideal) x (ix2 0 r) = x (ix2 0 r) := by
  pointwise [k0_pay1]

/-- The running maximum from the tile's column maxima `R`. -/
theorem max7 (m : FVec Ideal S1x2048 .f32) (R : FVec Ideal S2048 .f32) (c : Ideal .f32) (r : Fin 2048) :
    maximumf m (mulf (shapeCast S1x2048 R shapeCasts_S2048_S1x2048) (broadcast S1x2048 c)) (ix2 0 r)
      = max (m (ix2 0 r)) (R (ix1 r) * c) := by
  pointwise []

/-- The column maximum of real scores is real. -/
theorem colMax (X : FVec Ideal S2048x2048 .f32) (f : S2048x2048.Idx → ℝ) (hX : ∀ i, X i = ((f i : ℝ) : EReal))
    (j : S2048.Idx) :
    ∃ M : ℝ, multiReduction (F := Ideal) .maximumf [0] S2048 X 0xFF800000#32 reduces_S2048x2048_S2048 (.inl rfl) rfl j
      = ((M : ℝ) : EReal) := by
  obtain ⟨M, h⟩ := Consts.coe_max (max : EReal → EReal → EReal) (fun _ _ => rfl) (Finset.univ : Finset (Fin 2048))
    ⟨⟨0, by decide⟩, Finset.mem_univ _⟩ _ Consts.ninf (X ∘ reduces_S2048x2048_S2048.lift j)
    (f ∘ reduces_S2048x2048_S2048.lift j) fun i => hX _
  exact ⟨M, (Ideal.multiReduction_maximumf_single _ _ _ _ _ j).trans h⟩

/-- The running maximum after a tile of real scores is real. -/
theorem pay7 (k : FVec Ideal S1x2048x96 .bf16) (q : FVec Ideal S1x96x2048 .bf16) (m : FVec Ideal S1x2048 .f32)
    (f : Fin 2048 → Fin 2048 → ℝ) (hX : ∀ s r, k0_pay6 (F := Ideal) k q (ix2 s r) = ((f s r : ℝ) : EReal))
    (r : Fin 2048) (M : ℝ) (hm : m (ix2 0 r) = ((M : ℝ) : EReal)) :
    ∃ M' : ℝ, k0_pay7 (F := Ideal) k q m (ix2 0 r) = ((M' : ℝ) : EReal) := by
  obtain ⟨N, hN⟩ := colMax (k0_pay6 (F := Ideal) k q) (fun i => f (i 0) (i 1))
    (fun i => by rw [eq_ix2 i]; exact hX _ _) (ix1 r)
  refine ⟨max M (N * ((Real.sqrt 96)⁻¹ * (Real.log 2)⁻¹)), ?_⟩
  unfold k0_pay7
  refine (max7 _ _ _ r).trans ?_
  rw [hN, hm, Consts.scaleLog2e, ← EReal.coe_mul]
  exact (EReal.coe_strictMono.monotone.map_max).symm

/-- The accumulator after a tile: the old one rescaled, plus the tile's weighted sum. -/
theorem pay8 (k : FVec Ideal S1x2048x96 .bf16) (q : FVec Ideal S1x96x2048 .bf16) (m : FVec Ideal S1x2048 .f32)
    (a : FVec Ideal S80x2048 .f32) (vt : FVec Ideal S1x80x2048 .bf16) (d : Fin 80) (r : Fin 2048) :
    k0_pay8 (F := Ideal) k q m a vt (ix2 d r)
      = Ideal.exp2 (m (ix2 0 r) - k0_pay7 (F := Ideal) k q m (ix2 0 r)) * a (ix2 d r)
        + ∑ s, vt (ix3 0 d s) * Ideal.exp2 (k0_pay6 (F := Ideal) k q (ix2 s r)
            * Named.named (F := Ideal) κ "scale_log2e" (φ := .f32) 0x3E16C740#32 - k0_pay7 (F := Ideal) k q m (ix2 0 r)) := by
  pointwise [k0_pay8]
  rfl

end Cert.Pay

end
-- ==== Proof.PayOut.lean ====
/-
  What the outputs of the forward call and the row-dot call's stored value are at an index, over the ideal values.
-/
module

public import proofs.«01_k».proof.Proof.FwdRun
public import Idealize.ShloMosaic.Lib.Pointwise

@[expose] public section

set_option maxRecDepth 16384

noncomputable section

namespace Cert.Pay

open Cert.KernelIdeal Cert.KernelIdeal.Gen Idealize.ShloMosaic

/-- The output tile: the accumulated values over the accumulated sums. -/
theorem pay2 (l : FVec Ideal S1x2048 .f32) (a : FVec Ideal S64x2048 .f32) (d : Fin 64) (r : Fin 2048) :
    k0_pay2 (F := Ideal) l a (ix3 0 d r) = Ideal.div (a (ix2 d r)) (l (ix2 0 r)) := by
  pointwise [k0_pay2]

/-- The stored exponent: the maximum plus the binary logarithm of the sum. -/
theorem pay3 (l m : FVec Ideal S1x2048 .f32) (r : Fin 2048) :
    k0_pay3 (F := Ideal) l m (ix3 0 0 r)
      = m (ix2 0 r) + Ideal.log (l (ix2 0 r)) * Named.named (F := Ideal) κ "inv_ln2" (φ := .f32) 0x3FB8AA3B#32 := by
  pointwise [k0_pay3]

theorem pay4 (i : S1x2048.Idx) : k0_pay4 (F := Ideal) i = Ideal.ofBits FTy.f32 0xF149F2CA#32 := by
  pointwise [k0_pay4]

theorem pay5 (i : S80x2048.Idx) : k0_pay5 (F := Ideal) i = 0 := by
  pointwise [k0_pay5]

/-- The row-dot call: the products of a column of the two operands, summed. -/
theorem delta (l a : FVec Ideal S1x64x2048 .bf16) (r : Fin 2048) :
    k1_pay1 (F := Ideal) l a (ix3 0 0 r) = ∑ x, l (ix3 0 x r) * a (ix3 0 x r) := by
  pointwise [k1_pay1]

end Cert.Pay

end
-- ==== Proof.Tiles.lean ====
/-
  Rows counted by tiles, and the real-number step of an exponential to the base 2.
-/
module

public import proofs.«01_k».proof.Proof.Consts
public import Idealize.ShloMosaic.Lib.Pointwise

@[expose] public section

noncomputable section

namespace Cert.Tiles

open Cert.Spec Idealize.ShloMosaic

/-- Row `s` of tile `i`, at `T` rows a tile. -/
def row (T i : ℕ) (s : Fin T) : Rows := ⟨(i * T + s.val) % 16384, Nat.mod_lt _ (by decide)⟩
/-- Head `n`. -/
def hd (n : ℕ) : Heads := ⟨n % 8, Nat.mod_lt _ (by decide)⟩

/-- A sum over the tiles and over a tile's rows is a sum over the rows. -/
theorem sum_row {J T : ℕ} (hJ : J * T = 16384) (f : Rows → ℝ) : ∑ i ∈ Finset.range J, ∑ s, f (row T i s) = ∑ t, f t := by
  rw [Fin.sum_univ_tiles J T hJ f, Finset.sum_range]
  refine Finset.sum_congr rfl fun i _ => Finset.sum_congr rfl fun s _ => congrArg f (Fin.ext ?_)
  refine Nat.mod_eq_of_lt ?_
  calc i.val * T + s.val < i.val * T + T := by omega
    _ = (i.val + 1) * T := by ring
    _ ≤ J * T := Nat.mul_le_mul_right _ i.isLt
    _ = 16384 := hJ

theorem log2_ne : Real.log 2 ≠ 0 := (Real.log_pos one_lt_two).ne'

/-- `2 ^ x`. -/
theorem two_rpow (x : ℝ) : Real.rpow 2 x = Real.exp (x * Real.log 2) := by
  show (2 : ℝ) ^ x = _
  rw [Real.rpow_def_of_pos two_pos, mul_comm]

/-- A power of 2 whose exponent carries the scale and `1 / log 2`. -/
theorem two_rpow_scale (s M : ℝ) :
    Real.rpow 2 (s * ((Real.sqrt 96)⁻¹ * (Real.log 2)⁻¹) - M) = Real.exp (s * sc - M * Real.log 2) := by
  rw [two_rpow, sub_mul, mul_assoc, mul_assoc, inv_mul_cancel₀ log2_ne, mul_one, sc]

end Cert.Tiles

end
-- ==== Proof.FwdValue.lean ====
/-
  The forward kernel's sweep over the key tiles, on real-valued operands: the running maximum stays a real number, the
  running sums are the exponentials of the scores shifted by it, and what the last point stores is the attention's output
  and an exponent from which the softmax can be made again.
-/
module

public import proofs.«01_k».proof.Proof.PayFwd
public import proofs.«01_k».proof.Proof.PayOut
public import proofs.«01_k».proof.Proof.Tiles
public import proofs.«01_k».proof.Proof.Fwd

@[expose] public section

set_option maxRecDepth 16384

noncomputable section

namespace Cert.FwdValue

open Cert.KernelIdeal Cert.KernelIdeal.Gen Idealize.ShloMosaic
open Cert.Spec Cert.Tiles Cert.Proof

variable {q k : Rows → Heads → Fin 96 → ℝ} {v : Rows → Heads → Fin 64 → ℝ}

/-- The value columns, and the rows of ones below them. -/
def vx (v : Rows → Heads → Fin 64 → ℝ) (t : Rows) (h : Heads) (e : Fin 80) : ℝ := if he : e.val < 64 then v t h ⟨e.val, he⟩ else 1

/-- One tile. -/
theorem step (k : FVec Ideal S1x2048x96 .bf16) (q : FVec Ideal S1x96x2048 .bf16) (m : FVec Ideal S1x2048 .f32)
    (a : FVec Ideal S80x2048 .f32) (vt : FVec Ideal S1x80x2048 .bf16)
    (f : Fin 2048 → Fin 2048 → ℝ) (hX : ∀ s r, k0_pay6 (F := Ideal) k q (ix2 s r) = ((f s r : ℝ) : EReal))
    (u : Fin 80 → Fin 2048 → ℝ) (hv : ∀ e s, vt (ix3 0 e s) = ((u e s : ℝ) : EReal))
    (r : Fin 2048) (M : ℝ) (hm : m (ix2 0 r) = ((M : ℝ) : EReal))
    (A : Fin 80 → ℝ) (ha : ∀ e, a (ix2 e r) = ((A e : ℝ) : EReal)) :
    ∃ M' : ℝ, k0_pay7 (F := Ideal) k q m (ix2 0 r) = ((M' : ℝ) : EReal) ∧
      ∀ e, k0_pay8 (F := Ideal) k q m a vt (ix2 e r)
        = ((Real.exp ((M - M') * Real.log 2) * A e + ∑ s, u e s * Real.exp (f s r * sc - M' * Real.log 2) : ℝ) : EReal) := by
  obtain ⟨M', hM'⟩ := Pay.pay7 k q m f hX r M hm
  refine ⟨M', hM', fun e => ?_⟩
  rw [Pay.pay8, hM', hm, ha]
  simp only [hX, hv, Consts.scaleLog2e, ← EReal.coe_mul, ← EReal.coe_sub, Ideal.exp2_coe, Consts.coe_sum, ← EReal.coe_add,
    two_rpow_scale]
  rw [two_rpow]

/-- The operands of every point are tiles of real arrays. -/
structure Args (o : Ops0 Ideal) (q k : Rows → Heads → Fin 96 → ℝ) (v : Rows → Heads → Fin 64 → ℝ) : Prop where
  q : ∀ n < 512, ∀ d r, o.q n (ix3 0 d r) = ((q (row 2048 (n / 8 % 8) r) (hd (n / 64)) d : ℝ) : EReal)
  k : ∀ n < 512, ∀ s d, o.k n (ix3 0 s d) = ((k (row 2048 (n % 8) s) (hd (n / 64)) d : ℝ) : EReal)
  vt : ∀ n < 512, ∀ e s, o.vt n (ix3 0 e s) = ((vx v (row 2048 (n % 8) s) (hd (n / 64)) e : ℝ) : EReal)

variable {o : Ops0 Ideal} (A : Args o q k v)

include A in
/-- The scores of a tile. -/
theorem scores (g j : ℕ) (hg : g < 64) (hj : j < 8) (s r : Fin 2048) :
    k0_pay6 (F := Ideal) (o.k (8 * g + j)) (o.q (8 * g + j)) (ix2 s r)
      = ((score q k (hd (g / 8)) (row 2048 (g % 8) r) (row 2048 j s) : ℝ) : EReal) := by
  rw [Pay.pay6]
  simp only [A.q _ (show 8 * g + j < 512 by omega), A.k _ (show 8 * g + j < 512 by omega), ← EReal.coe_mul, Consts.coe_sum,
    show (8 * g + j) / 8 % 8 = g % 8 by omega, show (8 * g + j) / 64 = g / 8 by omega, show (8 * g + j) % 8 = j by omega]
  rw [score]
  exact congrArg _ (Finset.sum_congr rfl fun _ _ => mul_comm _ _)

include A in
/-- The values of a tile. -/
theorem values (g j : ℕ) (hg : g < 64) (hj : j < 8) (e : Fin 80) (s : Fin 2048) :
    o.vt (8 * g + j) (ix3 0 e s) = ((vx v (row 2048 j s) (hd (g / 8)) e : ℝ) : EReal) := by
  rw [A.vt _ (by omega), show (8 * g + j) / 64 = g / 8 by omega, show (8 * g + j) % 8 = j by omega]

/-- The running sum of column `e` after the tiles `0 … j`, shifted by `M`. -/
def part (q k : Rows → Heads → Fin 96 → ℝ) (v : Rows → Heads → Fin 64 → ℝ) (g j : ℕ) (r : Fin 2048) (M : ℝ) (e : Fin 80) : ℝ :=
  ∑ i ∈ Finset.range j, ∑ s, vx v (row 2048 i s) (hd (g / 8)) e
    * Real.exp (score q k (hd (g / 8)) (row 2048 (g % 8) r) (row 2048 i s) * sc - M * Real.log 2)

theorem part_shift (g j : ℕ) (r : Fin 2048) (M M' : ℝ) (e : Fin 80) :
    Real.exp ((M - M') * Real.log 2) * part q k v g j r M e = part q k v g j r M' e := by
  simp only [part, Finset.mul_sum]
  refine Finset.sum_congr rfl fun i _ => Finset.sum_congr rfl fun s _ => ?_
  rw [mul_left_comm, ← Real.exp_add]
  exact congrArg (fun x => _ * Real.exp x) (by ring)

include A in
/-- The running maximum and the running sums after key tile `j`. -/
theorem sweep (g : ℕ) (hg : g < 64) (r : Fin 2048) : ∀ j < 8, ∃ M : ℝ, mA o (8 * g) j (ix2 0 r) = ((M : ℝ) : EReal) ∧
    ∀ e, accA o (8 * g) j (ix2 e r) = ((part q k v g (j + 1) r M e : ℝ) : EReal) := by
  intro j
  induction j with
  | zero =>
      intro hj
      obtain ⟨N, hN⟩ := Consts.neg
      obtain ⟨M, h1, h2⟩ := step (o.k (8 * g + 0)) (o.q (8 * g + 0)) k0_pay4 k0_pay5 (o.vt (8 * g + 0)) _ (scores A g 0 hg hj) _
        (values A g 0 hg hj) r N ((Pay.pay4 _).trans hN) (fun _ => 0) (fun _ => Pay.pay5 _)
      refine ⟨M, (Pay.pay1 _ r).trans h1, fun e => (h2 e).trans (congrArg _ ?_)⟩
      rw [mul_zero, zero_add, part, Finset.sum_range_one]
  | succ j ih =>
      intro hj
      obtain ⟨N, hN, hA⟩ := ih (by omega)
      obtain ⟨M, h1, h2⟩ := step (o.k (8 * g + (j + 1))) (o.q (8 * g + (j + 1))) (mA o (8 * g) j) (accA o (8 * g) j)
        (o.vt (8 * g + (j + 1))) _ (scores A g (j + 1) hg hj) _ (values A g (j + 1) hg hj) r N hN _ hA
      refine ⟨M, (Pay.pay1 _ r).trans h1, fun e => (h2 e).trans (congrArg _ ?_)⟩
      rw [part_shift, part, part, Finset.sum_range_succ _ (j + 1)]

/-- The row of the weights' sums, and the rows of the values' sums. -/
theorem sums_at (a : FVec Ideal S80x2048 .f32) (r : Fin 2048) : sums (F := Ideal) a (ix2 0 r) = a (ix2 64 r) :=
  congrArg a (funext fun i => match i with | ⟨0, _⟩ => Fin.ext rfl | ⟨1, _⟩ => Fin.ext (by simp [Rect.emb, Rect.unit]))
theorem vals_at (a : FVec Ideal S80x2048 .f32) (d : Fin 64) (r : Fin 2048) :
    vals (F := Ideal) a (ix2 d r) = a (ix2 ⟨d.val, by omega⟩ r) :=
  congrArg a (funext fun i => match i with | ⟨0, _⟩ => Fin.ext (by simp [Rect.emb, Rect.unit]) | ⟨1, _⟩ => Fin.ext (by simp [Rect.emb, Rect.unit]))

include A in
/-- What the last point of a sweep stores. -/
theorem stored (g : ℕ) (hg : g < 64) (r : Fin 2048) : ∃ lam : ℝ,
    k0_pay3 (F := Ideal) (sums (accA o (8 * g) 7)) (mA o (8 * g) 7) (ix3 0 0 r) = ((lam : ℝ) : EReal)
    ∧ (∀ t, Real.exp (score q k (hd (g / 8)) (row 2048 (g % 8) r) t * sc - lam * Real.log 2)
        = P q k (hd (g / 8)) (row 2048 (g % 8) r) t)
    ∧ ∀ d, k0_pay2 (F := Ideal) (sums (accA o (8 * g) 7)) (vals (accA o (8 * g) 7)) (ix3 0 d r)
        = ((O q k v (hd (g / 8)) d (row 2048 (g % 8) r) : ℝ) : EReal) := by
  obtain ⟨M, hM, hA⟩ := sweep A g hg r 7 (by omega)
  set h := hd (g / 8) with hh
  set R := row 2048 (g % 8) r with hR
  have hl : accA o (8 * g) 7 (ix2 64 r) = ((L q k (fun _ _ => M * Real.log 2) h R : ℝ) : EReal) := by
    refine (hA 64).trans (congrArg _ ?_)
    simp only [part, L, E, ← hh, ← hR]
    rw [← sum_row (J := 8) (T := 2048) rfl]
    refine Finset.sum_congr rfl fun i _ => Finset.sum_congr rfl fun s _ => ?_
    rw [vx, dif_neg (by decide), one_mul]
  have hv : ∀ d : Fin 64, accA o (8 * g) 7 (ix2 ⟨d.val, by omega⟩ r)
      = ((∑ t, v t h d * E q k (fun _ _ => M * Real.log 2) h R t : ℝ) : EReal) := fun d => by
    refine (hA _).trans (congrArg _ ?_)
    simp only [part, E, ← hh, ← hR]
    rw [← sum_row (J := 8) (T := 2048) rfl]
    refine Finset.sum_congr rfl fun i _ => Finset.sum_congr rfl fun s _ => ?_
    rw [vx, dif_pos d.isLt]
  have hpos := L_pos q k (fun _ _ => M * Real.log 2) h R
  refine ⟨M + Real.log (L q k (fun _ _ => M * Real.log 2) h R) * (Real.log 2)⁻¹, ?_, fun t => ?_, fun d => ?_⟩
  · rw [Pay.pay3, sums_at, hl, hM, Consts.invLn2, Ideal.log_coe, if_neg (not_le.2 hpos), ← EReal.coe_mul, ← EReal.coe_add]
  · rw [← P_eq q k (fun _ _ => M * Real.log 2), add_mul, mul_assoc, inv_mul_cancel₀ log2_ne, mul_one, ← sub_sub, Real.exp_sub,
      Real.exp_log hpos, E, one_div, div_eq_mul_inv]
  · rw [Pay.pay2, sums_at, vals_at, hl, hv, Ideal.div_coe hpos.ne', ← EReal.coe_mul, O, Finset.sum_mul]
    refine congrArg _ (Finset.sum_congr rfl fun t _ => ?_)
    rw [← P_eq q k (fun _ _ => M * Real.log 2), mul_assoc]

end Cert.FwdValue

end
-- ==== Proof.Host.lean ====
/-
  The host operations between the calls, at an index: transposes, reshapes, casts (nothing at the ideal values), and the
  rows of ones put below the values.
-/
module

public import proofs.«01_k».proof.Proof.FwdValue
public import proofs.«01_k».proof.Proof.Gen.KernelIdeal.Regions
public import Idealize.ShloMosaic.Lib.Pipeline.ValueKit

@[expose] public section

set_option maxRecDepth 16384

noncomputable section

namespace Cert.Host

open Cert.KernelIdeal Cert.KernelIdeal.Gen Idealize.ShloMosaic Idealize.ShloMosaic.TcCoe Idealize.ShloMosaic.StableHlo
open Cert.Spec Cert.Tiles

variable (X : Valuation τ sig (Elt Ideal))

theorem v1 (h : Heads) (d : Fin 96) (r : Rows) :
    (after hostOps0 X main_v1 : S8x96x16384.Idx → EReal) (ix3 h d r) = (X main_arg0 : S16384x8x96.Idx → EReal) (ix3 r h d) := by
  have e : after hostOps0 X main_v1 = truncf (F := Ideal) .bf16 (transpose S8x96x16384 [1, 2, 0] (X main_arg0 : FVec Ideal S16384x8x96 .f32)
      transposes_S16384x8x96_S8x96x16384_1_2_0) bitsLt_bf16_f32 := by after_results
  rw [e]
  pointwise []

theorem v3 (h : Heads) (r : Rows) (d : Fin 96) :
    (after hostOps0 X main_v3 : S8x16384x96.Idx → EReal) (ix3 h r d) = (X main_arg1 : S16384x8x96.Idx → EReal) (ix3 r h d) := by
  have e : after hostOps0 X main_v3 = truncf (F := Ideal) .bf16 (transpose S8x16384x96 [1, 0, 2] (X main_arg1 : FVec Ideal S16384x8x96 .f32)
      transposes_S16384x8x96_S8x16384x96_1_0_2) bitsLt_bf16_f32 := by after_results
  rw [e]
  pointwise []

theorem v5 (h : Heads) (d : Fin 96) (r : Rows) :
    (after hostOps0 X main_v5 : S8x96x16384.Idx → EReal) (ix3 h d r) = (X main_arg1 : S16384x8x96.Idx → EReal) (ix3 r h d) := by
  have e : after hostOps0 X main_v5 = truncf (F := Ideal) .bf16 (transpose S8x96x16384 [1, 2, 0] (X main_arg1 : FVec Ideal S16384x8x96 .f32)
      transposes_S16384x8x96_S8x96x16384_1_2_0) bitsLt_bf16_f32 := by after_results
  rw [e]
  pointwise []

theorem v7 (h : Heads) (r : Rows) (d : Fin 64) :
    (after hostOps0 X main_v7 : S8x16384x64.Idx → EReal) (ix3 h r d) = (X main_arg2 : S16384x8x64.Idx → EReal) (ix3 r h d) := by
  have e : after hostOps0 X main_v7 = truncf (F := Ideal) .bf16 (transpose S8x16384x64 [1, 0, 2] (X main_arg2 : FVec Ideal S16384x8x64 .f32)
      transposes_S16384x8x64_S8x16384x64_1_0_2) bitsLt_bf16_f32 := by after_results
  rw [e]
  pointwise []

theorem v11 (h : Heads) (a : Fin 80) (r : Rows) (v : Rows → Heads → Fin 64 → ℝ)
    (hv : ∀ r h d, (X main_arg2 : S16384x8x64.Idx → EReal) (ix3 r h d) = ((v r h d : ℝ) : EReal)) :
    (after hostOps0 X main_v11 : S8x80x16384.Idx → EReal) (ix3 h a r) = ((FwdValue.vx v r h a : ℝ) : EReal) := by
  have e : after hostOps0 X main_v11 = concatenate S8x80x16384 1 [⟨S8x64x16384, truncf (F := Ideal) .bf16
      (transpose S8x64x16384 [1, 2, 0] (X main_arg2 : FVec Ideal S16384x8x64 .f32) transposes_S16384x8x64_S8x64x16384_1_2_0) bitsLt_bf16_f32⟩,
      ⟨S8x16x16384, broadcastInDim S8x16x16384 ![] bcast_S_S8x16x16384 (constant (F := Ideal) S_ .bf16 0x3F80#16)⟩]
      concatenates_S8x64x16384_S8x16x16384_S8x80x16384_d1 := by after_results
  rw [e]
  pointwise []
  unfold FwdValue.vx
  split
  · exact hv _ _ _
  · simp

theorem v14 (h : Heads) (d : Fin 64) (r : Rows) :
    (after hostOps1 X main_v14 : S512x16384.Idx → EReal) (ix2 ⟨h.val * 64 + d.val, by omega⟩ r)
      = (X main_v12_0 : S8x64x16384.Idx → EReal) (ix3 h d r) := by
  have e : after hostOps1 X main_v14 = extf (F := Ideal) .f32 (shapeCast S512x16384 (X main_v12_0 : FVec Ideal S8x64x16384 .bf16)
      shapeCasts_S8x64x16384_S512x16384) bitsLt_bf16_f32 := by after_results; rfl
  rw [e]
  pointwise []

theorem v16 (h : Heads) (d : Fin 64) (r : Rows) :
    (after hostOps1 X main_v16 : S8x64x16384.Idx → EReal) (ix3 h d r)
      = (X main_arg3 : S512x16384.Idx → EReal) (ix2 ⟨h.val * 64 + d.val, by omega⟩ r) := by
  have e : after hostOps1 X main_v16 = shapeCast S8x64x16384 (truncf (F := Ideal) .bf16 (X main_arg3 : FVec Ideal S512x16384 .f32) bitsLt_bf16_f32)
      shapeCasts_S512x16384_S8x64x16384 := by after_results; rfl
  rw [e]
  pointwise []

theorem v19 (r : Rows) (h : Heads) (d : Fin 96) :
    (after hostOps3 X main_v19 : S16384x8x96.Idx → EReal) (ix3 r h d) = (X main_v18_0 : S8x96x16384.Idx → EReal) (ix3 h d r) := by
  have e : after hostOps3 X main_v19 = transpose S16384x8x96 [2, 0, 1] (X main_v18_0 : FVec Ideal S8x96x16384 .f32)
      transposes_S8x96x16384_S16384x8x96_2_0_1 := by after_results
  rw [e]
  pointwise []

theorem v21 (z : Fin 16) (s : Fin 1024) (h : Heads) (d : Fin 96) :
    (after hostOps3 X main_v21 : S16384x8x96.Idx → EReal) (ix3 (row 1024 z.val s) h d)
      = (X main_v18_1 : S8x16x96x1024.Idx → EReal) (ix4 h z d s) := by
  have e : after hostOps3 X main_v21 = shapeCast S16384x8x96 (transpose S16x1024x8x96 [1, 3, 0, 2] (X main_v18_1 : FVec Ideal S8x16x96x1024 .f32)
      transposes_S8x16x96x1024_S16x1024x8x96_1_3_0_2) shapeCasts_S16x1024x8x96_S16384x8x96 := by after_results; rfl
  rw [e]
  pointwise []
  congr 1
  have hr : (row 1024 z.val s).val = z.val * 1024 + s.val := by show (_ : ℕ) % 16384 = _; omega
  rw [eq_ix4 (ix4 h z d s)]
  congr 1
  · exact Fin.ext (by show (_ : ℕ) / 1024 = z.val; omega)
  · exact Fin.ext (by show (_ : ℕ) % 1024 = s.val; omega)

theorem v23 (z : Fin 16) (s : Fin 1024) (h : Heads) (d : Fin 64) :
    (after hostOps3 X main_v23 : S16384x8x64.Idx → EReal) (ix3 (row 1024 z.val s) h d)
      = (X main_v18_2 : S8x16x64x1024.Idx → EReal) (ix4 h z d s) := by
  have e : after hostOps3 X main_v23 = shapeCast S16384x8x64 (transpose S16x1024x8x64 [1, 3, 0, 2] (X main_v18_2 : FVec Ideal S8x16x64x1024 .f32)
      transposes_S8x16x64x1024_S16x1024x8x64_1_3_0_2) shapeCasts_S16x1024x8x64_S16384x8x64 := by after_results; rfl
  rw [e]
  pointwise []
  congr 1
  have hr : (row 1024 z.val s).val = z.val * 1024 + s.val := by show (_ : ℕ) % 16384 = _; omega
  rw [eq_ix4 (ix4 h z d s)]
  congr 1
  · exact Fin.ext (by show (_ : ℕ) / 1024 = z.val; omega)
  · exact Fin.ext (by show (_ : ℕ) % 1024 = s.val; omega)

end Cert.Host

end
-- ==== Proof.Blocks0.lean ====
/-
  The forward call's arrays: the blocks the points read, and the two results after the run.
-/
module

public import proofs.«01_k».proof.Proof.FwdValue
public import Idealize.ShloMosaic.Lib.Pipeline.ValueKit

@[expose] public section

set_option maxRecDepth 16384

noncomputable section

namespace Cert.Blocks

open Cert.KernelIdeal Cert.KernelIdeal.Gen Idealize.ShloMosaic Idealize.ShloMosaic.TcCoe
open Idealize.ShloMosaic.Pipeline (Dat arrRef)
open Cert.Spec Cert.Tiles Cert.Proof

theorem row_val (T i : ℕ) (s : Fin T) : (row T i s).val = (i * T + s.val) % 16384 := rfl
theorem hd_val (n : ℕ) : (hd n).val = n % 8 := rfl

/-- The blocks' places. -/
theorem idx0 : ∀ t : Fin cfg0.N, win0_0.index t = ![t.val / 64, 0, t.val / 8 % 8] ∧ win0_1.index t = ![t.val / 64, t.val % 8, 0]
    ∧ win0_2.index t = ![t.val / 64, 0, t.val % 8] ∧ win0_3.index t = ![t.val / 64, 0, t.val / 8 % 8]
    ∧ win0_4.index t = ![t.val / 64, 0, t.val / 8 % 8] :=
  (by decide +kernel : ∀ t : Fin grid0.N, _)

variable {q k : Rows → Heads → Fin 96 → ℝ} {v : Rows → Heads → Fin 64 → ℝ}
variable (V : Dev nD → Valuation τ sig (Elt Ideal)) (c : Dev nD)

theorem pt0_lt (n : ℕ) (hn : n < 512) : (pt0 n).val = n := Nat.mod_eq_of_lt hn

theorem q_at (n : ℕ) (hn : n < 512) (d : Fin 96) (r : Fin 2048) :
    iblk0 V c 0 (pt0 n) (ix3 0 d r) = (V c main_v1 : S8x96x16384.Idx → EReal) (ix3 (hd (n / 64)) d (row 2048 (n / 8 % 8) r)) := by
  have h := pt0_lt n hn
  blk_ext [iblk0, idx0 (pt0 n), row_val, hd_val, h]

theorem k_at (n : ℕ) (hn : n < 512) (d : Fin 96) (s : Fin 2048) :
    iblk0 V c 1 (pt0 n) (ix3 0 s d) = (V c main_v3 : S8x16384x96.Idx → EReal) (ix3 (hd (n / 64)) (row 2048 (n % 8) s) d) := by
  have h := pt0_lt n hn
  blk_ext [iblk0, idx0 (pt0 n), row_val, hd_val, h]

theorem vt_at (n : ℕ) (hn : n < 512) (e : Fin 80) (s : Fin 2048) :
    iblk0 V c 2 (pt0 n) (ix3 0 e s) = (V c main_v11 : S8x80x16384.Idx → EReal) (ix3 (hd (n / 64)) e (row 2048 (n % 8) s)) := by
  have h := pt0_lt n hn
  blk_ext [iblk0, idx0 (pt0 n), row_val, hd_val, h]

/-- The contents the call finds are real arrays. -/
structure In0 (q k : Rows → Heads → Fin 96 → ℝ) (v : Rows → Heads → Fin 64 → ℝ) : Prop where
  q : ∀ h d r, (V c main_v1 : S8x96x16384.Idx → EReal) (ix3 h d r) = ((q r h d : ℝ) : EReal)
  k : ∀ h r d, (V c main_v3 : S8x16384x96.Idx → EReal) (ix3 h r d) = ((k r h d : ℝ) : EReal)
  vt : ∀ h e r, (V c main_v11 : S8x80x16384.Idx → EReal) (ix3 h e r) = ((FwdValue.vx v r h e : ℝ) : EReal)

variable {V c} (I : In0 V c q k v)

include I in
theorem args0 : FwdValue.Args (ops0 V c) q k v where
  q n hn d r := (q_at V c n hn d r).trans (I.q _ _ _)
  k n hn s d := (k_at V c n hn d s).trans (I.k _ _ _)
  vt n hn e s := (vt_at V c n hn e s).trans (I.vt _ _ _)

include I in
/-- What a point that ends a sweep leaves in its two output blocks. -/
theorem left0 (t : Fin cfg0.N) (h7 : t.val % 8 = 7) (r : Fin 2048) : ∃ lam : ℝ,
    k0_pay3 (F := Ideal) (sums (accAt V c t.val)) (mAt V c t.val) (ix3 0 0 r) = ((lam : ℝ) : EReal)
    ∧ (∀ u, Real.exp (score q k (hd (t.val / 64)) (row 2048 (t.val / 8 % 8) r) u * sc - lam * Real.log 2)
        = P q k (hd (t.val / 64)) (row 2048 (t.val / 8 % 8) r) u)
    ∧ ∀ d, k0_pay2 (F := Ideal) (sums (accAt V c t.val)) (vals (accAt V c t.val)) (ix3 0 d r)
        = ((O q k v (hd (t.val / 64)) d (row 2048 (t.val / 8 % 8) r) : ℝ) : EReal) := by
  have hN : t.val < 512 := (atPoint0 t).1
  have h := FwdValue.stored (args0 I) (t.val / 8) (by omega) r
  rw [show t.val / 8 / 8 = t.val / 64 by omega] at h
  rw [accAt, mAt, h7]
  exact h

include I in
/-- The output after the run. -/
theorem out0 : ((dat0 V c).arrAt 3 cfg0.N : S8x64x16384.Idx → EReal) = fun i => ((O q k v (i 0) (i 1) (i 2) : ℝ) : EReal) := by
  refine (dat0 V c).arrAt_eq_of_covers 3 _ (by decide +kernel) fun t hf y => ?_
  have h7 := (flush0_3 t).mp hf
  have hN : t.val < 512 := (atPoint0 t).1
  have e : ∀ y : S1x64x2048.Idx, ((cfg0.win 3).blk t).view.emb y
      = (ix3 (hd (t.val / 64)) (y 1) (row 2048 (t.val / 8 % 8) (y 2)) : S8x64x16384.Idx) := fun y => by
    blk_ext [idx0 t, row_val, hd_val]
    show _ = (t.val / 8 % 8 * 2048 + (y 2).val) % 16384
    omega
  have key : ∀ y : S1x64x2048.Idx, k0_pay2 (F := Ideal) (sums (accAt V c t.val)) (vals (accAt V c t.val)) y
      = ((O q k v (hd (t.val / 64)) (y 1) (row 2048 (t.val / 8 % 8) (y 2)) : ℝ) : EReal) := fun y => by
    obtain ⟨_, -, -, h⟩ := left0 I t h7 (y 2)
    refine (congrArg _ ?_).trans (h (y 1))
    blk_ext []
  blk_simp
  rw [after0_3]
  have g := congrArg (fun i : S8x64x16384.Idx => ((O q k v (i 0) (i 1) (i 2) : ℝ) : EReal)) (e y)
  refine (key y).trans ?_
  exact g.symm

include I in
/-- The stored exponent after the run. -/
theorem lam0 (i : S8x1x16384.Idx) : ∃ lam : ℝ, ((dat0 V c).arrAt 4 cfg0.N : S8x1x16384.Idx → EReal) i = ((lam : ℝ) : EReal)
    ∧ ∀ u, Real.exp (score q k (i 0) (i 2) u * sc - lam * Real.log 2) = P q k (i 0) (i 2) u := by
  refine (dat0 V c).arrAt_forall_of_covers 4 (fun (i : S8x1x16384.Idx) (x : EReal) => ∃ lam : ℝ, x = ((lam : ℝ) : EReal)
    ∧ ∀ u, Real.exp (score q k (i 0) (i 2) u * sc - lam * Real.log 2) = P q k (i 0) (i 2) u) (by decide +kernel) (fun t hf y => ?_) i
  have h7 := (flush0_4 t).mp hf
  have hN : t.val < 512 := (atPoint0 t).1
  have e : ∀ y : S1x1x2048.Idx, ((cfg0.win 4).blk t).view.emb y
      = (ix3 (hd (t.val / 64)) 0 (row 2048 (t.val / 8 % 8) (y 2)) : S8x1x16384.Idx) := fun y => by
    blk_ext [idx0 t, row_val, hd_val]
    show _ = (t.val / 8 % 8 * 2048 + (y 2).val) % 16384
    omega
  have key : ∀ y : S1x1x2048.Idx, ∃ lam : ℝ,
      k0_pay3 (F := Ideal) (sums (accAt V c t.val)) (mAt V c t.val) y = ((lam : ℝ) : EReal)
      ∧ ∀ u, Real.exp (score q k (hd (t.val / 64)) (row 2048 (t.val / 8 % 8) (y 2)) u * sc - lam * Real.log 2)
        = P q k (hd (t.val / 64)) (row 2048 (t.val / 8 % 8) (y 2)) u := fun y => by
    obtain ⟨lam, h1, h2, -⟩ := left0 I t h7 (y 2)
    refine ⟨lam, (congrArg _ ?_).trans h1, h2⟩
    blk_ext []
  blk_simp
  rw [after0_4]
  have g := congrArg (fun i : S8x1x16384.Idx => ∃ lam : ℝ,
      k0_pay3 (F := Ideal) (sums (accAt V c t.val)) (mAt V c t.val) y = ((lam : ℝ) : EReal)
      ∧ ∀ u, Real.exp (score q k (i 0) (i 2) u * sc - lam * Real.log 2) = P q k (i 0) (i 2) u) (e y)
  exact g.mpr (key y)

end Cert.Blocks

end
-- ==== Proof.Blocks1.lean ====
/-
  The row-dot call's arrays: the blocks the points read, and the result after the run.
-/
module

public import proofs.«01_k».proof.Proof.PayOut
public import proofs.«01_k».proof.Proof.Tiles
public import proofs.«01_k».proof.Proof.Delta
public import Idealize.ShloMosaic.Lib.Pipeline.ValueKit

@[expose] public section

set_option maxRecDepth 16384

noncomputable section

namespace Cert.Blocks

open Cert.KernelIdeal Cert.KernelIdeal.Gen Idealize.ShloMosaic Idealize.ShloMosaic.TcCoe
open Idealize.ShloMosaic.Pipeline (Dat arrRef)
open Cert.Spec Cert.Tiles Cert.Proof

theorem idx1 : ∀ t : Fin cfg1.N, win1_0.index t = ![t.val / 8, 0, t.val % 8] ∧ win1_1.index t = ![t.val / 8, 0, t.val % 8]
    ∧ win1_2.index t = ![t.val / 8, 0, t.val % 8] :=
  (by decide +kernel : ∀ t : Fin grid1.N, _)

variable {o y : Heads → Fin 64 → Rows → ℝ}
variable (V : Dev nD → Valuation τ sig (Elt Ideal)) (c : Dev nD)

/-- Column `r` of a point's tile is column `(t % 8) · 2048 + r` of head `t / 8`. -/
def col1 (t : Fin cfg1.N) (r : Fin 2048) : Rows := ⟨(t.val % 8 * 2048 + r.val) % 16384, Nat.mod_lt _ (by decide)⟩
def head1 (t : Fin cfg1.N) : Heads := ⟨t.val / 8 % 8, Nat.mod_lt _ (by decide)⟩
theorem col1_val (t : Fin cfg1.N) (r : Fin 2048) : (col1 t r).val = (t.val % 8 * 2048 + r.val) % 16384 := rfl
theorem head1_val (t : Fin cfg1.N) : (head1 t).val = t.val / 8 % 8 := rfl

theorem a_at (t : Fin cfg1.N) (hN : t.val < 64) (d : Fin 64) (r : Fin 2048) :
    iblk1 V c 0 t (ix3 0 d r) = (V c main_v12_0 : S8x64x16384.Idx → EReal) (ix3 (head1 t) d (col1 t r)) := by
  blk_ext [iblk1, idx1 t, col1_val, head1_val]

theorem b_at (t : Fin cfg1.N) (hN : t.val < 64) (d : Fin 64) (r : Fin 2048) :
    iblk1 V c 1 t (ix3 0 d r) = (V c main_v16 : S8x64x16384.Idx → EReal) (ix3 (head1 t) d (col1 t r)) := by
  blk_ext [iblk1, idx1 t, col1_val, head1_val]

variable {V c}

/-- The row sums after the run. -/
theorem out1 (ho : ∀ h d r, (V c main_v12_0 : S8x64x16384.Idx → EReal) (ix3 h d r) = ((o h d r : ℝ) : EReal))
    (hy : ∀ h d r, (V c main_v16 : S8x64x16384.Idx → EReal) (ix3 h d r) = ((y h d r : ℝ) : EReal)) :
    ((dat1 V c).arrAt 2 cfg1.N : S8x1x16384.Idx → EReal) = fun i => ((∑ d, o (i 0) d (i 2) * y (i 0) d (i 2) : ℝ) : EReal) := by
  refine (dat1 V c).arrAt_eq_of_covers 2 _ (by decide +kernel) fun t hf z => ?_
  have hN : t.val < 64 := lt_of_lt_of_eq t.isLt N_1
  have e : ∀ y : S1x1x2048.Idx, ((cfg1.win 2).blk t).view.emb y = (ix3 (head1 t) 0 (col1 t (y 2)) : S8x1x16384.Idx) := fun y => by
    blk_ext [idx1 t, col1_val, head1_val]
    show _ = (t.val % 8 * 2048 + (y 2).val) % 16384
    omega
  have key : ∀ z : S1x1x2048.Idx, k1_pay1 (F := Ideal) (iblk1 V c 0 t) (iblk1 V c 1 t) z
      = ((∑ d, o (head1 t) d (col1 t (z 2)) * y (head1 t) d (col1 t (z 2)) : ℝ) : EReal) := fun z => by
    refine Eq.trans ?_ ((Pay.delta (iblk1 V c 0 t) (iblk1 V c 1 t) (z 2)).trans ?_)
    · refine congrArg _ ?_
      blk_ext []
    · rw [← Consts.coe_sum]
      refine Finset.sum_congr rfl fun d _ => ?_
      rw [EReal.coe_mul]
      exact congrArg₂ (· * ·) ((a_at V c t hN d (z 2)).trans (ho _ _ _)) ((b_at V c t hN d (z 2)).trans (hy _ _ _))
  blk_simp
  rw [after1_2]
  have g := congrArg (fun i : S8x1x16384.Idx => ((∑ d, o (i 0) d (i 2) * y (i 0) d (i 2) : ℝ) : EReal)) (e z)
  refine (key z).trans ?_
  exact g.symm

end Cert.Blocks

end
-- ==== Proof.PayBwd.lean ====
/-
  What the stored values of the backward call are at an index, over the ideal values.
-/
module

public import proofs.«01_k».proof.Proof.Gen.KernelIdeal.Skeleton
public import Idealize.ShloMosaic.Lib.Pointwise

@[expose] public section

set_option maxRecDepth 16384

noncomputable section

namespace Cert.Pay

open Cert.KernelIdeal Cert.KernelIdeal.Gen Idealize.ShloMosaic

/-- The tile of the weights, made again from the scores and the stored exponent. -/
theorem p6 (q : FVec Ideal S1x96x2048 .bf16) (k : FVec Ideal S1x1024x96 .bf16) (l : FVec Ideal S1x1x2048 .f32)
    (t : Fin 1024) (r : Fin 2048) :
    k2_pay6 (F := Ideal) q k l (ix2 t r) = Ideal.exp2 ((∑ x, k (ix3 0 t x) * q (ix3 0 x r))
      * Named.named (F := Ideal) κ "scale_log2e" (φ := .f32) 0x3E16C740#32 - l (ix3 0 0 r)) := by
  pointwise [k2_pay6, k2_pay4]
  rfl

/-- The tile of the gradient of the scores. -/
theorem p7 (q : FVec Ideal S1x96x2048 .bf16) (y : FVec Ideal S1x64x2048 .bf16) (k : FVec Ideal S1x1024x96 .bf16)
    (l : FVec Ideal S1x1x2048 .f32) (v : FVec Ideal S1x1024x64 .bf16) (dl : FVec Ideal S1x1x2048 .f32)
    (t : Fin 1024) (r : Fin 2048) :
    k2_pay7 (F := Ideal) q y k l v dl (ix2 t r) = k2_pay6 (F := Ideal) q k l (ix2 t r)
      * (∑ x, v (ix3 0 t x) * y (ix3 0 x r) - dl (ix3 0 0 r)) := by
  pointwise [k2_pay7, k2_pay5]

/-- The values' gradient after a tile. -/
theorem p8 (y : FVec Ideal S1x64x2048 .bf16) (p : FVec Ideal S1024x2048 .bf16) (a : FVec Ideal S1x64x1024 .f32)
    (d : Fin 64) (t : Fin 1024) :
    k2_pay8 (F := Ideal) (k2_pay5 y) p a (ix3 0 d t) = a (ix3 0 d t) + ∑ x, y (ix3 0 d x) * p (ix2 t x) := by
  pointwise [k2_pay8, k2_pay5]

/-- The keys' gradient after a tile, not yet scaled. -/
theorem p9 (q : FVec Ideal S1x96x2048 .bf16) (p : FVec Ideal S1024x2048 .bf16) (a : FVec Ideal S1x96x1024 .f32)
    (d : Fin 96) (t : Fin 1024) :
    k2_pay9 (F := Ideal) (k2_pay4 q) p a (ix3 0 d t) = a (ix3 0 d t) + ∑ x, q (ix3 0 d x) * p (ix2 t x) := by
  pointwise [k2_pay9, k2_pay4]

/-- The queries' gradient after a tile, not yet scaled. -/
theorem p10 (p : FVec Ideal S1024x2048 .bf16) (a : FVec Ideal S96x2048 .f32) (k : FVec Ideal S1x96x1024 .bf16)
    (d : Fin 96) (r : Fin 2048) :
    k2_pay10 (F := Ideal) p a k (ix2 d r) = a (ix2 d r) + ∑ x, k (ix3 0 d x) * p (ix2 x r) := by
  pointwise [k2_pay10]

/-- The queries' gradient as stored. -/
theorem p11 (a : FVec Ideal S96x2048 .f32) (d : Fin 96) (r : Fin 2048) :
    k2_pay11 (F := Ideal) a (ix3 0 d r)
      = a (ix2 d r) * Named.named (F := Ideal) κ "scale" (φ := .f32) 0x3DD105EC#32 := by
  pointwise [k2_pay11]

/-- The keys' gradient as stored. -/
theorem p12 (a : FVec Ideal S1x96x1024 .f32) (d : Fin 96) (t : Fin 1024) :
    k2_pay12 (F := Ideal) a (ix3 0 d t)
      = a (ix3 0 d t) * Named.named (F := Ideal) κ "scale" (φ := .f32) 0x3DD105EC#32 := by
  pointwise [k2_pay12]

theorem p1 (i : S96x2048.Idx) : k2_pay1 (F := Ideal) i = 0 := by
  pointwise [k2_pay1]

theorem p2 (d : Fin 96) (t : Fin 1024) : k2_pay2 (F := Ideal) (ix3 0 d t) = 0 := by
  pointwise [k2_pay2]

theorem p3 (d : Fin 64) (t : Fin 1024) : k2_pay3 (F := Ideal) (ix3 0 d t) = 0 := by
  pointwise [k2_pay3]

end Cert.Pay

end
-- ==== Proof.BwdValue.lean ====
/-
  The backward kernel's sweeps on real-valued operands: a tile's weights are the softmax, its other tile the gradient of the
  scores, and the three sums kept while the tiles pass are the three gradients.
-/
module

public import proofs.«01_k».proof.Proof.PayBwd
public import proofs.«01_k».proof.Proof.Tiles
public import proofs.«01_k».proof.Proof.BwdSteps

@[expose] public section

set_option maxRecDepth 16384

noncomputable section

namespace Cert.BwdValue

open Cert.KernelIdeal Cert.KernelIdeal.Gen Idealize.ShloMosaic
open Cert.Spec Cert.Tiles Cert.Proof

variable {q k : Rows → Heads → Fin 96 → ℝ} {v : Rows → Heads → Fin 64 → ℝ} {y : Heads → Fin 64 → Rows → ℝ}
  {lam : Heads → Rows → ℝ}

/-- The operands of every point are tiles of real arrays; `lam` is an exponent from which the softmax can be made again. -/
structure Args (o : Ops Ideal) (q k : Rows → Heads → Fin 96 → ℝ) (v : Rows → Heads → Fin 64 → ℝ)
    (y : Heads → Fin 64 → Rows → ℝ) (lam : Heads → Rows → ℝ) : Prop where
  hq : ∀ n < 1024, ∀ d r, o.q n (ix3 0 d r) = ((q (row 2048 (n / 16 % 8) r) (hd (n / 128)) d : ℝ) : EReal)
  hk : ∀ n < 1024, ∀ s d, o.k n (ix3 0 s d) = ((k (row 1024 (n % 16) s) (hd (n / 128)) d : ℝ) : EReal)
  hkt : ∀ n < 1024, ∀ d s, o.kt n (ix3 0 d s) = ((k (row 1024 (n % 16) s) (hd (n / 128)) d : ℝ) : EReal)
  hv : ∀ n < 1024, ∀ s d, o.v n (ix3 0 s d) = ((v (row 1024 (n % 16) s) (hd (n / 128)) d : ℝ) : EReal)
  hy : ∀ n < 1024, ∀ d r, o.dy n (ix3 0 d r) = ((y (hd (n / 128)) d (row 2048 (n / 16 % 8) r) : ℝ) : EReal)
  hlse : ∀ n < 1024, ∀ r, o.lse n (ix3 0 0 r) = ((lam (hd (n / 128)) (row 2048 (n / 16 % 8) r) : ℝ) : EReal)
  hdl : ∀ n < 1024, ∀ r, o.dl n (ix3 0 0 r) = ((D q k v y (hd (n / 128)) (row 2048 (n / 16 % 8) r) : ℝ) : EReal)
  hexp : ∀ h r t, Real.exp (score q k h r t * sc - lam h r * Real.log 2) = P q k h r t

variable {o : Ops Ideal} (A : Args o q k v y lam)

include A in
/-- A tile of the softmax. -/
theorem weights (n : ℕ) (hn : n < 1024) (s : Fin 1024) (r : Fin 2048) :
    k2_pay6 (F := Ideal) (o.q n) (o.k n) (o.lse n) (ix2 s r)
      = ((P q k (hd (n / 128)) (row 2048 (n / 16 % 8) r) (row 1024 (n % 16) s) : ℝ) : EReal) := by
  rw [Pay.p6, A.hlse n hn]
  simp only [A.hq n hn, A.hk n hn, Consts.scaleLog2e, ← EReal.coe_mul, Consts.coe_sum, ← EReal.coe_sub, Ideal.exp2_coe, two_rpow_scale]
  rw [← A.hexp, score]
  simp only [mul_comm (k _ _ _)]

include A in
/-- A tile of the gradient of the scores. -/
theorem grads (n : ℕ) (hn : n < 1024) (s : Fin 1024) (r : Fin 2048) :
    dsA o n (ix2 s r) = ((dS q k v y (hd (n / 128)) (row 2048 (n / 16 % 8) r) (row 1024 (n % 16) s) : ℝ) : EReal) := by
  rw [dsA, Pay.p7, weights A n hn, A.hdl n hn]
  simp only [A.hv n hn, A.hy n hn, ← EReal.coe_mul, Consts.coe_sum, ← EReal.coe_sub]
  rw [dS, dP]
  simp only [mul_comm (v _ _ _)]

include A in
/-- The queries' sum after key tile `j`. -/
theorem dq_sweep (g : ℕ) (hg : g < 64) (d : Fin 96) (r : Fin 2048) : ∀ j < 16, dqA o (16 * g) j (ix2 d r)
    = ((∑ i ∈ Finset.range (j + 1), ∑ s, dS q k v y (hd (g / 8)) (row 2048 (g % 8) r) (row 1024 i s)
        * k (row 1024 i s) (hd (g / 8)) d : ℝ) : EReal) := by
  have tile : ∀ j < 16, (∑ x, o.kt (16 * g + j) (ix3 0 d x) * dsA o (16 * g + j) (ix2 x r))
      = ((∑ s, dS q k v y (hd (g / 8)) (row 2048 (g % 8) r) (row 1024 j s) * k (row 1024 j s) (hd (g / 8)) d : ℝ) : EReal) := by
    intro j hj
    simp only [grads A _ (show 16 * g + j < 1024 by omega), A.hkt _ (show 16 * g + j < 1024 by omega), ← EReal.coe_mul, Consts.coe_sum,
      show (16 * g + j) / 16 % 8 = g % 8 by omega, show (16 * g + j) / 128 = g / 8 by omega, show (16 * g + j) % 16 = j by omega]
    exact congrArg _ (Finset.sum_congr rfl fun _ _ => mul_comm _ _)
  intro j
  induction j with
  | zero =>
      intro hj
      refine (Pay.p10 _ _ _ d r).trans ?_
      rw [Pay.p1, zero_add, Finset.sum_range_one]
      exact tile 0 hj
  | succ j ih =>
      intro hj
      refine (Pay.p10 _ _ _ d r).trans ?_
      rw [ih (by omega), tile (j + 1) hj, ← EReal.coe_add, Finset.sum_range_succ _ (j + 1)]

include A in
/-- The keys' sum after query tile `i`. -/
theorem dk_sweep (h z : ℕ) (hh : h < 8) (hz : z < 16) (d : Fin 96) (s : Fin 1024) : ∀ i < 8, dkA o (128 * h + z) i (ix3 0 d s)
    = ((∑ j ∈ Finset.range (i + 1), ∑ r, dS q k v y (hd h) (row 2048 j r) (row 1024 z s) * q (row 2048 j r) (hd h) d : ℝ) : EReal) := by
  have tile : ∀ j < 8, (∑ x, o.q (128 * h + z + 16 * j) (ix3 0 d x) * dsA o (128 * h + z + 16 * j) (ix2 s x))
      = ((∑ r, dS q k v y (hd h) (row 2048 j r) (row 1024 z s) * q (row 2048 j r) (hd h) d : ℝ) : EReal) := by
    intro j hj
    simp only [grads A _ (show 128 * h + z + 16 * j < 1024 by omega), A.hq _ (show 128 * h + z + 16 * j < 1024 by omega),
      ← EReal.coe_mul, Consts.coe_sum, show (128 * h + z + 16 * j) / 16 % 8 = j by omega,
      show (128 * h + z + 16 * j) / 128 = h by omega, show (128 * h + z + 16 * j) % 16 = z by omega]
    exact congrArg _ (Finset.sum_congr rfl fun _ _ => mul_comm _ _)
  intro j
  induction j with
  | zero =>
      intro hj
      refine (Pay.p9 _ _ _ d s).trans ?_
      rw [Pay.p2, zero_add, Finset.sum_range_one]
      exact tile 0 hj
  | succ j ih =>
      intro hj
      refine (Pay.p9 _ _ _ d s).trans ?_
      rw [ih (by omega), tile (j + 1) hj, ← EReal.coe_add, Finset.sum_range_succ _ (j + 1)]

include A in
/-- The values' sum after query tile `i`. -/
theorem dv_sweep (h z : ℕ) (hh : h < 8) (hz : z < 16) (d : Fin 64) (s : Fin 1024) : ∀ i < 8, dvA o (128 * h + z) i (ix3 0 d s)
    = ((∑ j ∈ Finset.range (i + 1), ∑ r, y (hd h) d (row 2048 j r) * P q k (hd h) (row 2048 j r) (row 1024 z s) : ℝ) : EReal) := by
  have tile : ∀ j < 8, (∑ x, o.dy (128 * h + z + 16 * j) (ix3 0 d x)
        * k2_pay6 (F := Ideal) (o.q (128 * h + z + 16 * j)) (o.k (128 * h + z + 16 * j)) (o.lse (128 * h + z + 16 * j)) (ix2 s x))
      = ((∑ r, y (hd h) d (row 2048 j r) * P q k (hd h) (row 2048 j r) (row 1024 z s) : ℝ) : EReal) := by
    intro j hj
    simp only [weights A _ (show 128 * h + z + 16 * j < 1024 by omega), A.hy _ (show 128 * h + z + 16 * j < 1024 by omega),
      ← EReal.coe_mul, Consts.coe_sum, show (128 * h + z + 16 * j) / 16 % 8 = j by omega,
      show (128 * h + z + 16 * j) / 128 = h by omega, show (128 * h + z + 16 * j) % 16 = z by omega]
  intro j
  induction j with
  | zero =>
      intro hj
      refine (Pay.p8 _ _ _ d s).trans ?_
      rw [Pay.p3, zero_add, Finset.sum_range_one]
      exact tile 0 hj
  | succ j ih =>
      intro hj
      refine (Pay.p8 _ _ _ d s).trans ?_
      rw [ih (by omega), tile (j + 1) hj, ← EReal.coe_add, Finset.sum_range_succ _ (j + 1)]

include A in
/-- The three gradients as stored. -/
theorem dq (g : ℕ) (hg : g < 64) (d : Fin 96) (r : Fin 2048) :
    k2_pay11 (F := Ideal) (dqA o (16 * g) 15) (ix3 0 d r) = ((dQ q k v y (row 2048 (g % 8) r) (hd (g / 8)) d : ℝ) : EReal) := by
  rw [Pay.p11, dq_sweep A g hg d r 15 (by omega), Consts.scale, ← EReal.coe_mul, dQ, sc, ← sum_row (J := 16) (T := 1024) rfl]

include A in
theorem dk (h z : ℕ) (hh : h < 8) (hz : z < 16) (d : Fin 96) (s : Fin 1024) :
    k2_pay12 (F := Ideal) (dkA o (128 * h + z) 7) (ix3 0 d s) = ((dK q k v y (row 1024 z s) (hd h) d : ℝ) : EReal) := by
  rw [Pay.p12, dk_sweep A h z hh hz d s 7 (by omega), Consts.scale, ← EReal.coe_mul, dK, sc, ← sum_row (J := 8) (T := 2048) rfl]

include A in
theorem dv (h z : ℕ) (hh : h < 8) (hz : z < 16) (d : Fin 64) (s : Fin 1024) :
    dvA o (128 * h + z) 7 (ix3 0 d s) = ((dV q k y (row 1024 z s) (hd h) d : ℝ) : EReal) := by
  rw [dv_sweep A h z hh hz d s 7 (by omega), dV, ← sum_row (J := 8) (T := 2048) rfl]

end Cert.BwdValue

end
-- ==== Proof.Blocks2.lean ====
/-
  The backward call's arrays: the blocks the points read, and the three results after the run.
-/
module

public import proofs.«01_k».proof.Proof.BwdValue
public import proofs.«01_k».proof.Proof.Bwd
public import Idealize.ShloMosaic.Lib.Pipeline.ValueKit

@[expose] public section

set_option maxRecDepth 16384

noncomputable section

namespace Cert.Blocks2

open Cert.KernelIdeal Cert.KernelIdeal.Gen Idealize.ShloMosaic Idealize.ShloMosaic.TcCoe
open Idealize.ShloMosaic.Pipeline (Dat arrRef)
open Cert.Spec Cert.Tiles Cert.Proof

theorem row_val (T i : ℕ) (s : Fin T) : (row T i s).val = (i * T + s.val) % 16384 := rfl
theorem hd_val (n : ℕ) : (hd n).val = n % 8 := rfl

/-- The blocks' places. -/
theorem idx2 : ∀ t : Fin cfg2.N, win2_0.index t = ![t.val / 128, 0, t.val / 16 % 8] ∧ win2_1.index t = ![t.val / 128, t.val % 16, 0]
    ∧ win2_2.index t = ![t.val / 128, 0, t.val % 16] ∧ win2_3.index t = ![t.val / 128, t.val % 16, 0]
    ∧ win2_4.index t = ![t.val / 128, 0, t.val / 16 % 8] ∧ win2_5.index t = ![t.val / 128, 0, t.val / 16 % 8]
    ∧ win2_6.index t = ![t.val / 128, 0, t.val / 16 % 8] ∧ win2_7.index t = ![t.val / 128, 0, t.val / 16 % 8] :=
  (by decide +kernel : ∀ t : Fin grid2.N, _)

variable {q k : Rows → Heads → Fin 96 → ℝ} {v : Rows → Heads → Fin 64 → ℝ} {y : Heads → Fin 64 → Rows → ℝ}
  {lam : Heads → Rows → ℝ}
variable (V : Dev nD → Valuation τ sig (Elt Ideal)) (c : Dev nD)

theorem pt2_lt (n : ℕ) (hn : n < 1024) : (pt2 n).val = n := Nat.mod_eq_of_lt hn

theorem q_at (n : ℕ) (hn : n < 1024) (d : Fin 96) (r : Fin 2048) :
    iblk2 V c 0 (pt2 n) (ix3 0 d r) = (V c main_v1 : S8x96x16384.Idx → EReal) (ix3 (hd (n / 128)) d (row 2048 (n / 16 % 8) r)) := by
  have h := pt2_lt n hn
  blk_ext [iblk2, idx2 (pt2 n), row_val, hd_val, h]

theorem k_at (n : ℕ) (hn : n < 1024) (d : Fin 96) (s : Fin 1024) :
    iblk2 V c 1 (pt2 n) (ix3 0 s d) = (V c main_v3 : S8x16384x96.Idx → EReal) (ix3 (hd (n / 128)) (row 1024 (n % 16) s) d) := by
  have h := pt2_lt n hn
  blk_ext [iblk2, idx2 (pt2 n), row_val, hd_val, h]

theorem kt_at (n : ℕ) (hn : n < 1024) (d : Fin 96) (s : Fin 1024) :
    iblk2 V c 2 (pt2 n) (ix3 0 d s) = (V c main_v5 : S8x96x16384.Idx → EReal) (ix3 (hd (n / 128)) d (row 1024 (n % 16) s)) := by
  have h := pt2_lt n hn
  blk_ext [iblk2, idx2 (pt2 n), row_val, hd_val, h]

theorem v_at (n : ℕ) (hn : n < 1024) (d : Fin 64) (s : Fin 1024) :
    iblk2 V c 3 (pt2 n) (ix3 0 s d) = (V c main_v7 : S8x16384x64.Idx → EReal) (ix3 (hd (n / 128)) (row 1024 (n % 16) s) d) := by
  have h := pt2_lt n hn
  blk_ext [iblk2, idx2 (pt2 n), row_val, hd_val, h]

theorem y_at (n : ℕ) (hn : n < 1024) (d : Fin 64) (r : Fin 2048) :
    iblk2 V c 4 (pt2 n) (ix3 0 d r) = (V c main_v16 : S8x64x16384.Idx → EReal) (ix3 (hd (n / 128)) d (row 2048 (n / 16 % 8) r)) := by
  have h := pt2_lt n hn
  blk_ext [iblk2, idx2 (pt2 n), row_val, hd_val, h]

theorem lse_at (n : ℕ) (hn : n < 1024) (r : Fin 2048) :
    iblk2 V c 5 (pt2 n) (ix3 0 0 r) = (V c main_v12_1 : S8x1x16384.Idx → EReal) (ix3 (hd (n / 128)) 0 (row 2048 (n / 16 % 8) r)) := by
  have h := pt2_lt n hn
  blk_ext [iblk2, idx2 (pt2 n), row_val, hd_val, h]

theorem dl_at (n : ℕ) (hn : n < 1024) (r : Fin 2048) :
    iblk2 V c 6 (pt2 n) (ix3 0 0 r) = (V c main_v17 : S8x1x16384.Idx → EReal) (ix3 (hd (n / 128)) 0 (row 2048 (n / 16 % 8) r)) := by
  have h := pt2_lt n hn
  blk_ext [iblk2, idx2 (pt2 n), row_val, hd_val, h]

/-- The contents the call finds are real arrays. -/
structure In2 (q k : Rows → Heads → Fin 96 → ℝ) (v : Rows → Heads → Fin 64 → ℝ) (y : Heads → Fin 64 → Rows → ℝ)
    (lam : Heads → Rows → ℝ) : Prop where
  hq : ∀ h d r, (V c main_v1 : S8x96x16384.Idx → EReal) (ix3 h d r) = ((q r h d : ℝ) : EReal)
  hk : ∀ h r d, (V c main_v3 : S8x16384x96.Idx → EReal) (ix3 h r d) = ((k r h d : ℝ) : EReal)
  hkt : ∀ h d r, (V c main_v5 : S8x96x16384.Idx → EReal) (ix3 h d r) = ((k r h d : ℝ) : EReal)
  hv : ∀ h r d, (V c main_v7 : S8x16384x64.Idx → EReal) (ix3 h r d) = ((v r h d : ℝ) : EReal)
  hy : ∀ h d r, (V c main_v16 : S8x64x16384.Idx → EReal) (ix3 h d r) = ((y h d r : ℝ) : EReal)
  hlse : ∀ h r, (V c main_v12_1 : S8x1x16384.Idx → EReal) (ix3 h 0 r) = ((lam h r : ℝ) : EReal)
  hdl : ∀ h r, (V c main_v17 : S8x1x16384.Idx → EReal) (ix3 h 0 r) = ((D q k v y h r : ℝ) : EReal)
  hexp : ∀ h r t, Real.exp (score q k h r t * sc - lam h r * Real.log 2) = P q k h r t

variable {V c} (I : In2 V c q k v y lam)

include I in
theorem args2 : BwdValue.Args (ops2 V c) q k v y lam where
  hq n hn d r := (q_at V c n hn d r).trans (I.hq _ _ _)
  hk n hn s d := (k_at V c n hn d s).trans (I.hk _ _ _)
  hkt n hn d s := (kt_at V c n hn d s).trans (I.hkt _ _ _)
  hv n hn s d := (v_at V c n hn d s).trans (I.hv _ _ _)
  hy n hn d r := (y_at V c n hn d r).trans (I.hy _ _ _)
  hlse n hn r := (lse_at V c n hn r).trans (I.hlse _ _)
  hdl n hn r := (dl_at V c n hn r).trans (I.hdl _ _)
  hexp := I.hexp

include I in
/-- The queries' gradient after the run. -/
theorem dq : ((dat2 V c).arrAt 7 cfg2.N : S8x96x16384.Idx → EReal) = fun i => ((dQ q k v y (i 2) (i 0) (i 1) : ℝ) : EReal) := by
  refine (dat2 V c).arrAt_eq_of_covers 7 _ (by decide +kernel) fun t hf z => ?_
  have h15 := (flush2_7 t).mp hf
  have hN : t.val < 1024 := lt_of_lt_of_eq t.isLt N_2
  have e : ∀ z : S1x96x2048.Idx, ((cfg2.win 7).blk t).view.emb z
      = (ix3 (hd (t.val / 128)) (z 1) (row 2048 (t.val / 16 % 8) (z 2)) : S8x96x16384.Idx) := fun z => by
    blk_ext [idx2 t, row_val, hd_val]
    show _ = (t.val / 16 % 8 * 2048 + (z 2).val) % 16384
    omega
  have key : ∀ z : S1x96x2048.Idx, k2_pay11 (F := Ideal) (dqA (ops2 V c) (16 * (t.val / 16)) (t.val % 16)) z
      = ((dQ q k v y (row 2048 (t.val / 16 % 8) (z 2)) (hd (t.val / 128)) (z 1) : ℝ) : EReal) := fun z => by
    have h := BwdValue.dq (args2 I) (t.val / 16) (by omega) (z 1) (z 2)
    rw [show t.val / 16 / 8 = t.val / 128 by omega] at h
    rw [h15]
    refine (congrArg _ ?_).trans h
    blk_ext []
  blk_simp
  rw [after2_7]
  have g := congrArg (fun i : S8x96x16384.Idx => ((dQ q k v y (i 2) (i 0) (i 1) : ℝ) : EReal)) (e z)
  refine (key z).trans ?_
  exact g.symm

include I in
/-- The keys' and the values' gradients, tile by tile. -/
theorem dk (h : Heads) (z : Fin 16) (d : Fin 96) (s : Fin 1024) :
    (dkOut V c : S8x16x96x1024.Idx → EReal) (ix4 h z d s) = ((dK q k v y (row 1024 z.val s) h d : ℝ) : EReal) := by
  have g := BwdValue.dk (args2 I) h.val z.val h.isLt z.isLt d s
  rw [show hd h.val = h from Fin.ext (Nat.mod_eq_of_lt h.isLt)] at g
  exact g

include I in
theorem dv (h : Heads) (z : Fin 16) (d : Fin 64) (s : Fin 1024) :
    (dvOut V c : S8x16x64x1024.Idx → EReal) (ix4 h z d s) = ((dV q k y (row 1024 z.val s) h d : ℝ) : EReal) := by
  have g := BwdValue.dv (args2 I) h.val z.val h.isLt z.isLt d s
  rw [show hd h.val = h from Fin.ext (Nat.mod_eq_of_lt h.isLt)] at g
  exact g

end Cert.Blocks2

end
-- ==== Proof.Result.lean ====
/-
  The kernel's four results, entry by entry: the output of the attention and the gradients of its arguments.

  The three calls in turn. The forward call finds the transposed arguments and leaves the output and the logarithms of
  the sums; the second call finds the output and leaves the sums of output times gradient; the backward call finds all of
  these and leaves the three gradients, which the last host operations bring into the arguments' shapes.
-/
module

public import proofs.«01_k».proof.Proof.Run
public import proofs.«01_k».proof.Proof.Host
public import proofs.«01_k».proof.Proof.Blocks0
public import proofs.«01_k».proof.Proof.Blocks1
public import proofs.«01_k».proof.Proof.Blocks2

@[expose] public section

set_option maxRecDepth 16384

noncomputable section

namespace Cert.Result

open Cert.KernelIdeal Cert.KernelIdeal.Gen Idealize.ShloMosaic Idealize.ShloMosaic.TcCoe
open Cert.Spec Cert.Tiles Cert.Proof

variable (m : (ℓ : Loc nD τ sig) → Buf (Elt Ideal) ℓ) (c : Dev nD)

/-- The four arguments, as real arrays. -/
structure Args (q k : Rows → Heads → Fin 96 → ℝ) (v : Rows → Heads → Fin 64 → ℝ) (y : Heads → Fin 64 → Rows → ℝ) : Prop where
  hq : ∀ r h d, (V0 m c main_arg0 : S16384x8x96.Idx → EReal) (ix3 r h d) = ((q r h d : ℝ) : EReal)
  hk : ∀ r h d, (V0 m c main_arg1 : S16384x8x96.Idx → EReal) (ix3 r h d) = ((k r h d : ℝ) : EReal)
  hv : ∀ r h d, (V0 m c main_arg2 : S16384x8x64.Idx → EReal) (ix3 r h d) = ((v r h d : ℝ) : EReal)
  hy : ∀ (h : Heads) (d : Fin 64) (r : Rows),
    (V0 m c main_arg3 : S512x16384.Idx → EReal) (ix2 ⟨h.val * 64 + d.val, by omega⟩ r) = ((y h d r : ℝ) : EReal)

variable {m c} {q k : Rows → Heads → Fin 96 → ℝ} {v : Rows → Heads → Fin 64 → ℝ} {y : Heads → Fin 64 → Rows → ℝ}

/-- What the forward call finds. -/
theorem in0 (A : Args m c q k v y) : Blocks.In0 (V1 m) c q k v where
  q h d r := (Host.v1 _ h d r).trans (A.hq r h d)
  k h r d := (Host.v3 _ h r d).trans (A.hk r h d)
  vt h e r := Host.v11 _ h e r v A.hv

/-- The output as the forward call leaves it. -/
theorem o2 (A : Args m c q k v y) (h : Heads) (d : Fin 64) (r : Rows) :
    (V2 m (outs m) c main_v12_0 : S8x64x16384.Idx → EReal) (ix3 h d r) = ((O q k v h d r : ℝ) : EReal) := by
  have e : V2 m (outs m) c main_v12_0 = (dat0 (V1 m) c).arrAt 3 cfg0.N :=
    (congrFun (V2_eq m c) _).trans (Pipeline.afterRegion_arr (dat0 (V1 m) c) (V1 m c) launch0.win.arr_inj 3)
  rw [e]
  exact congrFun (Blocks.out0 (in0 A)) (ix3 h d r)

/-- What the forward call leaves in the logarithms of the sums. -/
theorem l2 (A : Args m c q k v y) : ∃ lam : Heads → Rows → ℝ, ∀ h r,
    (V2 m (outs m) c main_v12_1 : S8x1x16384.Idx → EReal) (ix3 h 0 r) = ((lam h r : ℝ) : EReal)
      ∧ ∀ u, Real.exp (score q k h r u * sc - lam h r * Real.log 2) = P q k h r u := by
  have e : V2 m (outs m) c main_v12_1 = (dat0 (V1 m) c).arrAt 4 cfg0.N :=
    (congrFun (V2_eq m c) _).trans (Pipeline.afterRegion_arr (dat0 (V1 m) c) (V1 m c) launch0.win.arr_inj 4)
  rw [e]
  choose lam hl using fun (h : Heads) (r : Rows) => Blocks.lam0 (in0 A) (ix3 h 0 r)
  exact ⟨lam, hl⟩

/-- A buffer none of the items up to the second call writes. -/
theorem keep3 (r : Ref sig .tc) (h0 : r ∉ hostOps0_W) (h1 : r ∉ ([main_v12_0, main_v12_1] : List (Ref sig .tc))) :
    V2 m (outs m) c r = V0 m c r := (V2_of m _ c r h1).trans (V1_of m c r h0)

theorem y3 (A : Args m c q k v y) (h : Heads) (d : Fin 64) (r : Rows) :
    (U3 m c main_v16 : S8x64x16384.Idx → EReal) (ix3 h d r) = ((y h d r : ℝ) : EReal) := by
  rw [← V3_eq]
  refine (Host.v16 _ h d r).trans ?_
  rw [keep3 main_arg3 (by decide) (by decide)]
  exact A.hy h d r

theorem o3 (A : Args m c q k v y) (h : Heads) (d : Fin 64) (r : Rows) :
    (U3 m c main_v12_0 : S8x64x16384.Idx → EReal) (ix3 h d r) = ((O q k v h d r : ℝ) : EReal) := by
  rw [← V3_eq, V3_of m _ c main_v12_0 (by decide)]
  exact o2 A h d r

/-- The sums of output times gradient. -/
theorem d4 (A : Args m c q k v y) (h : Heads) (r : Rows) :
    (U4 m c main_v17 : S8x1x16384.Idx → EReal) (ix3 h 0 r) = ((D q k v y h r : ℝ) : EReal) := by
  have e : U4 m c main_v17 = (dat1 (U3 m) c).arrAt 2 cfg1.N :=
    Pipeline.afterRegion_arr (dat1 (U3 m) c) (U3 m c) launch1.win.arr_inj 2
  rw [e, D_eq]
  exact congrFun (Blocks.out1 (V := U3 m) (o3 A) (y3 A)) (ix3 h 0 r)

/-- A buffer the second call finds and does not write. -/
theorem keep4 (r : Ref sig .tc) (h : r ∉ ([main_v17] : List (Ref sig .tc))) : U4 m c r = U3 m c r := by
  rw [← V4_eq, ← V3_eq, V4_of m _ c r h]

/-- A buffer the forward call finds, and which reaches the backward call. -/
theorem keep1 (r : Ref sig .tc) (h4 : r ∉ ([main_v17] : List (Ref sig .tc))) (h3 : r ∉ hostOps1_W)
    (h2 : r ∉ ([main_v12_0, main_v12_1] : List (Ref sig .tc))) : U4 m c r = V1 m c r := by
  rw [keep4 r h4, ← V3_eq, V3_of m _ c r h3, V2_of m _ c r h2]

/-- What the backward call finds. -/
theorem in2 (A : Args m c q k v y) : ∃ lam, Blocks2.In2 (U4 m) c q k v y lam := by
  obtain ⟨lam, hl⟩ := l2 A
  refine ⟨lam, ?_, ?_, ?_, ?_, ?_, ?_, d4 A, fun h r t => (hl h r).2 t⟩
  · intro h d r; rw [keep1 main_v1 (by decide) (by decide) (by decide)]; exact (in0 A).q h d r
  · intro h r d; rw [keep1 main_v3 (by decide) (by decide) (by decide)]; exact (in0 A).k h r d
  · intro h d r; rw [keep1 main_v5 (by decide) (by decide) (by decide)]; exact (Host.v5 _ h d r).trans (A.hk r h d)
  · intro h r d; rw [keep1 main_v7 (by decide) (by decide) (by decide)]; exact (Host.v7 _ h r d).trans (A.hv r h d)
  · intro h d r; rw [keep4 main_v16 (by decide)]; exact y3 A h d r
  · intro h r; rw [keep4 main_v12_1 (by decide), ← V3_eq, V3_of m _ c main_v12_1 (by decide)]; exact (hl h r).1

/-- The output of the attention. -/
theorem o (A : Args m c q k v y) (h : Heads) (d : Fin 64) (r : Rows) :
    (V6 m (outs m) c main_v14 : S512x16384.Idx → EReal) (ix2 ⟨h.val * 64 + d.val, by omega⟩ r) = ((O q k v h d r : ℝ) : EReal) := by
  rw [V6_of m _ c main_v14 (by decide), V5_of m _ c main_v14 (by decide), V4_of m _ c main_v14 (by decide)]
  exact (Host.v14 _ h d r).trans (o2 A h d r)

/-- The gradient of `q`. -/
theorem dq (A : Args m c q k v y) (r : Rows) (h : Heads) (d : Fin 96) :
    (V6 m (outs m) c main_v19 : S16384x8x96.Idx → EReal) (ix3 r h d) = ((dQ q k v y r h d : ℝ) : EReal) := by
  obtain ⟨lam, I⟩ := in2 A
  refine (Host.v19 _ r h d).trans ?_
  rw [V5_eq]
  have e : U5 m c main_v18_0 = (dat2 (U4 m) c).arrAt 7 cfg2.N := U5_arr m c 7
  rw [e]
  exact congrFun (Blocks2.dq I) (ix3 h d r)

/-- Every row lies in one of sixteen tiles of 1024 rows. -/
theorem row_split (r : Rows) : ∃ (z : Fin 16) (s : Fin 1024), r = row 1024 z.val s :=
  ⟨⟨r.val / 1024, by omega⟩, ⟨r.val % 1024, by omega⟩, Fin.ext (by show r.val = (r.val / 1024 * 1024 + r.val % 1024) % 16384; omega)⟩

/-- The gradient of `k`. -/
theorem dk (A : Args m c q k v y) (r : Rows) (h : Heads) (d : Fin 96) :
    (V6 m (outs m) c main_v21 : S16384x8x96.Idx → EReal) (ix3 r h d) = ((dK q k v y r h d : ℝ) : EReal) := by
  obtain ⟨lam, I⟩ := in2 A
  obtain ⟨z, s, rfl⟩ := row_split r
  refine (Host.v21 _ z s h d).trans ?_
  rw [V5_eq, U5_dk]
  exact Blocks2.dk I h z d s

/-- The gradient of `v`. -/
theorem dv (A : Args m c q k v y) (r : Rows) (h : Heads) (d : Fin 64) :
    (V6 m (outs m) c main_v23 : S16384x8x64.Idx → EReal) (ix3 r h d) = ((dV q k y r h d : ℝ) : EReal) := by
  obtain ⟨lam, I⟩ := in2 A
  obtain ⟨z, s, rfl⟩ := row_split r
  refine (Host.v23 _ z s h d).trans ?_
  rw [V5_eq, U5_dv]
  exact Blocks2.dv I h z d s

end Cert.Result

end
-- ==== Proof.Pre.lean ====
/-
  The precondition read back: every entry of every argument is a real number.
-/
module

public import proofs.«01_k».proof.Pre_finite
public import proofs.«01_k».proof.Proof.Consts
public import Idealize.ShloMosaic.Lib.ReduceAll
public import Idealize.ShloMosaic.Lib.Pointwise

@[expose] public section

set_option maxRecDepth 16384

noncomputable section

namespace Cert.Pre

open Cert.Pre_finite Idealize.ShloMosaic

/-- The side conditions the predicate's operations take. -/
theorem facts : Cert.Pre_finite.Facts where
  bcast_S_S16384x8x96 := by decide
  reducesTo_S16384x8x96_S_d0_1_2 := by decide
  h_S_ := by decide
  bcast_S_S16384x8x64 := by decide
  reducesTo_S16384x8x64_S_d0_1_2 := by decide
  bcast_S_S512x16384 := by decide
  reducesTo_S512x16384_S_d0_1 := by decide

instance : Subsingleton S_.Idx := ⟨fun a b => funext fun i => i.elim0⟩

/-- An extended real whose absolute value is below +∞ is a real number. -/
theorem real_of_lt {x : EReal} (h : Ideal.cmp .olt (FloatOps.absf (F := Ideal) (φ := .f32) x) ⊤ = 1#1) : x = ((x.toReal : ℝ) : EReal) := by
  refine (EReal.coe_toReal ?_ ?_).symm <;> rintro rfl <;> revert h <;> simp [Ideal.cmp, FloatOps.absf]

/-- The comparison of an array with +∞, all of it 1: every entry is a real number. -/
theorem real_of_all {s : Shape} {axes : List (Fin s.rank)} (x : FVec Ideal s .f32) (hb : S_.BroadcastsInDim s (![] : Fin 0 → Fin s.rank))
    (hr : s.ReducesTo axes S_) (hu : 0 < S_.numel) (init : S_.Idx → BitVec 1) (j : S_.Idx)
    (e : Host.reduce IntOp.andi (cmpf .olt (Host.absf x) (broadcastInDim s ![] hb (constant (F := Ideal) S_ .f32 0x7F800000#32))) init hr hu j = 1#1)
    (i : s.Idx) : x i = (((x i : EReal).toReal : ℝ) : EReal) := by
  have h := Host.reduce_andi_all _ _ hr hu j e i
  refine real_of_lt ?_
  rw [← Consts.pinf]
  exact h

/-- The precondition: every entry of the four arguments is a real number. -/
theorem real [h : Cert.Pre_finite.Facts] (x0 x1 : FVec Ideal S16384x8x96 .f32) (x2 : FVec Ideal S16384x8x64 .f32) (x3 : FVec Ideal S512x16384 .f32)
    (e : Cert.Pre_finite.fn (F := Ideal) x0 x1 x2 x3 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ ∀ i, x3 i = (((x3 i : EReal).toReal : ℝ) : EReal) := by
  have j : S_.Idx := fun i => i.elim0
  have e' := congrFun e j
  obtain ⟨e012, e3⟩ := IntOp.andi_eq_one.1 e'
  obtain ⟨e01, e2⟩ := IntOp.andi_eq_one.1 e012
  obtain ⟨e0, e1⟩ := IntOp.andi_eq_one.1 e01
  exact ⟨real_of_all x0 _ _ _ _ j e0, real_of_all x1 _ _ _ _ j e1, real_of_all x2 _ _ _ _ j e2, real_of_all x3 _ _ _ _ j e3⟩

end Cert.Pre

end
-- ==== Proof.Algebraic.lean ====
/-
  The value claim: on finite arguments the kernel and the reference end with the same four results.

  Both sides are the real-valued output and gradients of `Spec.lean`: the kernel's by `Result.lean`, the reference's by
  `RefValue.lean`.
-/
module

public import proofs.«01_k».proof.Defs
public import proofs.«01_k».proof.Proof.Gen.ReferenceIdeal.Run
public import proofs.«01_k».proof.Proof.RefValue
public import proofs.«01_k».proof.Proof.Result
public import proofs.«01_k».proof.Proof.Whole
public import proofs.«01_k».proof.Proof.Pre

@[expose] public section

set_option maxRecDepth 16384

noncomputable section

namespace Cert.Algebraic

open Idealize.ShloMosaic Idealize.ShloMosaic.TcCoe Idealize.SL.Sem
open Cert.KernelIdeal Cert.KernelIdeal.Gen
open Cert.Spec

/-- The kernel's arguments, as real arrays. -/
theorem args (m : (ℓ : Loc nD τ sig) → Buf (Elt Ideal) ℓ) (c : Dev nD) (hpre : Cert.Pre_KernelIdeal_finite (hPre_finite := Pre.facts) m) :
    ∃ q k v y, Result.Args m c q k v y := by
  obtain ⟨h0, h1, h2, h3⟩ := Pre.real (h := Pre.facts) _ _ _ _ (hpre c)
  exact ⟨_, _, _, _, fun r h d => h0 (ix3 r h d), fun r h d => h1 (ix3 r h d), fun r h d => h2 (ix3 r h d),
    fun h d r => h3 (ix2 ⟨h.val * 64 + d.val, by omega⟩ r)⟩

/-- A pair of a head and a channel counts the rows of the output. -/
theorem head_split (i : Fin 512) : ∃ (h : Heads) (d : Fin 64), i = ⟨h.val * 64 + d.val, by omega⟩ :=
  ⟨⟨i.val / 64, by omega⟩, ⟨i.val % 64, by omega⟩, Fin.ext (by show i.val = i.val / 64 * 64 + i.val % 64; omega)⟩

section
variable (m : (ℓ : Loc nD τ sig) → Buf (Elt Ideal) ℓ) (c : Dev nD) (hpre : Cert.Pre_KernelIdeal_finite (hPre_finite := Pre.facts) m)
include hpre

theorem o_eq : ReferenceIdeal.Read.val_main_v33 (F := Ideal) (V0 m c main_arg0) (V0 m c main_arg1) (V0 m c main_arg2)
    = V6 m (Proof.outs m) c main_v14 := by
  obtain ⟨q, k, v, y, A⟩ := args m c hpre
  have B : RefValue.Args q k v y (V0 m c main_arg0) (V0 m c main_arg1) (V0 m c main_arg2) (V0 m c main_arg3) := ⟨A.hq, A.hk, A.hv, A.hy⟩
  obtain ⟨M, hM⟩ := RefValue.rowMax B
  funext i
  rw [eq_ix2 i]
  obtain ⟨h, d, e⟩ := head_split (i 0)
  rw [e]
  exact (RefValue.out B hM h d (i 1)).trans (Result.o A h d (i 1)).symm

theorem dq_eq : ReferenceIdeal.Read.val_main_v55 (F := Ideal) (V0 m c main_arg0) (V0 m c main_arg1) (V0 m c main_arg2) (V0 m c main_arg3)
    = V6 m (Proof.outs m) c main_v19 := by
  obtain ⟨q, k, v, y, A⟩ := args m c hpre
  have B : RefValue.Args q k v y (V0 m c main_arg0) (V0 m c main_arg1) (V0 m c main_arg2) (V0 m c main_arg3) := ⟨A.hq, A.hk, A.hv, A.hy⟩
  obtain ⟨M, hM⟩ := RefValue.rowMax B
  funext i
  rw [eq_ix3 i]
  exact (RefValue.dq B hM (i 0) (i 1) (i 2)).trans (Result.dq A (i 0) (i 1) (i 2)).symm

theorem dk_eq : ReferenceIdeal.Read.val_main_v53 (F := Ideal) (V0 m c main_arg0) (V0 m c main_arg1) (V0 m c main_arg2) (V0 m c main_arg3)
    = V6 m (Proof.outs m) c main_v21 := by
  obtain ⟨q, k, v, y, A⟩ := args m c hpre
  have B : RefValue.Args q k v y (V0 m c main_arg0) (V0 m c main_arg1) (V0 m c main_arg2) (V0 m c main_arg3) := ⟨A.hq, A.hk, A.hv, A.hy⟩
  obtain ⟨M, hM⟩ := RefValue.rowMax B
  funext i
  rw [eq_ix3 i]
  exact (RefValue.dk B hM (i 0) (i 1) (i 2)).trans (Result.dk A (i 0) (i 1) (i 2)).symm

theorem dv_eq : ReferenceIdeal.Read.val_main_v37 (F := Ideal) (V0 m c main_arg0) (V0 m c main_arg1) (V0 m c main_arg3)
    = V6 m (Proof.outs m) c main_v23 := by
  obtain ⟨q, k, v, y, A⟩ := args m c hpre
  have B : RefValue.Args q k v y (V0 m c main_arg0) (V0 m c main_arg1) (V0 m c main_arg2) (V0 m c main_arg3) := ⟨A.hq, A.hk, A.hv, A.hy⟩
  obtain ⟨M, hM⟩ := RefValue.rowMax B
  funext i
  rw [eq_ix3 i]
  exact (RefValue.dv B hM (i 0) (i 1) (i 2)).trans (Result.dv A (i 0) (i 1) (i 2)).symm
end

/-- Kernel and reference run and end with equal results, their arguments unchanged. -/
theorem algebraic : Cert.algebraic_KernelIdeal_ReferenceIdeal_pre_finite (hKernelIdeal := Cert.KernelIdeal.Gen.facts)
    (hReferenceIdeal := Cert.ReferenceIdeal.Gen.facts) (hPre_finite := Pre.facts) := by
  intro m ρ m' ρ' hpre hagree
  refine ⟨fun c => V6 m (Proof.outs m) c main_v14, fun c => V6 m (Proof.outs m) c main_v19, fun c => V6 m (Proof.outs m) c main_v21,
    fun c => V6 m (Proof.outs m) c main_v23, ?_, ?_⟩
  · refine (θ_run defs _ _).mono (fun r h c => ?_) (Proof.run (F := Ideal) m ρ)
    exact ⟨h.1 c _ (Proof.mem_uc main_v14 rfl), h.1 c _ (Proof.mem_uc main_v19 rfl), h.1 c _ (Proof.mem_uc main_v21 rfl),
      h.1 c _ (Proof.mem_uc main_v23 rfl),
      (h.1 c _ (Proof.mem_uc main_arg0 rfl)).trans (V6_main_arg0 m (Proof.outs m) c),
      (h.1 c _ (Proof.mem_uc main_arg1 rfl)).trans (V6_main_arg1 m (Proof.outs m) c),
      (h.1 c _ (Proof.mem_uc main_arg2 rfl)).trans (V6_main_arg2 m (Proof.outs m) c),
      (h.1 c _ (Proof.mem_uc main_arg3 rfl)).trans (V6_main_arg3 m (Proof.outs m) c)⟩
  · refine (θ_run Cert.ReferenceIdeal.defs _ _).mono (fun r h c => ?_) (Cert.ReferenceIdeal.Value.run (F := Ideal) m' ρ')
    obtain ⟨h0, h1, h2, h3, ha⟩ := h c
    obtain ⟨a0, a1, a2, a3⟩ := hagree c
    refine ⟨?_, ?_, ?_, ?_, ha⟩
    · refine h0.trans ((ReferenceIdeal.Read.val_main_v33_eq _ _ _).trans ?_)
      rw [a0, a1, a2]; exact o_eq m c hpre
    · refine h1.trans ((ReferenceIdeal.Read.val_main_v55_eq m' c).trans ?_)
      rw [a0, a1, a2, a3]; exact dq_eq m c hpre
    · refine h2.trans ((ReferenceIdeal.Read.val_main_v53_eq m' c).trans ?_)
      rw [a0, a1, a2, a3]; exact dk_eq m c hpre
    · refine h3.trans ((ReferenceIdeal.Read.val_main_v37_eq _ _ _).trans ?_)
      rw [a0, a1, a3]; exact dv_eq m c hpre

end Cert.Algebraic

end
-- ==== Proof.FfnRun.lean ====
/-
  One grid point of each of the three SwiGLU calls, run once.

  Each body reads its operands' blocks whole, and writes its results' blocks whole: nothing of what a result's buffer held
  before survives.
-/
module

public import proofs.«01_k».proof.Proof.Gen.Kernel2Ideal.Regions
public import proofs.«01_k».proof.Proof.Gen.Kernel2Ideal.Skeleton
public import proofs.«01_k».proof.Proof.Gen.Kernel2Ideal.Points
public import Idealize.ShloMosaic.Lib.Tactic
public import Idealize.ShloMosaic.Lib.VecWindow
public import Idealize.ShloMosaic.Lib.ValueLayout
public import Idealize.ShloMosaic.Lib.Pipeline.ValueKit

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipelines' own, and counters nothing uses. -/
abbrev UU : Type := UR sig nD τ × Counters

local notation "𝕄" => MT nD τ sig Unit (Elt F) ℕ UU ℕ

/-- Memref `M`'s buffer on core `c`, held whole at contents that read `x`. -/
abbrev hold (c : Dev nD) {sp : Space} {S : Shape} {e : EltTy} (M : Memref sig .tc sp S e) (x : S.Idx → Elt F e) : sProp 𝕄 :=
  iprop(∃ f : Buf (Elt F) (M.view.loc (c : Thread nD τ)), ⌜M.view.read (Elt F) f = x⌝ ∗ M.view.loc (c : Thread nD τ) ↦{fullShare} f)

theorem owns_eq_hold (c : Dev nD) {sp : Space} {S : Shape} {e : EltTy} (M : Memref sig .tc sp S e) (h : M.IsWhole) (x : S.Idx → Elt F e) :
    (owns (c : Thread nD τ) M fullShare x : sProp 𝕄) = hold c M x := by
  unfold owns; rw [h.set_eq_univ]

set_option maxHeartbeats 4000000 in
/-- One point of the first call: `t`, `a = h·w1` and `b = h·w3`. -/
theorem upRun (c : Dev nD) (i : grid0.Coords)
    (M0 : Memref sig .tc .vmem S512x1024 .bf16) (h0 : M0.IsWhole) (M1 : Memref sig .tc .vmem S1024x1408 .bf16) (h1 : M1.IsWhole)
    (M2 : Memref sig .tc .vmem S1024x1408 .bf16) (h2 : M2.IsWhole) (M3 : Memref sig .tc .vmem S512x1408 .bf16) (h3 : M3.IsWhole)
    (M4 : Memref sig .tc .vmem S512x1408 .bf16) (h4 : M4.IsWhole) (M5 : Memref sig .tc .vmem S512x1408 .bf16) (h5 : M5.IsWhole)
    (h : Vec F S512x1024 .bf16) (w1 w3 : Vec F S1024x1408 .bf16) (d3 d4 d5 : Vec F S512x1408 .bf16) (Q : PUnit → sProp 𝕄) :
    iprop(hold c M0 h ∗ hold c M1 w1 ∗ hold c M2 w3 ∗ hold c M3 d3 ∗ hold c M4 d4 ∗ hold c M5 d5
      ∗ (iprop(hold c M0 h ∗ hold c M1 w1 ∗ hold c M2 w3 ∗ hold c M3 (k0_pay6 h w1 w3) ∗ hold c M4 (k0_pay4 h w1) ∗ hold c M5 (k0_pay5 h w3)) -∗ Q ⟨⟩))
    ⊢ wp frame (wpE (defs₀ (F := F)) Variants.none c none) Set.univ (cc0_ffn_up i M0 h0 M1 h1 M2 h2 M3 h3 M4 h4 M5 h5) Q := by
  simp only [cc0_ffn_up_eq_skeleton]; unfold cc0_ffn_up_skel
  iintro ⟨⟨%f0, %e0, H0⟩, ⟨%f1, %e1, H1⟩, ⟨%f2, %e2, H2⟩, ⟨%f3, %e3, H3⟩, ⟨%f4, %e4, H4⟩, ⟨%f5, %e5, H5⟩, Hk⟩
  subst e0 e1 e2 e3 e4 e5
  have r0 : ∀ f inb, View.readAt (Elt F) M0.view (Rect.unit (s := S512x1024) ![0, 0] ![512, 1024] inb).toLoadRect f = M0.view.read (Elt F) f := fun f inb => View.readAt_full M0.view f inb
  have r1 : ∀ f inb, View.readAt (Elt F) M1.view (Rect.unit (s := S1024x1408) ![0, 0] ![1024, 1408] inb).toLoadRect f = M1.view.read (Elt F) f := fun f inb => View.readAt_full M1.view f inb
  have r2 : ∀ f inb, View.readAt (Elt F) M2.view (Rect.unit (s := S1024x1408) ![0, 0] ![1024, 1408] inb).toLoadRect f = M2.view.read (Elt F) f := fun f inb => View.readAt_full M2.view f inb
  have w3 : ∀ f inb w L, M3.view.read (Elt F) (M3.view.writes (Elt F) f (⟨Rect.unit (s := S512x1408) ![0, 0] ![512, 1408] inb, w⟩ :: L)) = w := fun f inb w L => View.read_writes_full M3.view f inb w L
  have w4 : ∀ f inb w L, M4.view.read (Elt F) (M4.view.writes (Elt F) f (⟨Rect.unit (s := S512x1408) ![0, 0] ![512, 1408] inb, w⟩ :: L)) = w := fun f inb w L => View.read_writes_full M4.view f inb w L
  have w5 : ∀ f inb w L, M5.view.read (Elt F) (M5.view.writes (Elt F) f (⟨Rect.unit (s := S512x1408) ![0, 0] ![512, 1408] inb, w⟩ :: L)) = w := fun f inb w L => View.read_writes_full M5.view f inb w L
  sl_exec
  sl_step
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]
  · iexists _; isplitr; swap; (· iexact H3); ipureintro
    sl_unfold_words
    simp only [r0, r1, r2, w3]
  isplitl [H4]
  · iexists _; isplitr; swap; (· iexact H4); ipureintro
    sl_unfold_words
    simp only [r0, r1, r2, w4]
  iexists _; isplitr; swap; (· iexact H5); ipureintro
  sl_unfold_words
  simp only [r0, r1, r2, w5]

set_option maxHeartbeats 4000000 in
/-- One point of the second call: the gradients of `a` and of `b`. -/
theorem dtRun (c : Dev nD) (i : grid1.Coords)
    (M0 : Memref sig .tc .vmem S512x1024 .bf16) (h0 : M0.IsWhole) (M1 : Memref sig .tc .vmem S1408x1024 .bf16) (h1 : M1.IsWhole)
    (M2 : Memref sig .tc .vmem S512x1408 .bf16) (h2 : M2.IsWhole) (M3 : Memref sig .tc .vmem S512x1408 .bf16) (h3 : M3.IsWhole)
    (M4 : Memref sig .tc .vmem S512x1408 .bf16) (h4 : M4.IsWhole) (M5 : Memref sig .tc .vmem S512x1408 .bf16) (h5 : M5.IsWhole)
    (g : Vec F S512x1024 .bf16) (w2 : Vec F S1408x1024 .bf16) (a b d4 d5 : Vec F S512x1408 .bf16) (Q : PUnit → sProp 𝕄) :
    iprop(hold c M0 g ∗ hold c M1 w2 ∗ hold c M2 a ∗ hold c M3 b ∗ hold c M4 d4 ∗ hold c M5 d5
      ∗ (iprop(hold c M0 g ∗ hold c M1 w2 ∗ hold c M2 a ∗ hold c M3 b ∗ hold c M4 (k1_pay4 g w2 a b) ∗ hold c M5 (k1_pay5 g w2 a)) -∗ Q ⟨⟩))
    ⊢ wp frame (wpE (defs₀ (F := F)) Variants.none c none) Set.univ (cc1_ffn_dt i M0 h0 M1 h1 M2 h2 M3 h3 M4 h4 M5 h5) Q := by
  simp only [cc1_ffn_dt_eq_skeleton]; unfold cc1_ffn_dt_skel
  iintro ⟨⟨%f0, %e0, H0⟩, ⟨%f1, %e1, H1⟩, ⟨%f2, %e2, H2⟩, ⟨%f3, %e3, H3⟩, ⟨%f4, %e4, H4⟩, ⟨%f5, %e5, H5⟩, Hk⟩
  subst e0 e1 e2 e3 e4 e5
  have r0 : ∀ f inb, View.readAt (Elt F) M0.view (Rect.unit (s := S512x1024) ![0, 0] ![512, 1024] inb).toLoadRect f = M0.view.read (Elt F) f := fun f inb => View.readAt_full M0.view f inb
  have r1 : ∀ f inb, View.readAt (Elt F) M1.view (Rect.unit (s := S1408x1024) ![0, 0] ![1408, 1024] inb).toLoadRect f = M1.view.read (Elt F) f := fun f inb => View.readAt_full M1.view f inb
  have r2 : ∀ f inb, View.readAt (Elt F) M2.view (Rect.unit (s := S512x1408) ![0, 0] ![512, 1408] inb).toLoadRect f = M2.view.read (Elt F) f := fun f inb => View.readAt_full M2.view f inb
  have r3 : ∀ f inb, View.readAt (Elt F) M3.view (Rect.unit (s := S512x1408) ![0, 0] ![512, 1408] inb).toLoadRect f = M3.view.read (Elt F) f := fun f inb => View.readAt_full M3.view f inb
  have w4 : ∀ f inb w L, M4.view.read (Elt F) (M4.view.writes (Elt F) f (⟨Rect.unit (s := S512x1408) ![0, 0] ![512, 1408] inb, w⟩ :: L)) = w := fun f inb w L => View.read_writes_full M4.view f inb w L
  have w5 : ∀ f inb w L, M5.view.read (Elt F) (M5.view.writes (Elt F) f (⟨Rect.unit (s := S512x1408) ![0, 0] ![512, 1408] inb, w⟩ :: L)) = w := fun f inb w L => View.read_writes_full M5.view f inb w L
  sl_exec
  sl_step
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]
  · iexists _; isplitr; swap; (· iexact H4); ipureintro
    sl_unfold_words
    simp only [r0, r1, r2, r3, w4]
  iexists _; isplitr; swap; (· iexact H5); ipureintro
  sl_unfold_words
  simp only [r0, r1, r2, r3, w5]

set_option maxHeartbeats 4000000 in
/-- One point of the third call: the gradient of `h`. -/
theorem dxRun (c : Dev nD) (i : grid2.Coords)
    (M0 : Memref sig .tc .vmem S512x2816 .bf16) (h0 : M0.IsWhole) (M1 : Memref sig .tc .vmem S512x2816 .bf16) (h1 : M1.IsWhole)
    (M2 : Memref sig .tc .vmem S1024x2816 .bf16) (h2 : M2.IsWhole) (M3 : Memref sig .tc .vmem S1024x2816 .bf16) (h3 : M3.IsWhole)
    (M4 : Memref sig .tc .vmem S512x1024 .f32) (h4 : M4.IsWhole)
    (da db : Vec F S512x2816 .bf16) (w1 w3 : Vec F S1024x2816 .bf16) (d4 : Vec F S512x1024 .f32) (Q : PUnit → sProp 𝕄) :
    iprop(hold c M0 da ∗ hold c M1 db ∗ hold c M2 w1 ∗ hold c M3 w3 ∗ hold c M4 d4
      ∗ (iprop(hold c M0 da ∗ hold c M1 db ∗ hold c M2 w1 ∗ hold c M3 w3 ∗ hold c M4 (k2_pay1 da w1 db w3)) -∗ Q ⟨⟩))
    ⊢ wp frame (wpE (defs₀ (F := F)) Variants.none c none) Set.univ (cc2_ffn_dx i M0 h0 M1 h1 M2 h2 M3 h3 M4 h4) Q := by
  simp only [cc2_ffn_dx_eq_skeleton]; unfold cc2_ffn_dx_skel
  iintro ⟨⟨%f0, %e0, H0⟩, ⟨%f1, %e1, H1⟩, ⟨%f2, %e2, H2⟩, ⟨%f3, %e3, H3⟩, ⟨%f4, %e4, H4⟩, Hk⟩
  subst e0 e1 e2 e3 e4
  have r0 : ∀ f inb, View.readAt (Elt F) M0.view (Rect.unit (s := S512x2816) ![0, 0] ![512, 2816] inb).toLoadRect f = M0.view.read (Elt F) f := fun f inb => View.readAt_full M0.view f inb
  have r1 : ∀ f inb, View.readAt (Elt F) M1.view (Rect.unit (s := S512x2816) ![0, 0] ![512, 2816] inb).toLoadRect f = M1.view.read (Elt F) f := fun f inb => View.readAt_full M1.view f inb
  have r2 : ∀ f inb, View.readAt (Elt F) M2.view (Rect.unit (s := S1024x2816) ![0, 0] ![1024, 2816] inb).toLoadRect f = M2.view.read (Elt F) f := fun f inb => View.readAt_full M2.view f inb
  have r3 : ∀ f inb, View.readAt (Elt F) M3.view (Rect.unit (s := S1024x2816) ![0, 0] ![1024, 2816] inb).toLoadRect f = M3.view.read (Elt F) f := fun f inb => View.readAt_full M3.view f inb
  have w4 : ∀ f inb w L, M4.view.read (Elt F) (M4.view.writes (Elt F) f (⟨Rect.unit (s := S512x1024) ![0, 0] ![512, 1024] inb, w⟩ :: L)) = w := fun f inb w L => View.read_writes_full M4.view f inb w L
  sl_exec
  sl_step
  iapply Hk
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  iexists _; isplitr; swap; (· iexact H4); ipureintro
  sl_unfold_words
  simp only [r0, r1, r2, r3, w4]

end Cert.Ffn

end
-- ==== Proof.FfnData.lean ====
/-
  What each of the three SwiGLU calls leaves, from any contents of its operands.
-/
module

public import proofs.«01_k».proof.Proof.FfnRun

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation arrRef)

variable {F : FTy → Type} [FloatOps F]

local notation "𝕄" => MT nD τ sig Unit (Elt F) ℕ UU ℕ

variable (V : Dev nD → Valuation τ sig (Elt F))

/-! The call that makes `t`, `a` and `b`. -/

/-- Window `w`'s block at point `t`, of the contents the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (arrRef spec0 w)))

/-- The call's proof data. -/
def dat0 (c : Dev nD) : Dat τ (Elt F) Unit ℕ UU ℕ cfg0 c where
  A w := V c (Proc.devRef .tc (arrRef spec0 w))
  after w t := match w with
    | ⟨0, _⟩ => iblk0 V c 0 t
    | ⟨1, _⟩ => iblk0 V c 1 t
    | ⟨2, _⟩ => iblk0 V c 2 t
    | ⟨3, _⟩ => k0_pay6 (iblk0 V c 0 t) (iblk0 V c 1 t) (iblk0 V c 2 t)
    | ⟨4, _⟩ => k0_pay4 (iblk0 V c 0 t) (iblk0 V c 1 t)
    | ⟨5, _⟩ => k0_pay5 (iblk0 V c 0 t) (iblk0 V c 2 t)
  Φ _ := Pipeline.scopedRest (Ix := Unit) (Name := ℕ) (U := UU) (Lvl := ℕ) (Val := Elt F) spec0 c
  q _ := fullShare
  owed _ := 0

theorem A0_eq (c : Dev nD) (w : Fin cfg0.W) : (dat0 V c).A w = V c (Proc.devRef .tc (arrRef spec0 w)) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay6 (iblk0 V c 0 t) (iblk0 V c 1 t) (iblk0 V c 2 t) := by dsimp only [dat0]
theorem after0_4 (c : Dev nD) (t : Fin cfg0.N) : (dat0 V c).after 4 t = k0_pay4 (iblk0 V c 0 t) (iblk0 V c 1 t) := by dsimp only [dat0]
theorem after0_5 (c : Dev nD) (t : Fin cfg0.N) : (dat0 V c).after 5 t = k0_pay5 (iblk0 V c 0 t) (iblk0 V c 2 t) := by dsimp only [dat0]

/-- Each input's current staging buffer holds its block. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A0_eq]) t d).trans
    (by unfold Dat.fetched Dat.blockOf iblk0; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A0_eq]) t d).trans
    (by unfold Dat.fetched Dat.blockOf iblk0; rw [A0_eq]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A0_eq]) t d).trans
    (by unfold Dat.fetched Dat.blockOf iblk0; rw [A0_eq]; try rfl)

/-- What the body is called with at point `t`, window by window, and what it returns. -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def post0 (c : Dev nD) (t : Fin cfg0.N) : sProp 𝕄 :=
  iprop((dat0 V c).Φ t.succ ∗ (dat0 V c).owesAt () t.succ ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t)

set_option maxHeartbeats 4800000 in
theorem sound0 (c : Dev nD) (t : Fin cfg0.N) :
    pre0 V c t ⊢ wp frame (wpE (defs₀ (F := F)) Variants.none c none) Set.univ (bodyAt0 t) (fun _ => post0 V c t) := by
  unfold pre0 post0 bodyAt0
  simp only [before0_0, before0_1, before0_2]
  rw [show (dat0 V c).Φ t.castSucc = (dat0 V c).Φ t.succ from rfl]
  rw [show (dat0 V c).leavesExact 0 t = owns (c : Thread nD τ) (st0_0 t) fullShare ((dat0 V c).after 0 t) from rfl, after0_0]
  rw [show (dat0 V c).leavesExact 1 t = owns (c : Thread nD τ) (st0_1 t) fullShare ((dat0 V c).after 1 t) from rfl, after0_1]
  rw [show (dat0 V c).leavesExact 2 t = owns (c : Thread nD τ) (st0_2 t) fullShare ((dat0 V c).after 2 t) from rfl, after0_2]
  rw [show (dat0 V c).leavesExact 3 t = owns (c : Thread nD τ) (st0_3 t) fullShare ((dat0 V c).after 3 t) from rfl, after0_3]
  rw [show (dat0 V c).leavesExact 4 t = owns (c : Thread nD τ) (st0_4 t) fullShare ((dat0 V c).after 4 t) from rfl, after0_4]
  rw [show (dat0 V c).leavesExact 5 t = owns (c : Thread nD τ) (st0_5 t) fullShare ((dat0 V c).after 5 t) from rfl, after0_5]
  rw [owns_eq_hold c (st0_0 t) (hstage0_0 _), owns_eq_hold c (st0_1 t) (hstage0_1 _), owns_eq_hold c (st0_2 t) (hstage0_2 _), owns_eq_hold c (st0_3 t) (hstage0_3 _), owns_eq_hold c (st0_4 t) (hstage0_4 _), owns_eq_hold c (st0_5 t) (hstage0_5 _)]
  iintro ⟨HR, HO, ⟨%d0, H0⟩, ⟨%d1, H1⟩, ⟨%d2, H2⟩, ⟨%d3, H3⟩, ⟨%d4, H4⟩, ⟨%d5, H5⟩⟩
  iapply (upRun c (grid0.coords t) (st0_0 t) (hstage0_0 _) (st0_1 t) (hstage0_1 _) (st0_2 t) (hstage0_2 _) (st0_3 t) (hstage0_3 _) (st0_4 t) (hstage0_4 _) (st0_5 t) (hstage0_5 _)
    (iblk0 V c 0 t) (iblk0 V c 1 t) (iblk0 V c 2 t) ((dat0 V c).before 3 t d3) ((dat0 V c).before 4 t d4) ((dat0 V c).before 5 t d5) _)
  isplitl [H0]; · iexact H0
  isplitl [H1]; · iexact H1
  isplitl [H2]; · iexact H2
  isplitl [H3]
  · rw [← owns_eq_hold c (st0_3 t) (hstage0_3 _)]; iexact H3
  isplitl [H4]
  · rw [← owns_eq_hold c (st0_4 t) (hstage0_4 _)]; iexact H4
  isplitl [H5]
  · rw [← owns_eq_hold c (st0_5 t) (hstage0_5 _)]; iexact H5
  iintro ⟨H0, H1, H2, H3, H4, H5⟩
  isplitl [HR]; · iexact HR
  isplitl [HO]; · iexact HO
  isplitl [H0]; · iexact H0
  isplitl [H1]; · iexact H1
  isplitl [H2]; · iexact H2
  isplitl [H3]; · iexact H3
  isplitl [H4]; · iexact H4
  iexact H5

theorem row0 (t : Fin cfg0.N) : defs₀ (F := F) .tc cfg0.body (cfg0.bodyArgs t (cfg0.slots t)) = bodyAt0 t := by
  unfold defs₀; rw [Defs.onTc_tc]

theorem body0 (c : Dev nD) : BodyObligation (dat0 V c) (defs₀ (F := F)) Variants.none () Set.univ := fun t => by
  rw [bigSep_W0, bigSep_W0, row0]
  exact triple_restated (sound0 V c t) rfl .rfl fun _ => .rfl

/-! The call that makes the gradients of `a` and `b`. -/

/-- Window `w`'s block at point `t`, of the contents the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (arrRef spec1 w)))

/-- The call's proof data. -/
def dat1 (c : Dev nD) : Dat τ (Elt F) Unit ℕ UU ℕ cfg1 c where
  A w := V c (Proc.devRef .tc (arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay4 (iblk1 V c 0 t) (iblk1 V c 1 t) (iblk1 V c 2 t) (iblk1 V c 3 t)
    | ⟨5, _⟩ => k1_pay5 (iblk1 V c 0 t) (iblk1 V c 1 t) (iblk1 V c 2 t)
  Φ _ := Pipeline.scopedRest (Ix := Unit) (Name := ℕ) (U := UU) (Lvl := ℕ) (Val := Elt F) spec1 c
  q _ := fullShare
  owed _ := 0

theorem A1_eq (c : Dev nD) (w : Fin cfg1.W) : (dat1 V c).A w = V c (Proc.devRef .tc (arrRef spec1 w)) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay4 (iblk1 V c 0 t) (iblk1 V c 1 t) (iblk1 V c 2 t) (iblk1 V c 3 t) := by dsimp only [dat1]
theorem after1_5 (c : Dev nD) (t : Fin cfg1.N) : (dat1 V c).after 5 t = k1_pay5 (iblk1 V c 0 t) (iblk1 V c 1 t) (iblk1 V c 2 t) := by dsimp only [dat1]

/-- Each input's current staging buffer holds its block. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]) t d).trans
    (by unfold Dat.fetched Dat.blockOf iblk1; rw [A1_eq]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]) t d).trans
    (by unfold Dat.fetched Dat.blockOf iblk1; rw [A1_eq]; try rfl)

/-- What the body is called with at point `t`, window by window, and what it returns. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def post1 (c : Dev nD) (t : Fin cfg1.N) : sProp 𝕄 :=
  iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t)

set_option maxHeartbeats 4800000 in
theorem sound1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3]
  rw [show (dat1 V c).Φ t.castSucc = (dat1 V c).Φ t.succ from rfl]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [show (dat1 V c).leavesExact 3 t = owns (c : Thread nD τ) (st1_3 t) fullShare ((dat1 V c).after 3 t) from rfl, after1_3]
  rw [show (dat1 V c).leavesExact 4 t = owns (c : Thread nD τ) (st1_4 t) fullShare ((dat1 V c).after 4 t) from rfl, after1_4]
  rw [show (dat1 V c).leavesExact 5 t = owns (c : Thread nD τ) (st1_5 t) fullShare ((dat1 V c).after 5 t) from rfl, after1_5]
  rw [owns_eq_hold c (st1_0 t) (hstage1_0 _), owns_eq_hold c (st1_1 t) (hstage1_1 _), owns_eq_hold c (st1_2 t) (hstage1_2 _), owns_eq_hold c (st1_3 t) (hstage1_3 _), owns_eq_hold c (st1_4 t) (hstage1_4 _), owns_eq_hold c (st1_5 t) (hstage1_5 _)]
  iintro ⟨HR, HO, ⟨%d0, H0⟩, ⟨%d1, H1⟩, ⟨%d2, H2⟩, ⟨%d3, H3⟩, ⟨%d4, H4⟩, ⟨%d5, H5⟩⟩
  iapply (dtRun c (grid1.coords t) (st1_0 t) (hstage1_0 _) (st1_1 t) (hstage1_1 _) (st1_2 t) (hstage1_2 _) (st1_3 t) (hstage1_3 _) (st1_4 t) (hstage1_4 _) (st1_5 t) (hstage1_5 _)
    (iblk1 V c 0 t) (iblk1 V c 1 t) (iblk1 V c 2 t) (iblk1 V c 3 t) ((dat1 V c).before 4 t d4) ((dat1 V c).before 5 t d5) _)
  isplitl [H0]; · iexact H0
  isplitl [H1]; · iexact H1
  isplitl [H2]; · iexact H2
  isplitl [H3]; · iexact H3
  isplitl [H4]
  · rw [← owns_eq_hold c (st1_4 t) (hstage1_4 _)]; iexact H4
  isplitl [H5]
  · rw [← owns_eq_hold c (st1_5 t) (hstage1_5 _)]; iexact H5
  iintro ⟨H0, H1, H2, H3, H4, H5⟩
  isplitl [HR]; · iexact HR
  isplitl [HO]; · iexact HO
  isplitl [H0]; · iexact H0
  isplitl [H1]; · iexact H1
  isplitl [H2]; · iexact H2
  isplitl [H3]; · iexact H3
  isplitl [H4]; · iexact H4
  iexact H5

theorem row1 (t : Fin cfg1.N) : defs₀ (F := F) .tc cfg1.body (cfg1.bodyArgs t (cfg1.slots t)) = bodyAt1 t := by
  unfold defs₀; rw [Defs.onTc_tc]

theorem body1 (c : Dev nD) : BodyObligation (dat1 V c) (defs₀ (F := F)) Variants.none () Set.univ := fun t => by
  rw [bigSep_W1, bigSep_W1, row1]
  exact triple_restated (sound1 V c t) rfl .rfl fun _ => .rfl

/-! The call that makes the gradient of `h`. -/

/-- Window `w`'s block at point `t`, of the contents the call finds. -/
def iblk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (arrRef spec2 w)))

/-- The call's proof data. -/
def dat2 (c : Dev nD) : Dat τ (Elt F) Unit ℕ UU ℕ cfg2 c where
  A w := V c (Proc.devRef .tc (arrRef spec2 w))
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay1 (iblk2 V c 0 t) (iblk2 V c 2 t) (iblk2 V c 1 t) (iblk2 V c 3 t)
  Φ _ := Pipeline.scopedRest (Ix := Unit) (Name := ℕ) (U := UU) (Lvl := ℕ) (Val := Elt F) spec2 c
  q _ := fullShare
  owed _ := 0

theorem A2_eq (c : Dev nD) (w : Fin cfg2.W) : (dat2 V c).A w = V c (Proc.devRef .tc (arrRef spec2 w)) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = k2_pay1 (iblk2 V c 0 t) (iblk2 V c 2 t) (iblk2 V c 1 t) (iblk2 V c 3 t) := by dsimp only [dat2]

/-- Each input's current staging buffer holds its block. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A2_eq]) t d).trans
    (by unfold Dat.fetched Dat.blockOf iblk2; rw [A2_eq]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A2_eq]) t d).trans
    (by unfold Dat.fetched Dat.blockOf iblk2; rw [A2_eq]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A2_eq]) t d).trans
    (by unfold Dat.fetched Dat.blockOf iblk2; rw [A2_eq]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A2_eq]) t d).trans
    (by unfold Dat.fetched Dat.blockOf iblk2; rw [A2_eq]; try rfl)

/-- What the body is called with at point `t`, window by window, and what it returns. -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def post2 (c : Dev nD) (t : Fin cfg2.N) : sProp 𝕄 :=
  iprop((dat2 V c).Φ t.succ ∗ (dat2 V c).owesAt () t.succ ∗ (dat2 V c).leavesExact 0 t ∗ (dat2 V c).leavesExact 1 t ∗ (dat2 V c).leavesExact 2 t ∗ (dat2 V c).leavesExact 3 t ∗ (dat2 V c).leavesExact 4 t)

set_option maxHeartbeats 4800000 in
theorem sound2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3]
  rw [show (dat2 V c).Φ t.castSucc = (dat2 V c).Φ t.succ from rfl]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  rw [show (dat2 V c).leavesExact 2 t = owns (c : Thread nD τ) (st2_2 t) fullShare ((dat2 V c).after 2 t) from rfl, after2_2]
  rw [show (dat2 V c).leavesExact 3 t = owns (c : Thread nD τ) (st2_3 t) fullShare ((dat2 V c).after 3 t) from rfl, after2_3]
  rw [show (dat2 V c).leavesExact 4 t = owns (c : Thread nD τ) (st2_4 t) fullShare ((dat2 V c).after 4 t) from rfl, after2_4]
  rw [owns_eq_hold c (st2_0 t) (hstage2_0 _), owns_eq_hold c (st2_1 t) (hstage2_1 _), owns_eq_hold c (st2_2 t) (hstage2_2 _), owns_eq_hold c (st2_3 t) (hstage2_3 _), owns_eq_hold c (st2_4 t) (hstage2_4 _)]
  iintro ⟨HR, HO, ⟨%d0, H0⟩, ⟨%d1, H1⟩, ⟨%d2, H2⟩, ⟨%d3, H3⟩, ⟨%d4, H4⟩⟩
  iapply (dxRun c (grid2.coords t) (st2_0 t) (hstage2_0 _) (st2_1 t) (hstage2_1 _) (st2_2 t) (hstage2_2 _) (st2_3 t) (hstage2_3 _) (st2_4 t) (hstage2_4 _)
    (iblk2 V c 0 t) (iblk2 V c 1 t) (iblk2 V c 2 t) (iblk2 V c 3 t) ((dat2 V c).before 4 t d4) _)
  isplitl [H0]; · iexact H0
  isplitl [H1]; · iexact H1
  isplitl [H2]; · iexact H2
  isplitl [H3]; · iexact H3
  isplitl [H4]
  · rw [← owns_eq_hold c (st2_4 t) (hstage2_4 _)]; iexact H4
  iintro ⟨H0, H1, H2, H3, H4⟩
  isplitl [HR]; · iexact HR
  isplitl [HO]; · iexact HO
  isplitl [H0]; · iexact H0
  isplitl [H1]; · iexact H1
  isplitl [H2]; · iexact H2
  isplitl [H3]; · iexact H3
  iexact H4

theorem row2 (t : Fin cfg2.N) : defs₀ (F := F) .tc cfg2.body (cfg2.bodyArgs t (cfg2.slots t)) = bodyAt2 t := by
  unfold defs₀; rw [Defs.onTc_tc]

theorem body2 (c : Dev nD) : BodyObligation (dat2 V c) (defs₀ (F := F)) Variants.none () Set.univ := fun t => by
  rw [bigSep_W2, bigSep_W2, row2]
  exact triple_restated (sound2 V c t) rfl .rfl fun _ => .rfl

end Cert.Ffn

end
-- ==== Proof.FfnWhole.lean ====
/-
  The whole program of the SwiGLU gradient: its three calls in turn, from any launch memory.

  `U2`, `U4`, `U5` are the buffers' contents after each call; `run` says that every execution terminates with every
  buffer outside the calls' own at the last contents and every semaphore at zero. The frames and the values are both
  read off it.
-/
module

public import proofs.«01_k».proof.Proof.FfnData
public import Idealize.ShloMosaic.Lib.Pipeline.RegionArraysS
public import Idealize.ShloMosaic.Lib.Pipeline.RegionArraysD

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg arrRef arrRefs afterRegion LevelCut ucRefs)

variable {F : FTy → Type} [FloatOps F]

local notation "𝕄" => MT nD τ sig Unit (Elt F) ℕ UU ℕ

/-- A buffer that is no result window's array is left by a call as the call found it. -/
theorem afterRegion_keep {Λ : Labels} {cfg : Cfg sig Λ} {c : Dev nD} (dat : Dat τ (Elt F) Unit ℕ UU ℕ cfg c) (V : Valuation τ sig (Elt F))
    (hinj : Function.Injective (arrRef cfg.spec)) (hA : ∀ w, dat.A w = V (Proc.devRef .tc (arrRef cfg.spec w))) (x : DevRef τ sig)
    (h : ∀ w, x = Proc.devRef .tc (arrRef cfg.spec w) → (cfg.win w).isOut = false) : afterRegion dat V x = V x := by
  by_cases hx : ∃ w, x = Proc.devRef .tc (arrRef cfg.spec w)
  · obtain ⟨w, rfl⟩ := hx
    exact (Pipeline.afterRegion_arr dat V hinj w).trans ((dat.arrAt_in w (h w rfl) _).trans (hA w))
  · unfold afterRegion; rw [dif_neg hx]

variable (m : (ℓ : Loc nD τ sig) → Buf (Elt F) ℓ)

/-- The buffers after the first call. -/
def U2 (c : Dev nD) : Valuation τ sig (Elt F) := afterRegion (dat0 (V1 m) c) (V1 m c)
/-- The contents the second call finds, and leaves. -/
def U3 (c : Dev nD) : Valuation τ sig (Elt F) := V3 m (fun _ r c => U2 m c r) c
def U4 (c : Dev nD) : Valuation τ sig (Elt F) := afterRegion (dat1 (U3 m) c) (U3 m c)
/-- The buffers after the third call. -/
def U5 (c : Dev nD) : Valuation τ sig (Elt F) := afterRegion (dat2 (U4 m) c) (U4 m c)

/-- What the calls leave, item by item. -/
def outs : Outs (F := F)
  | 2, r, c => U2 m c r
  | 4, r, c => U4 m c r
  | _, r, c => U5 m c r

theorem V2_eq (c : Dev nD) : V2 m (outs m) c = U2 m c := by
  funext x
  by_cases h2 : x = (Proc.devRef .tc main_v4_2 : DevRef τ sig)
  · subst h2; exact Function.update_self ..
  by_cases h1 : x = (Proc.devRef .tc main_v4_1 : DevRef τ sig)
  · subst h1; exact (Function.update_of_ne h2 _ _).trans (Function.update_self ..)
  by_cases h0 : x = (Proc.devRef .tc main_v4_0 : DevRef τ sig)
  · subst h0; exact (Function.update_of_ne h2 _ _).trans ((Function.update_of_ne h1 _ _).trans (Function.update_self ..))
  refine (Function.update_of_ne h2 _ _).trans ((Function.update_of_ne h1 _ _).trans ((Function.update_of_ne h0 _ _).trans ?_))
  refine (afterRegion_keep (dat0 (V1 m) c) (V1 m c) launch0.win.arr_inj (A0_eq (V1 m) c) x fun w => ?_).symm
  match w with
  | ⟨0, _⟩ => exact fun _ => rfl
  | ⟨1, _⟩ => exact fun _ => rfl
  | ⟨2, _⟩ => exact fun _ => rfl
  | ⟨3, _⟩ => exact fun e => absurd e h0
  | ⟨4, _⟩ => exact fun e => absurd e h1
  | ⟨5, _⟩ => exact fun e => absurd e h2

theorem V3_eq (c : Dev nD) : V3 m (outs m) c = U3 m c := by rfl

theorem V4_eq (c : Dev nD) : V4 m (outs m) c = U4 m c := by
  funext x
  by_cases h1 : x = (Proc.devRef .tc main_v6_1 : DevRef τ sig)
  · subst h1; exact Function.update_self ..
  by_cases h0 : x = (Proc.devRef .tc main_v6_0 : DevRef τ sig)
  · subst h0; exact (Function.update_of_ne h1 _ _).trans (Function.update_self ..)
  refine (Function.update_of_ne h1 _ _).trans ((Function.update_of_ne h0 _ _).trans ?_)
  refine (afterRegion_keep (dat1 (U3 m) c) (U3 m c) launch1.win.arr_inj (A1_eq (U3 m) c) x fun w => ?_).symm
  match w with
  | ⟨0, _⟩ => exact fun _ => rfl
  | ⟨1, _⟩ => exact fun _ => rfl
  | ⟨2, _⟩ => exact fun _ => rfl
  | ⟨3, _⟩ => exact fun _ => rfl
  | ⟨4, _⟩ => exact fun e => absurd e h0
  | ⟨5, _⟩ => exact fun e => absurd e h1

theorem V5_eq (c : Dev nD) : V5 m (outs m) c = U5 m c := by
  funext x
  by_cases h0 : x = (Proc.devRef .tc main_v7 : DevRef τ sig)
  · subst h0; exact Function.update_self ..
  refine (Function.update_of_ne h0 _ _).trans ((congrFun (V4_eq m c) x).trans ?_)
  refine (afterRegion_keep (dat2 (U4 m) c) (U4 m c) launch2.win.arr_inj (A2_eq (U4 m) c) x fun w => ?_).symm
  match w with
  | ⟨0, _⟩ => exact fun _ => rfl
  | ⟨1, _⟩ => exact fun _ => rfl
  | ⟨2, _⟩ => exact fun _ => rfl
  | ⟨3, _⟩ => exact fun _ => rfl
  | ⟨4, _⟩ => exact fun e => absurd e h0

/-- The calls' proof data, at the contents each finds. -/
def pdats : (p : Fin 3) → (c : Dev nD) → Dat τ (Elt F) Unit ℕ UU ℕ (cfgs p) c
  | ⟨0, _⟩, c => dat0 (V1 m) c
  | ⟨1, _⟩, c => dat1 (U3 m) c
  | ⟨2, _⟩, c => dat2 (U4 m) c

/-- No semaphore is waited on out of order: one level for all. -/
def L : GSem nD τ sig → Finset Unit := fun g => if g.1.2 = .tc then {()} else ∅
def lv : GSem nD τ sig → Unit → ℕ := fun _ _ => 0

theorem cut (p : Fin 3) : LevelCut (pcfgs (F := F)) adm () L lv p (fun _ => 0) (fun _ => 0) where
  hι c w s := by simp [L]
  hιb c w s := le_refl _
  hD c g i h := absurd h (lt_irrefl _)

/-- What rides beside the buffers between items: the generator's register, and nothing owed. -/
def E (_ : Fin 4) (c : Dev nD) : sProp 𝕄 := iprop((∃ r, prngReg c r) ∗ ∃ W, owes (c : Thread nD τ) 0 W)

theorem share_full {Λ : Labels} {cfg : Cfg sig Λ} {c : Dev nD} (dat : Dat τ (Elt F) Unit ℕ UU ℕ cfg c) (h : ∀ w, dat.q w = fullShare) (w : Fin cfg.W) :
    dat.share w = fullShare := by
  unfold Dat.share; rw [h w, ite_self]

/-! Beside its windows each call holds nothing but the other calls' scoped buffers. -/

theorem in0 (c : Dev nD) : (iprop(Pipeline.scopedRest (Ix := Unit) (Name := ℕ) (U := UU) (Lvl := ℕ) (Val := Elt F) spec0 c ∗ emp) : sProp 𝕄) ⊢ Pipeline.scopedRest (Ix := Unit) (Name := ℕ) (U := UU) (Lvl := ℕ) (Val := Elt F) spec0 c := by
  iintro ⟨H, -⟩; iexact H
theorem out0 (c : Dev nD) : (Pipeline.scopedRest (Ix := Unit) (Name := ℕ) (U := UU) (Lvl := ℕ) (Val := Elt F) spec0 c : sProp 𝕄) ⊢ iprop(Pipeline.scopedRest (Ix := Unit) (Name := ℕ) (U := UU) (Lvl := ℕ) (Val := Elt F) spec0 c ∗ emp) := by
  iintro H
  isplitl
  · iexact H
  iempintro

theorem in1 (c : Dev nD) : (iprop(Pipeline.scopedRest (Ix := Unit) (Name := ℕ) (U := UU) (Lvl := ℕ) (Val := Elt F) spec1 c ∗ emp) : sProp 𝕄) ⊢ Pipeline.scopedRest (Ix := Unit) (Name := ℕ) (U := UU) (Lvl := ℕ) (Val := Elt F) spec1 c := by
  iintro ⟨H, -⟩; iexact H
theorem out1 (c : Dev nD) : (Pipeline.scopedRest (Ix := Unit) (Name := ℕ) (U := UU) (Lvl := ℕ) (Val := Elt F) spec1 c : sProp 𝕄) ⊢ iprop(Pipeline.scopedRest (Ix := Unit) (Name := ℕ) (U := UU) (Lvl := ℕ) (Val := Elt F) spec1 c ∗ emp) := by
  iintro H
  isplitl
  · iexact H
  iempintro

theorem in2 (c : Dev nD) : (iprop(Pipeline.scopedRest (Ix := Unit) (Name := ℕ) (U := UU) (Lvl := ℕ) (Val := Elt F) spec2 c ∗ emp) : sProp 𝕄) ⊢ Pipeline.scopedRest (Ix := Unit) (Name := ℕ) (U := UU) (Lvl := ℕ) (Val := Elt F) spec2 c := by
  iintro ⟨H, -⟩; iexact H
theorem out2 (c : Dev nD) : (Pipeline.scopedRest (Ix := Unit) (Name := ℕ) (U := UU) (Lvl := ℕ) (Val := Elt F) spec2 c : sProp 𝕄) ⊢ iprop(Pipeline.scopedRest (Ix := Unit) (Name := ℕ) (U := UU) (Lvl := ℕ) (Val := Elt F) spec2 c ∗ emp) := by
  iintro H
  isplitl
  · iexact H
  iempintro

set_option backward.isDefEq.respectTransparency.types false in
/-- The first call. -/
def R0 : RegionSeg (pcfgs (F := F)) adm (pdats m) () defs₀ Variants.none L lv 0 :=
  RegionSeg.ofHeldIn (pcfgs (F := F)) adm (pdats m) () defs₀ Variants.none L lv 0 (fun _ => 0) (ucRefs τ sig) (fun _ => iprop(emp)) (fun _ => iprop(emp))
    launch0.toP rfl (fun c => (body0 (V1 m) c).loose) (fun _ _ => rfl) (fun _ => rfl) (fun c w => share_full (dat0 (V1 m) c) (fun _ => rfl) w)
    (fun c => in0 c) (fun c => out0 c) (fun _ => 0) (cut 0) (fun c => iprop(∃ r, prngReg c r)) (V1 m) (fun c w => A0_eq (V1 m) c w)

set_option backward.isDefEq.respectTransparency.types false in
/-- The second call. -/
def R1 : RegionSeg (pcfgs (F := F)) adm (pdats m) () defs₀ Variants.none L lv 1 :=
  RegionSeg.ofHeldIn (pcfgs (F := F)) adm (pdats m) () defs₀ Variants.none L lv 1 (fun _ => 0) (ucRefs τ sig) (fun _ => iprop(emp)) (fun _ => iprop(emp))
    launch1.toP rfl (fun c => (body1 (U3 m) c).loose) (fun _ _ => rfl) (fun _ => rfl) (fun c w => share_full (dat1 (U3 m) c) (fun _ => rfl) w)
    (fun c => in1 c) (fun c => out1 c) (fun _ => 0) (cut 1) (fun c => iprop(∃ r, prngReg c r)) (U3 m) (fun c w => A1_eq (U3 m) c w)

set_option backward.isDefEq.respectTransparency.types false in
/-- The third call. -/
def R2 : RegionSeg (pcfgs (F := F)) adm (pdats m) () defs₀ Variants.none L lv 2 :=
  RegionSeg.ofHeldIn (pcfgs (F := F)) adm (pdats m) () defs₀ Variants.none L lv 2 (fun _ => 0) (ucRefs τ sig) (fun _ => iprop(emp)) (fun _ => iprop(emp))
    launch2.toP rfl (fun c => (body2 (U4 m) c).loose) (fun _ _ => rfl) (fun _ => rfl) (fun c w => share_full (dat2 (U4 m) c) (fun _ => rfl) w)
    (fun c => in2 c) (fun c => out2 c) (fun _ => 0) (cut 2) (fun c => iprop(∃ r, prngReg c r)) (U4 m) (fun c w => A2_eq (U4 m) c w)

theorem arrs0 : arrRefs (τ := τ) (pcfgs (F := F) 0).spec ⊆ ucRefs τ sig := Pipeline.arrRefs_sub_ucRefs spec0 (by decide)
theorem arrs1 : arrRefs (τ := τ) (pcfgs (F := F) 1).spec ⊆ ucRefs τ sig := Pipeline.arrRefs_sub_ucRefs spec1 (by decide)
theorem arrs2 : arrRefs (τ := τ) (pcfgs (F := F) 2).spec ⊆ ucRefs τ sig := Pipeline.arrRefs_sub_ucRefs spec2 (by decide)

theorem pre0_in (c : Dev nD) : iprop(StableHlo.held (c : Thread nD τ) (ucRefs τ sig) (V1 m c) ∗ E (F := F) 0 c) ⊢ (R0 m).pre c := by
  refine BIBase.Entails.trans ?_ (RegionSeg.ofHeldIn_pre (arrs0 (F := F)) c)
  unfold E
  iintro ⟨H, HP, HO⟩
  isplitl [H]; · iexact H
  isplitl [HO]; · iexact HO
  isplitr; · iempintro
  iexact HP

theorem post0_out (c : Dev nD) : (R0 m).post c ⊢ iprop(StableHlo.held (c : Thread nD τ) (ucRefs τ sig) (V2 m (outs m) c) ∗ E (F := F) 1 c) := by
  refine BIBase.Entails.trans (RegionSeg.ofHeldIn_post (arrs0 (F := F)) c) ?_
  rw [V2_eq]
  unfold E
  iintro ⟨H, HO, -, HP⟩
  isplitl [H]; · iexact H
  isplitl [HP]; · iexact HP
  iexact HO

theorem pre1_in (c : Dev nD) : iprop(StableHlo.held (c : Thread nD τ) (ucRefs τ sig) (V3 m (outs m) c) ∗ E (F := F) 1 c) ⊢ (R1 m).pre c := by
  refine BIBase.Entails.trans ?_ (RegionSeg.ofHeldIn_pre (arrs1 (F := F)) c)
  rw [V3_eq]
  unfold E
  iintro ⟨H, HP, HO⟩
  isplitl [H]; · iexact H
  isplitl [HO]; · iexact HO
  isplitr; · iempintro
  iexact HP

theorem post1_out (c : Dev nD) : (R1 m).post c ⊢ iprop(StableHlo.held (c : Thread nD τ) (ucRefs τ sig) (V4 m (outs m) c) ∗ E (F := F) 2 c) := by
  refine BIBase.Entails.trans (RegionSeg.ofHeldIn_post (arrs1 (F := F)) c) ?_
  rw [V4_eq]
  unfold E
  iintro ⟨H, HO, -, HP⟩
  isplitl [H]; · iexact H
  isplitl [HP]; · iexact HP
  iexact HO

theorem pre2_in (c : Dev nD) : iprop(StableHlo.held (c : Thread nD τ) (ucRefs τ sig) (V4 m (outs m) c) ∗ E (F := F) 2 c) ⊢ (R2 m).pre c := by
  refine BIBase.Entails.trans ?_ (RegionSeg.ofHeldIn_pre (arrs2 (F := F)) c)
  rw [V4_eq]
  unfold E
  iintro ⟨H, HP, HO⟩
  isplitl [H]; · iexact H
  isplitl [HO]; · iexact HO
  isplitr; · iempintro
  iexact HP

theorem post2_out (c : Dev nD) : (R2 m).post c ⊢ iprop(StableHlo.held (c : Thread nD τ) (ucRefs τ sig) (V5 m (outs m) c) ∗ E (F := F) 3 c) := by
  refine BIBase.Entails.trans (RegionSeg.ofHeldIn_post (arrs2 (F := F)) c) ?_
  rw [V5_eq]
  unfold E
  iintro ⟨H, HO, -, HP⟩
  isplitl [H]; · iexact H
  isplitl [HP]; · iexact HP
  iexact HO

/-- What the launch hands each core makes the first rest. -/
theorem launchE1 (ρ : Dev nD → PrngReg) (c : Dev nD) :
    (iprop(unscopedSems0 c ∗ owes (c : Thread nD τ) 0 ∅ ∗ Pipeline.launchCred (fun _ => 0) c ∗ prngReg c (ρ c) ∗ emp) : sProp 𝕄) ⊢ E (F := F) 0 c := by
  unfold E
  iintro ⟨-, HO, -, HP, -⟩
  isplitl [HP]
  · iexists _; iexact HP
  iexists _; iexact HO

theorem launchE (ρ : Dev nD → PrngReg) :
    (iprop((bigSep Finset.univ fun c : Dev nD => iprop(unscopedSems0 c ∗ owes (c : Thread nD τ) 0 ∅ ∗ Pipeline.launchCred (fun _ => 0) c ∗ prngReg c (ρ c) ∗ emp)) ∗ levAts L lv) : sProp 𝕄)
      ⊢ |={Set.univ}=> bigSep Finset.univ (E (F := F) 0) := by
  have h : (bigSep Finset.univ fun c : Dev nD => iprop(unscopedSems0 c ∗ owes (c : Thread nD τ) 0 ∅ ∗ Pipeline.launchCred (fun _ => 0) c ∗ prngReg c (ρ c) ∗ emp))
      ⊢ (bigSep Finset.univ (E (F := F) 0) : sProp 𝕄) := bigSep_mono fun c _ => launchE1 ρ c
  iintro ⟨H, -⟩
  imodintro
  iapply h
  iexact H

/-- The launch's ghost state: the pipelines' own. -/
theorem launchU :
    (ownU ((initOf (Pipeline.cells cfgs cellOf_inj) (Pipeline.launchToks cfgs cellOf_inj), 1) : UU) : sProp 𝕄)
      ⊢ |={Set.univ}=> iprop(BI.own (embL (initOf (Pipeline.cells cfgs cellOf_inj) (Pipeline.launchToks cfgs cellOf_inj))) ∗ bigSep Finset.univ (fun _ : Dev nD => (BI.emp : sProp 𝕄))) := by
  iintro Hu
  ihave H' := (ownU_pair _ _) $$ Hu
  icases H' with ⟨HP, -⟩
  imodintro
  isplitl [HP]; · iexact HP
  iapply (show (BI.emp : sProp 𝕄) ⊢ bigSep Finset.univ (fun _ : Dev nD => (BI.emp : sProp 𝕄)) from by rw [BI.bigSep_emp_const])
  iempintro

set_option backward.isDefEq.respectTransparency.types false in
/-- Every execution from memory `m` terminates, every buffer outside the calls' own at the last contents and every
    semaphore at zero. -/
theorem run (ρ : Dev nD → PrngReg) :
    θ_run defs (onTc (τ := τ) (main (F := F))) ⟨m, fun _ => 0, ρ⟩ (fun r =>
      (∀ c : Dev nD, ∀ b ∈ ucRefs τ sig, r.2.mem (c, b) = V5 m (outs m) c b) ∧ r.2.sem = fun _ => 0) := by
  refine Pipeline.θ_run_regions_kit_dev_sems (pcfgs (F := F)) adm (pdats m) () cellOf_inj embL defs₀ Variants.none L lv m ρ main
    (segs m (outs m) Variants.none L lv (E (F := F)) () (pdats m) (R0 m) (R1 m) (R2 m))
    (fun c Q => by
      rewrite [main_chain c, Seg.run_eq_chain,
        show (segs m (outs m) Variants.none L lv (E (F := F)) () (pdats m) (R0 m) (R1 m) (R2 m) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) (fun _ => 0)
    (fun g hg => by unfold L; rw [if_neg hg]) (fun _ => iprop(emp)) _ launchU
    (T₀ := fun c => iprop(StableHlo.held (c : Thread nD τ) (ucRefs τ sig) (V0 m c) ∗ E (F := F) 0 c))
    (Tₙ := fun c => StableHlo.held (c : Thread nD τ) (ucRefs τ sig) (V5 m (outs m) c))
    (hch := fun c => ⟨.rfl, pre0_in m c, post0_out m c, pre1_in m c, (post1_out m c).trans (pre2_in m c), (post2_out m c).trans (sep_mono .rfl (by
      unfold E; iintro ⟨-, H⟩; iexact H))⟩)
    (hinit := ?_) (QY := fun c s => ∀ b ∈ ucRefs τ sig, s.mem (c, b) = V5 m (outs m) c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) 0 ∅ ∗ Pipeline.launchCred (fun _ => 0) c ∗ prngReg c (ρ c) ∗ emp))
        ⊢ (iprop((bigSep Finset.univ fun c : Dev nD => StableHlo.held (c : Thread nD τ) (ucRefs τ sig) (V0 m c))
            ∗ bigSep Finset.univ fun c : Dev nD => iprop(unscopedSems0 c ∗ owes (c : Thread nD τ) 0 ∅ ∗ Pipeline.launchCred (fun _ => 0) c ∗ prngReg c (ρ c) ∗ emp)) : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (launchE ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (ucRefs τ sig) (fun b => ((c : Thread nD τ).1, b)) (V5 m (outs m) c) s') $$ [Hh HSI]
    · isplitl [Hh] <;> iassumption
    icases Hr with ⟨%h, HSI⟩
    imodintro
    isplitr
    · ipureintro; exact h
    · iexact HSI

/-- An unscoped buffer of the core's. -/
theorem mem_uc (r : Ref sig .tc) (h : r.isScoped = false) : (Proc.devRef .tc r : DevRef τ sig) ∈ ucRefs τ sig :=
  Finset.mem_filter.mpr ⟨StableHlo.devRef_mem_tcRefs r, fun h' => Bool.false_ne_true (h.symm.trans h')⟩

end Cert.Ffn

end
-- ==== Proof.FfnFrames.lean ====
/-
  The frames of the three programs of the SwiGLU gradient.

  The kernel's run (`FfnWhole.lean`) is stated once, over any float values: at the extended reals it is the frame of the
  idealized kernel, and at the bit patterns of the kernel as written, whose text is the same. The reference's frame is
  its generated run.
-/
module

public import proofs.«01_k».proof.Defs
public import proofs.«01_k».proof.Proof.Gen.Kernel2
public import proofs.«01_k».proof.Proof.Gen.Reference2Ideal.Run
public import proofs.«01_k».proof.Proof.FfnWhole
public import Idealize.ShloMosaic.Lib.Quiescent

@[expose] public section

set_option maxRecDepth 16384

noncomputable section

open Idealize.ShloMosaic Idealize.ShloMosaic.TcCoe Idealize.SL.Sem

namespace Cert.Ffn

open Cert.Kernel2Ideal Cert.Kernel2Ideal.Gen

/-- The kernel's five arguments end as they began. -/
theorem args_kept {F : FTy → Type} [FloatOps F] {m : (ℓ : Loc nD τ sig) → Buf (Elt F) ℓ} {s : (ℓ : Loc nD τ sig) → Buf (Elt F) ℓ}
    (c : Dev nD) (h : ∀ b ∈ Pipeline.ucRefs τ sig, s (c, b) = V5 m (outs m) c b) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4) :=
  ⟨(h _ (mem_uc main_arg0 rfl)).trans (V5_main_arg0 m (outs m) c), (h _ (mem_uc main_arg1 rfl)).trans (V5_main_arg1 m (outs m) c),
    (h _ (mem_uc main_arg2 rfl)).trans (V5_main_arg2 m (outs m) c), (h _ (mem_uc main_arg3 rfl)).trans (V5_main_arg3 m (outs m) c),
    (h _ (mem_uc main_arg4 rfl)).trans (V5_main_arg4 m (outs m) c)⟩

/-- The idealized kernel's frame: the run at the extended reals. -/
theorem frame_pi : Cert.quiescent_Kernel2Ideal := fun m ρ _ =>
  (θ_run defs _ _).mono (fun _ h => ⟨fun c => args_kept c (h.1 c), h.2⟩) (run (F := Ideal) m ρ)

set_option maxHeartbeats 2000000 in
theorem up_eq : @Cert.Kernel2.cc0_ffn_up Bits _ Cert.Kernel2.Gen.facts = @cc0_ffn_up Bits _ facts := rfl

set_option maxHeartbeats 2000000 in
theorem dt_eq : @Cert.Kernel2.cc1_ffn_dt Bits _ Cert.Kernel2.Gen.facts = @cc1_ffn_dt Bits _ facts := rfl

set_option maxHeartbeats 2000000 in
theorem dx_eq : @Cert.Kernel2.cc2_ffn_dx Bits _ Cert.Kernel2.Gen.facts = @cc2_ffn_dx Bits _ facts := rfl

set_option maxHeartbeats 2000000 in
theorem main_eq : Cert.Kernel2.main (F := Bits) = main (F := Bits) := rfl

set_option maxHeartbeats 2000000 in
theorem bodies_eq : Cert.Kernel2.defs₀ (F := Bits) = defs₀ (F := Bits) := by
  unfold Cert.Kernel2.defs₀ defs₀
  rewrite [up_eq, dt_eq, dx_eq]
  refine congrArg Defs.onTc (funext fun l => ?_)
  revert l
  refine Fin.forall_fin_succ.mpr ⟨?_, Fin.forall_fin_succ.mpr ⟨?_, Fin.forall_fin_succ.mpr ⟨?_, fun l => l.elim0⟩⟩⟩ <;>
    exact funext fun ⟨_, _⟩ => rfl

set_option maxHeartbeats 2000000 in
theorem defs_eq : Cert.Kernel2.defs (F := Bits) = defs (F := Bits) := by
  unfold Cert.Kernel2.defs
  rewrite [bodies_eq]
  rfl

set_option maxHeartbeats 2000000 in
/-- The kernel's frame: the run at the bit patterns. -/
theorem frame_p : Cert.quiescent_Kernel2 := fun m ρ _ => by
  rewrite [defs_eq, main_eq]
  exact (θ_run defs _ _).mono (fun _ h => ⟨fun c => args_kept c (h.1 c), h.2⟩) (run (F := Bits) m ρ)

/-- The reference's frame. -/
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

end Cert.Ffn

end
-- ==== Proof.FfnSpec.lean ====
/-
  The gradient of SwiGLU's input as a function of real arrays: what the kernel and the reference are both compared with.
-/
module

public import Mathlib.Analysis.SpecialFunctions.Exp

@[expose] public section

noncomputable section

namespace Cert.Ffn

/-- The rows (one a position), the channels of a row, and the hidden channels. -/
abbrev Rows := Fin 16384
abbrev Chan := Fin 1024
abbrev Hid := Fin 2816

variable (h : Rows → Chan → ℝ) (w1 w3 : Chan → Hid → ℝ) (w2 : Hid → Chan → ℝ) (g : Rows → Chan → ℝ)

/-- A row of `h` through a weight. -/
def up (w : Chan → Hid → ℝ) (r : Rows) (f : Hid) : ℝ := ∑ e, h r e * w e f

/-- The logistic function. -/
def sg (x : ℝ) : ℝ := 1 / (1 + Real.exp (-x))

/-- The gradient of the gated product `silu (h·w1) · (h·w3)`. -/
def dT (r : Rows) (f : Hid) : ℝ := ∑ e, g r e * w2 f e

/-- The gradient of `h·w1`. -/
def dA (r : Rows) (f : Hid) : ℝ :=
  dT w2 g r f * up h w3 r f * (sg (up h w1 r f) * (1 + up h w1 r f * (1 - sg (up h w1 r f))))

/-- The gradient of `h·w3`. -/
def dB (r : Rows) (f : Hid) : ℝ := dT w2 g r f * (up h w1 r f * sg (up h w1 r f))

/-- The gradient of `h`. -/
def dH (r : Rows) (e : Chan) : ℝ := ∑ f, dA h w1 w3 w2 g r f * w1 e f + ∑ f, dB h w1 w2 g r f * w3 e f

theorem one_add_exp_ne (x : ℝ) : 1 + Real.exp x ≠ 0 := (by positivity : 0 < 1 + Real.exp x).ne'

end Cert.Ffn

end
-- ==== Proof.FfnRef.lean ====
/-
  The reference's gradient of SwiGLU's input at real arguments.
-/
module

public import proofs.«01_k».proof.Proof.Gen.Reference2Ideal.Read
public import proofs.«01_k».proof.Proof.FfnSpec
public import proofs.«01_k».proof.Proof.Consts

@[expose] public section

set_option maxRecDepth 16384

noncomputable section

namespace Cert.Ffn.Ref

open Cert.Reference2Ideal Cert.Reference2Ideal.Read Idealize.ShloMosaic Idealize.ShloMosaic.ValueIdx

/-- The five arguments, as real arrays. -/
structure Args (h : Rows → Chan → ℝ) (w1 w3 : Chan → Hid → ℝ) (w2 : Hid → Chan → ℝ) (g : Rows → Chan → ℝ)
    (x0 : S16384x1024.Idx → EReal) (x1 x2 : S1024x2816.Idx → EReal) (x3 : S2816x1024.Idx → EReal) (x4 : S16384x1024.Idx → EReal) : Prop where
  h : ∀ r e, x0 (ix2 r e) = ((h r e : ℝ) : EReal)
  w1 : ∀ e f, x1 (ix2 e f) = ((w1 e f : ℝ) : EReal)
  w3 : ∀ e f, x2 (ix2 e f) = ((w3 e f : ℝ) : EReal)
  w2 : ∀ f e, x3 (ix2 f e) = ((w2 f e : ℝ) : EReal)
  g : ∀ r e, x4 (ix2 r e) = ((g r e : ℝ) : EReal)

variable {h : Rows → Chan → ℝ} {w1 w3 : Chan → Hid → ℝ} {w2 : Hid → Chan → ℝ} {g : Rows → Chan → ℝ}
  {x0 : S16384x1024.Idx → EReal} {x1 x2 : S1024x2816.Idx → EReal} {x3 : S2816x1024.Idx → EReal} {x4 : S16384x1024.Idx → EReal}
  (A : Args h w1 w3 w2 g x0 x1 x2 x3 x4)
include A

theorem a (r : Rows) (f : Hid) : val_main_v0 (F := Ideal) x0 x1 (ix2 r f) = ((up h w1 r f : ℝ) : EReal) := by
  have e0 : ∀ e, lidx_main_v0 (ix2 r f) e = ix2 r e := fun e => eq_ix2 _
  have e1 : ∀ e, ridx_main_v0 (ix2 r f) e = ix2 e f := fun e => eq_ix2 _
  rw [val_main_v0_apply]
  simp only [e0, e1, A.h, A.w1, ← EReal.coe_mul]
  exact Consts.coe_sum _ _

theorem b (r : Rows) (f : Hid) : val_main_v2 (F := Ideal) x0 x2 (ix2 r f) = ((up h w3 r f : ℝ) : EReal) := by
  have e0 : ∀ e, lidx_main_v2 (ix2 r f) e = ix2 r e := fun e => eq_ix2 _
  have e1 : ∀ e, ridx_main_v2 (ix2 r f) e = ix2 e f := fun e => eq_ix2 _
  rw [val_main_v2_apply]
  simp only [e0, e1, A.h, A.w3, ← EReal.coe_mul]
  exact Consts.coe_sum _ _

theorem dt (r : Rows) (f : Hid) : val_main_v5 (F := Ideal) x3 x4 (ix2 r f) = ((dT w2 g r f : ℝ) : EReal) := by
  have e0 : ∀ e, lidx_main_v5 (ix2 r f) e = ix2 r e := fun e => eq_ix2 _
  have e1 : ∀ e, ridx_main_v5 (ix2 r f) e = ix2 f e := fun e => eq_ix2 _
  rw [val_main_v5_apply]
  simp only [e0, e1, A.g, A.w2, ← EReal.coe_mul]
  exact Consts.coe_sum _ _

/-- The logistic function of `h·w1`. -/
theorem sig (r : Rows) (f : Hid) : val_main_v1_2 (F := Ideal) x0 x1 (ix2 r f) = ((sg (up h w1 r f) : ℝ) : EReal) := by
  rw [val_main_v1_2_apply, val_main_call0_v4_apply, val_main_call0_cst_0_apply, val_main_call0_v3_apply, val_main_call0_v2_apply,
    val_main_call0_cst_apply, val_main_call0_v1_apply, val_main_call0_v0_apply, a A, Ideal.ofBits_def, Consts.one, Ideal.hostNegf_def, Ideal.negf_def,
    ← EReal.coe_neg, Ideal.hostUnary_exp_def, Ideal.exp_coe, Ideal.addf_def, ← EReal.coe_add, Ideal.hostDivf_def,
    Ideal.div_coe (one_add_exp_ne _), ← EReal.coe_mul, one_mul]
  rfl

theorem da (r : Rows) (f : Hid) : val_main_v9 (F := Ideal) x0 x1 x2 x3 x4 (ix2 r f) = ((dA h w1 w3 w2 g r f : ℝ) : EReal) := by
  rw [val_main_v9_apply, val_main_call1_v1_apply, val_main_call1_v2_apply, val_main_call1_v0_apply, val_main_v7_apply, val_main_v1_1_apply,
    val_main_call0_v7_apply, val_main_call0_v6_apply, val_main_call0_cst_1_apply, sig A, a A, b A, dt A, Ideal.ofBits_def, Consts.one]
  simp only [Ideal.mulf_def, Ideal.addf_def, Ideal.subf_def, ← EReal.coe_mul, ← EReal.coe_add, ← EReal.coe_sub]
  refine congrArg _ ?_
  unfold dA
  ring

theorem db (r : Rows) (f : Hid) : val_main_v6 (F := Ideal) x0 x1 x3 x4 (ix2 r f) = ((dB h w1 w2 g r f : ℝ) : EReal) := by
  rw [val_main_v6_apply, val_main_v1_0_apply, sig A, a A, dt A]
  simp only [Ideal.mulf_def, ← EReal.coe_mul]
  refine congrArg _ ?_
  unfold dB
  ring

/-- The gradient of `h`. -/
theorem dh (r : Rows) (e : Chan) : val_main_v11 (F := Ideal) x0 x1 x2 x3 x4 (ix2 r e) = ((dH h w1 w3 w2 g r e : ℝ) : EReal) := by
  have e8 : ∀ f, lidx_main_v8 (ix2 r e) f = ix2 r f := fun f => eq_ix2 _
  have e8' : ∀ f, ridx_main_v8 (ix2 r e) f = ix2 e f := fun f => eq_ix2 _
  have e10 : ∀ f, lidx_main_v10 (ix2 r e) f = ix2 r f := fun f => eq_ix2 _
  have e10' : ∀ f, ridx_main_v10 (ix2 r e) f = ix2 e f := fun f => eq_ix2 _
  rw [val_main_v11_apply, val_main_v8_apply, val_main_v10_apply]
  simp only [e8, e8', e10, e10', da A, db A, A.w1, A.w3, ← EReal.coe_mul, Consts.coe_sum]
  rw [Ideal.addf_def, ← EReal.coe_add, add_comm]
  rfl

end Cert.Ffn.Ref

end
-- ==== Proof.FfnPay.lean ====
/-
  What the stored values of the three SwiGLU calls are at an index, over the ideal values.
-/
module

public import proofs.«01_k».proof.Proof.Gen.Kernel2Ideal.Skeleton
public import Idealize.ShloMosaic.Lib.Pointwise

@[expose] public section

set_option maxRecDepth 16384

noncomputable section

namespace Cert.Ffn.Pay

open Cert.Kernel2Ideal Cert.Kernel2Ideal.Gen Idealize.ShloMosaic

/-- `a`: a row of `h` times a column of `w1`. -/
theorem a (h : FVec Ideal S512x1024 .bf16) (w : FVec Ideal S1024x1408 .bf16) (r : Fin 512) (f : Fin 1408) :
    k0_pay4 (F := Ideal) h w (ix2 r f) = ∑ e, h (ix2 r e) * w (ix2 e f) := by
  pointwise [k0_pay4, k0_pay2, k0_pay1]

/-- `b`: a row of `h` times a column of `w3`. -/
theorem b (h : FVec Ideal S512x1024 .bf16) (w : FVec Ideal S1024x1408 .bf16) (r : Fin 512) (f : Fin 1408) :
    k0_pay5 (F := Ideal) h w (ix2 r f) = ∑ e, h (ix2 r e) * w (ix2 e f) := by
  pointwise [k0_pay5, k0_pay3, k0_pay1]

/-- The gradient of the gated product: a row of the result's gradient times a row of `w2`. -/
theorem dt (g : FVec Ideal S512x1024 .bf16) (w : FVec Ideal S1408x1024 .bf16) (r : Fin 512) (f : Fin 1408) :
    k1_pay1 (F := Ideal) g w (ix2 r f) = ∑ e, g (ix2 r e) * w (ix2 f e) := by
  pointwise [k1_pay1]

/-- The logistic function of `a`, as the second call makes it. -/
theorem sg (a : FVec Ideal S512x1408 .bf16) (i : S512x1408.Idx) :
    k1_pay3 (F := Ideal) a i = Ideal.div 1 (1 + Ideal.exp (0 - a i)) := by
  pointwise [k1_pay3, k1_pay2]

/-- The gradient of `a`. -/
theorem da (g : FVec Ideal S512x1024 .bf16) (w : FVec Ideal S1408x1024 .bf16) (a b : FVec Ideal S512x1408 .bf16) (i : S512x1408.Idx) :
    k1_pay4 (F := Ideal) g w a b i = k1_pay1 (F := Ideal) g w i * b i
      * (k1_pay3 (F := Ideal) a i * (1 + a i * (1 - k1_pay3 (F := Ideal) a i))) := by
  pointwise [k1_pay4, k1_pay2]

/-- The gradient of `b`. -/
theorem db (g : FVec Ideal S512x1024 .bf16) (w : FVec Ideal S1408x1024 .bf16) (a : FVec Ideal S512x1408 .bf16) (i : S512x1408.Idx) :
    k1_pay5 (F := Ideal) g w a i = k1_pay1 (F := Ideal) g w i * (a i * k1_pay3 (F := Ideal) a i) := by
  pointwise [k1_pay5, k1_pay2]

/-- The gradient of `h`: the gradients of `a` and `b` against rows of `w1` and `w3`. -/
theorem dh (da db : FVec Ideal S512x2816 .bf16) (w1 w3 : FVec Ideal S1024x2816 .bf16) (r : Fin 512) (e : Fin 1024) :
    k2_pay1 (F := Ideal) da w1 db w3 (ix2 r e) = ∑ f, da (ix2 r f) * w1 (ix2 e f) + ∑ f, db (ix2 r f) * w3 (ix2 e f) := by
  pointwise [k2_pay1]

end Cert.Ffn.Pay

end
-- ==== Proof.FfnBlocks.lean ====
/-
  The three SwiGLU calls' arrays: the blocks the points read, and the results after the run.
-/
module

public import proofs.«01_k».proof.Proof.FfnSpec
public import proofs.«01_k».proof.Proof.FfnPay
public import proofs.«01_k».proof.Proof.FfnData
public import proofs.«01_k».proof.Proof.Consts
public import Idealize.ShloMosaic.Lib.Pipeline.ValueKit

@[expose] public section

set_option maxRecDepth 16384

noncomputable section

namespace Cert.Ffn.Blocks

open Cert.Kernel2Ideal Cert.Kernel2Ideal.Gen Idealize.ShloMosaic Idealize.ShloMosaic.TcCoe
open Idealize.ShloMosaic.Pipeline (Dat arrRef)

/-- The first two calls' points run over the row blocks within a block of hidden channels. -/
theorem idx0 : ∀ t : Fin cfg0.N, win0_0.index t = ![t.val % 32, 0] ∧ win0_1.index t = ![0, t.val / 32] ∧ win0_2.index t = ![0, t.val / 32]
    ∧ win0_4.index t = ![t.val % 32, t.val / 32] ∧ win0_5.index t = ![t.val % 32, t.val / 32] :=
  (by decide +kernel : ∀ t : Fin grid0.N, _)
theorem idx1 : ∀ t : Fin cfg1.N, win1_0.index t = ![t.val % 32, 0] ∧ win1_1.index t = ![t.val / 32, 0]
    ∧ win1_2.index t = ![t.val % 32, t.val / 32] ∧ win1_3.index t = ![t.val % 32, t.val / 32]
    ∧ win1_4.index t = ![t.val % 32, t.val / 32] ∧ win1_5.index t = ![t.val % 32, t.val / 32] :=
  (by decide +kernel : ∀ t : Fin grid1.N, _)
/-- The third call's points run over the row blocks. -/
theorem idx2 : ∀ t : Fin cfg2.N, win2_0.index t = ![t.val, 0] ∧ win2_1.index t = ![t.val, 0] ∧ win2_2.index t = ![0, 0]
    ∧ win2_3.index t = ![0, 0] ∧ win2_4.index t = ![t.val, 0] :=
  (by decide +kernel : ∀ t : Fin grid2.N, _)

/-- Row `r` of a row block, and hidden channel `f` of a block of them. -/
def row (b : ℕ) (r : Fin 512) : Rows := ⟨(b * 512 + r.val) % 16384, Nat.mod_lt _ (by decide)⟩
def hid (b : ℕ) (f : Fin 1408) : Hid := ⟨(b * 1408 + f.val) % 2816, Nat.mod_lt _ (by decide)⟩
theorem row_val (b : ℕ) (r : Fin 512) : (row b r).val = (b * 512 + r.val) % 16384 := rfl
theorem hid_val (b : ℕ) (f : Fin 1408) : (hid b f).val = (b * 1408 + f.val) % 2816 := rfl

theorem row_eq (b : ℕ) (r : Fin 512) (hb : b < 32) : b * 512 + r.val = (row b r).val := by rw [row_val]; omega
theorem hid_eq (b : ℕ) (f : Fin 1408) (hb : b < 2) : b * 1408 + f.val = (hid b f).val := by rw [hid_val]; omega

variable (V : Dev nD → Valuation τ sig (Elt Ideal)) (c : Dev nD)

/-! The first call. -/

theorem h_at (t : Fin cfg0.N) (hN : t.val < 64) (r : Fin 512) (e : Chan) :
    iblk0 V c 0 t (ix2 r e) = (V c main_v0 : S16384x1024.Idx → EReal) (ix2 (row (t.val % 32) r) e) := by
  blk_ext [iblk0, idx0 t, row_val]
theorem w1_at (t : Fin cfg0.N) (hN : t.val < 64) (e : Chan) (f : Fin 1408) :
    iblk0 V c 1 t (ix2 e f) = (V c main_v1 : S1024x2816.Idx → EReal) (ix2 e (hid (t.val / 32) f)) := by
  blk_ext [iblk0, idx0 t, hid_val]
theorem w3_at (t : Fin cfg0.N) (hN : t.val < 64) (e : Chan) (f : Fin 1408) :
    iblk0 V c 2 t (ix2 e f) = (V c main_v2 : S1024x2816.Idx → EReal) (ix2 e (hid (t.val / 32) f)) := by
  blk_ext [iblk0, idx0 t, hid_val]

/-! The second call. -/

theorem g_at (t : Fin cfg1.N) (hN : t.val < 64) (r : Fin 512) (e : Chan) :
    iblk1 V c 0 t (ix2 r e) = (V c main_v5 : S16384x1024.Idx → EReal) (ix2 (row (t.val % 32) r) e) := by
  blk_ext [iblk1, idx1 t, row_val]
theorem w2_at (t : Fin cfg1.N) (hN : t.val < 64) (f : Fin 1408) (e : Chan) :
    iblk1 V c 1 t (ix2 f e) = (V c main_v3 : S2816x1024.Idx → EReal) (ix2 (hid (t.val / 32) f) e) := by
  blk_ext [iblk1, idx1 t, hid_val]
theorem a_at (t : Fin cfg1.N) (hN : t.val < 64) (r : Fin 512) (f : Fin 1408) :
    iblk1 V c 2 t (ix2 r f) = (V c main_v4_1 : S16384x2816.Idx → EReal) (ix2 (row (t.val % 32) r) (hid (t.val / 32) f)) := by
  blk_ext [iblk1, idx1 t, row_val, hid_val]
theorem b_at (t : Fin cfg1.N) (hN : t.val < 64) (r : Fin 512) (f : Fin 1408) :
    iblk1 V c 3 t (ix2 r f) = (V c main_v4_2 : S16384x2816.Idx → EReal) (ix2 (row (t.val % 32) r) (hid (t.val / 32) f)) := by
  blk_ext [iblk1, idx1 t, row_val, hid_val]

/-! The third call. -/

theorem da_at (t : Fin cfg2.N) (hN : t.val < 32) (r : Fin 512) (f : Hid) :
    iblk2 V c 0 t (ix2 r f) = (V c main_v6_0 : S16384x2816.Idx → EReal) (ix2 (row t.val r) f) := by
  blk_ext [iblk2, idx2 t, row_val]
theorem db_at (t : Fin cfg2.N) (hN : t.val < 32) (r : Fin 512) (f : Hid) :
    iblk2 V c 1 t (ix2 r f) = (V c main_v6_1 : S16384x2816.Idx → EReal) (ix2 (row t.val r) f) := by
  blk_ext [iblk2, idx2 t, row_val]
theorem w1_at2 (t : Fin cfg2.N) (hN : t.val < 32) (e : Chan) (f : Hid) :
    iblk2 V c 2 t (ix2 e f) = (V c main_v1 : S1024x2816.Idx → EReal) (ix2 e f) := by
  blk_ext [iblk2, idx2 t]
theorem w3_at2 (t : Fin cfg2.N) (hN : t.val < 32) (e : Chan) (f : Hid) :
    iblk2 V c 3 t (ix2 e f) = (V c main_v2 : S1024x2816.Idx → EReal) (ix2 e f) := by
  blk_ext [iblk2, idx2 t]

variable {V c} {h : Rows → Chan → ℝ} {w1 w3 : Chan → Hid → ℝ} {w2 : Hid → Chan → ℝ} {g : Rows → Chan → ℝ}

/-- The logistic function at a real number. -/
theorem sg_coe (x : ℝ) : Ideal.div 1 (1 + Ideal.exp (0 - (x : EReal))) = ((sg x : ℝ) : EReal) := by
  rw [zero_sub, ← EReal.coe_neg, Ideal.exp_coe, ← EReal.coe_one, ← EReal.coe_add, Ideal.div_coe (one_add_exp_ne (-x)), ← EReal.coe_mul, one_mul]
  rfl

/-- A row of `h` through a column block of a weight. -/
theorem up_coe (x : S512x1024.Idx → EReal) (w : S1024x1408.Idx → EReal) {wr : Chan → Hid → ℝ} {R : Rows} {C : Hid} (r : Fin 512) (f : Fin 1408)
    (hx : ∀ e, x (ix2 r e) = ((h R e : ℝ) : EReal)) (hw : ∀ e, w (ix2 e f) = ((wr e C : ℝ) : EReal)) :
    ∑ e, x (ix2 r e) * w (ix2 e f) = ((up h wr R C : ℝ) : EReal) := by
  unfold up
  rw [← Consts.coe_sum]
  refine Finset.sum_congr rfl fun e _ => ?_
  rw [EReal.coe_mul, hx, hw]

/-- `h·w1` after the first call. -/
theorem a_out (hh : ∀ r e, (V c main_v0 : S16384x1024.Idx → EReal) (ix2 r e) = ((h r e : ℝ) : EReal))
    (hw : ∀ e f, (V c main_v1 : S1024x2816.Idx → EReal) (ix2 e f) = ((w1 e f : ℝ) : EReal)) :
    ((dat0 V c).arrAt 4 cfg0.N : S16384x2816.Idx → EReal) = fun i => ((up h w1 (i 0) (i 1) : ℝ) : EReal) := by
  refine (dat0 V c).arrAt_eq_of_covers 4 _ (by decide +kernel) fun t hf z => ?_
  have hN : t.val < 64 := lt_of_lt_of_eq t.isLt N_0
  have e : ∀ y : S512x1408.Idx, ((cfg0.win 4).blk t).view.emb y = (ix2 (row (t.val % 32) (y 0)) (hid (t.val / 32) (y 1)) : S16384x2816.Idx) := fun y => by
    blk_ext [idx0 t]
    · exact row_eq _ (y 0) (by omega)
    · exact hid_eq _ (y 1) (by omega)
  have key : ∀ z : S512x1408.Idx, k0_pay4 (F := Ideal) (iblk0 V c 0 t) (iblk0 V c 1 t) z
      = ((up h w1 (row (t.val % 32) (z 0)) (hid (t.val / 32) (z 1)) : ℝ) : EReal) := fun z =>
    (congrArg _ (eq_ix2 z)).trans ((Pay.a (iblk0 V c 0 t) (iblk0 V c 1 t) (z 0) (z 1)).trans
      (up_coe _ _ (z 0) (z 1) (fun x => (h_at V c t hN (z 0) x).trans (hh _ _)) fun x => (w1_at V c t hN x (z 1)).trans (hw _ _)))
  blk_simp
  rw [after0_4]
  have q := congrArg (fun i : S16384x2816.Idx => ((up h w1 (i 0) (i 1) : ℝ) : EReal)) (e z)
  exact (key z).trans q.symm

/-- `h·w3` after the first call. -/
theorem b_out (hh : ∀ r e, (V c main_v0 : S16384x1024.Idx → EReal) (ix2 r e) = ((h r e : ℝ) : EReal))
    (hw : ∀ e f, (V c main_v2 : S1024x2816.Idx → EReal) (ix2 e f) = ((w3 e f : ℝ) : EReal)) :
    ((dat0 V c).arrAt 5 cfg0.N : S16384x2816.Idx → EReal) = fun i => ((up h w3 (i 0) (i 1) : ℝ) : EReal) := by
  refine (dat0 V c).arrAt_eq_of_covers 5 _ (by decide +kernel) fun t hf z => ?_
  have hN : t.val < 64 := lt_of_lt_of_eq t.isLt N_0
  have e : ∀ y : S512x1408.Idx, ((cfg0.win 5).blk t).view.emb y = (ix2 (row (t.val % 32) (y 0)) (hid (t.val / 32) (y 1)) : S16384x2816.Idx) := fun y => by
    blk_ext [idx0 t]
    · exact row_eq _ (y 0) (by omega)
    · exact hid_eq _ (y 1) (by omega)
  have key : ∀ z : S512x1408.Idx, k0_pay5 (F := Ideal) (iblk0 V c 0 t) (iblk0 V c 2 t) z
      = ((up h w3 (row (t.val % 32) (z 0)) (hid (t.val / 32) (z 1)) : ℝ) : EReal) := fun z =>
    (congrArg _ (eq_ix2 z)).trans ((Pay.b (iblk0 V c 0 t) (iblk0 V c 2 t) (z 0) (z 1)).trans
      (up_coe _ _ (z 0) (z 1) (fun x => (h_at V c t hN (z 0) x).trans (hh _ _)) fun x => (w3_at V c t hN x (z 1)).trans (hw _ _)))
  blk_simp
  rw [after0_5]
  have q := congrArg (fun i : S16384x2816.Idx => ((up h w3 (i 0) (i 1) : ℝ) : EReal)) (e z)
  exact (key z).trans q.symm

/-- What the second call finds. -/
structure In1 (V : Dev nD → Valuation τ sig (Elt Ideal)) (c : Dev nD) (h : Rows → Chan → ℝ) (w1 w3 : Chan → Hid → ℝ) (w2 : Hid → Chan → ℝ)
    (g : Rows → Chan → ℝ) : Prop where
  hg : ∀ r e, (V c main_v5 : S16384x1024.Idx → EReal) (ix2 r e) = ((g r e : ℝ) : EReal)
  hw : ∀ f e, (V c main_v3 : S2816x1024.Idx → EReal) (ix2 f e) = ((w2 f e : ℝ) : EReal)
  ha : ∀ r f, (V c main_v4_1 : S16384x2816.Idx → EReal) (ix2 r f) = ((up h w1 r f : ℝ) : EReal)
  hb : ∀ r f, (V c main_v4_2 : S16384x2816.Idx → EReal) (ix2 r f) = ((up h w3 r f : ℝ) : EReal)

/-- The gradient of the gated product, in a block. -/
theorem dt_blk (I : In1 V c h w1 w3 w2 g) (t : Fin cfg1.N) (hN : t.val < 64) (r : Fin 512) (f : Fin 1408) :
    k1_pay1 (F := Ideal) (iblk1 V c 0 t) (iblk1 V c 1 t) (ix2 r f) = ((dT w2 g (row (t.val % 32) r) (hid (t.val / 32) f) : ℝ) : EReal) := by
  refine (Pay.dt (iblk1 V c 0 t) (iblk1 V c 1 t) r f).trans ?_
  unfold dT
  rw [← Consts.coe_sum]
  refine Finset.sum_congr rfl fun x _ => ?_
  rw [EReal.coe_mul]
  exact congrArg₂ (· * ·) ((g_at V c t hN r x).trans (I.hg _ _)) ((w2_at V c t hN f x).trans (I.hw _ _))

/-- The logistic function of `h·w1`, in a block. -/
theorem sg_blk (I : In1 V c h w1 w3 w2 g) (t : Fin cfg1.N) (hN : t.val < 64) (r : Fin 512) (f : Fin 1408) :
    k1_pay3 (F := Ideal) (iblk1 V c 2 t) (ix2 r f) = ((sg (up h w1 (row (t.val % 32) r) (hid (t.val / 32) f)) : ℝ) : EReal) := by
  rw [← sg_coe, ← I.ha, ← a_at V c t hN r f]
  exact Pay.sg (iblk1 V c 2 t) (ix2 r f)

/-- The gradient of `h·w1` after the second call. -/
theorem da_out (I : In1 V c h w1 w3 w2 g) :
    ((dat1 V c).arrAt 4 cfg1.N : S16384x2816.Idx → EReal) = fun i => ((dA h w1 w3 w2 g (i 0) (i 1) : ℝ) : EReal) := by
  refine (dat1 V c).arrAt_eq_of_covers 4 _ (by decide +kernel) fun t hf z => ?_
  have hN : t.val < 64 := lt_of_lt_of_eq t.isLt N_1
  have e : ∀ y : S512x1408.Idx, ((cfg1.win 4).blk t).view.emb y = (ix2 (row (t.val % 32) (y 0)) (hid (t.val / 32) (y 1)) : S16384x2816.Idx) := fun y => by
    blk_ext [idx1 t]
    · exact row_eq _ (y 0) (by omega)
    · exact hid_eq _ (y 1) (by omega)
  have key : ∀ (r : Fin 512) (f : Fin 1408), k1_pay4 (F := Ideal) (iblk1 V c 0 t) (iblk1 V c 1 t) (iblk1 V c 2 t) (iblk1 V c 3 t) (ix2 r f)
      = ((dA h w1 w3 w2 g (row (t.val % 32) r) (hid (t.val / 32) f) : ℝ) : EReal) := fun r f => by
    refine (Pay.da (iblk1 V c 0 t) (iblk1 V c 1 t) (iblk1 V c 2 t) (iblk1 V c 3 t) (ix2 r f)).trans ?_
    rw [dt_blk I t hN, sg_blk I t hN, (a_at V c t hN r f).trans (I.ha _ _), (b_at V c t hN r f).trans (I.hb _ _), ← EReal.coe_one]
    simp only [← EReal.coe_mul, ← EReal.coe_add, ← EReal.coe_sub]
    rfl
  blk_simp
  rw [after1_4]
  have q := congrArg (fun i : S16384x2816.Idx => ((dA h w1 w3 w2 g (i 0) (i 1) : ℝ) : EReal)) (e z)
  exact (congrArg _ (eq_ix2 z)).trans ((key (z 0) (z 1)).trans q.symm)

/-- The gradient of `h·w3` after the second call. -/
theorem db_out (I : In1 V c h w1 w3 w2 g) :
    ((dat1 V c).arrAt 5 cfg1.N : S16384x2816.Idx → EReal) = fun i => ((dB h w1 w2 g (i 0) (i 1) : ℝ) : EReal) := by
  refine (dat1 V c).arrAt_eq_of_covers 5 _ (by decide +kernel) fun t hf z => ?_
  have hN : t.val < 64 := lt_of_lt_of_eq t.isLt N_1
  have e : ∀ y : S512x1408.Idx, ((cfg1.win 5).blk t).view.emb y = (ix2 (row (t.val % 32) (y 0)) (hid (t.val / 32) (y 1)) : S16384x2816.Idx) := fun y => by
    blk_ext [idx1 t]
    · exact row_eq _ (y 0) (by omega)
    · exact hid_eq _ (y 1) (by omega)
  have key : ∀ (r : Fin 512) (f : Fin 1408), k1_pay5 (F := Ideal) (iblk1 V c 0 t) (iblk1 V c 1 t) (iblk1 V c 2 t) (ix2 r f)
      = ((dB h w1 w2 g (row (t.val % 32) r) (hid (t.val / 32) f) : ℝ) : EReal) := fun r f => by
    refine (Pay.db (iblk1 V c 0 t) (iblk1 V c 1 t) (iblk1 V c 2 t) (ix2 r f)).trans ?_
    rw [dt_blk I t hN, sg_blk I t hN, (a_at V c t hN r f).trans (I.ha _ _), ← EReal.coe_mul, ← EReal.coe_mul]
    rfl
  blk_simp
  rw [after1_5]
  have q := congrArg (fun i : S16384x2816.Idx => ((dB h w1 w2 g (i 0) (i 1) : ℝ) : EReal)) (e z)
  exact (congrArg _ (eq_ix2 z)).trans ((key (z 0) (z 1)).trans q.symm)

/-- The gradient of `h` after the third call. -/
theorem dh_out (hda : ∀ r f, (V c main_v6_0 : S16384x2816.Idx → EReal) (ix2 r f) = ((dA h w1 w3 w2 g r f : ℝ) : EReal))
    (hdb : ∀ r f, (V c main_v6_1 : S16384x2816.Idx → EReal) (ix2 r f) = ((dB h w1 w2 g r f : ℝ) : EReal))
    (hw1 : ∀ e f, (V c main_v1 : S1024x2816.Idx → EReal) (ix2 e f) = ((w1 e f : ℝ) : EReal))
    (hw3 : ∀ e f, (V c main_v2 : S1024x2816.Idx → EReal) (ix2 e f) = ((w3 e f : ℝ) : EReal)) :
    ((dat2 V c).arrAt 4 cfg2.N : S16384x1024.Idx → EReal) = fun i => ((dH h w1 w3 w2 g (i 0) (i 1) : ℝ) : EReal) := by
  refine (dat2 V c).arrAt_eq_of_covers 4 _ (by decide +kernel) fun t hf z => ?_
  have hN : t.val < 32 := lt_of_lt_of_eq t.isLt N_2
  have e : ∀ y : S512x1024.Idx, ((cfg2.win 4).blk t).view.emb y = (ix2 (row t.val (y 0)) (y 1) : S16384x1024.Idx) := fun y => by
    blk_ext [idx2 t]
    exact row_eq _ (y 0) hN
  have key : ∀ z : S512x1024.Idx, k2_pay1 (F := Ideal) (iblk2 V c 0 t) (iblk2 V c 2 t) (iblk2 V c 1 t) (iblk2 V c 3 t) z
      = ((dH h w1 w3 w2 g (row t.val (z 0)) (z 1) : ℝ) : EReal) := fun z => by
    refine (congrArg _ (eq_ix2 z)).trans ((Pay.dh (iblk2 V c 0 t) (iblk2 V c 1 t) (iblk2 V c 2 t) (iblk2 V c 3 t) (z 0) (z 1)).trans ?_)
    unfold dH
    rw [EReal.coe_add, ← Consts.coe_sum, ← Consts.coe_sum]
    refine congrArg₂ (· + ·) (Finset.sum_congr rfl fun x _ => ?_) (Finset.sum_congr rfl fun x _ => ?_) <;> rw [EReal.coe_mul]
    · exact congrArg₂ (· * ·) ((da_at V c t hN (z 0) x).trans (hda _ _)) ((w1_at2 V c t hN (z 1) x).trans (hw1 _ _))
    · exact congrArg₂ (· * ·) ((db_at V c t hN (z 0) x).trans (hdb _ _)) ((w3_at2 V c t hN (z 1) x).trans (hw3 _ _))
  blk_simp
  rw [after2_4]
  have q := congrArg (fun i : S16384x1024.Idx => ((dH h w1 w3 w2 g (i 0) (i 1) : ℝ) : EReal)) (e z)
  exact (key z).trans q.symm

end Cert.Ffn.Blocks

end
-- ==== Proof.FfnResult.lean ====
/-
  The kernel's gradient of SwiGLU's input, entry by entry: the three calls in turn.
-/
module

public import proofs.«01_k».proof.Proof.FfnWhole
public import proofs.«01_k».proof.Proof.FfnBlocks
public import Idealize.ShloMosaic.Lib.Pointwise

@[expose] public section

set_option maxRecDepth 16384

noncomputable section

namespace Cert.Ffn.Result

open Cert.Kernel2Ideal Cert.Kernel2Ideal.Gen Idealize.ShloMosaic Idealize.ShloMosaic.TcCoe Idealize.ShloMosaic.StableHlo

section
variable (X : Valuation τ sig (Elt Ideal))

/-! The casts before the calls change nothing. -/

theorem v0 : (after hostOps0 X main_v0 : S16384x1024.Idx → EReal) = (X main_arg0 : S16384x1024.Idx → EReal) := by
  have e : after hostOps0 X main_v0 = truncf (F := Ideal) .bf16 (X main_arg0 : FVec Ideal S16384x1024 .f32) bitsLt_bf16_f32 := by after_results
  rw [e]; rfl
theorem v1 : (after hostOps0 X main_v1 : S1024x2816.Idx → EReal) = (X main_arg1 : S1024x2816.Idx → EReal) := by
  have e : after hostOps0 X main_v1 = truncf (F := Ideal) .bf16 (X main_arg1 : FVec Ideal S1024x2816 .f32) bitsLt_bf16_f32 := by after_results
  rw [e]; rfl
theorem v2 : (after hostOps0 X main_v2 : S1024x2816.Idx → EReal) = (X main_arg2 : S1024x2816.Idx → EReal) := by
  have e : after hostOps0 X main_v2 = truncf (F := Ideal) .bf16 (X main_arg2 : FVec Ideal S1024x2816 .f32) bitsLt_bf16_f32 := by after_results
  rw [e]; rfl
theorem v3 : (after hostOps0 X main_v3 : S2816x1024.Idx → EReal) = (X main_arg3 : S2816x1024.Idx → EReal) := by
  have e : after hostOps0 X main_v3 = truncf (F := Ideal) .bf16 (X main_arg3 : FVec Ideal S2816x1024 .f32) bitsLt_bf16_f32 := by after_results
  rw [e]; rfl
theorem v5 : (after hostOps1 X main_v5 : S16384x1024.Idx → EReal) = (X main_arg4 : S16384x1024.Idx → EReal) := by
  have e : after hostOps1 X main_v5 = truncf (F := Ideal) .bf16 (X main_arg4 : FVec Ideal S16384x1024 .f32) bitsLt_bf16_f32 := by after_results
  rw [e]; rfl

end

variable (m : (ℓ : Loc nD τ sig) → Buf (Elt Ideal) ℓ) (c : Dev nD)

/-- The five arguments, as real arrays. -/
structure Args (h : Rows → Chan → ℝ) (w1 w3 : Chan → Hid → ℝ) (w2 : Hid → Chan → ℝ) (g : Rows → Chan → ℝ) : Prop where
  h : ∀ r e, (V0 m c main_arg0 : S16384x1024.Idx → EReal) (ix2 r e) = ((h r e : ℝ) : EReal)
  w1 : ∀ e f, (V0 m c main_arg1 : S1024x2816.Idx → EReal) (ix2 e f) = ((w1 e f : ℝ) : EReal)
  w3 : ∀ e f, (V0 m c main_arg2 : S1024x2816.Idx → EReal) (ix2 e f) = ((w3 e f : ℝ) : EReal)
  w2 : ∀ f e, (V0 m c main_arg3 : S2816x1024.Idx → EReal) (ix2 f e) = ((w2 f e : ℝ) : EReal)
  g : ∀ r e, (V0 m c main_arg4 : S16384x1024.Idx → EReal) (ix2 r e) = ((g r e : ℝ) : EReal)

variable {m c} {h : Rows → Chan → ℝ} {w1 w3 : Chan → Hid → ℝ} {w2 : Hid → Chan → ℝ} {g : Rows → Chan → ℝ}

/-- A buffer the first host operations or nobody wrote, as the second call finds it. -/
theorem keep3 (r : Ref sig .tc) (h3 : r ∉ hostOps1_W) (h2 : r ∉ ([main_v4_0, main_v4_1, main_v4_2] : List (Ref sig .tc))) :
    U3 m c r = V1 m c r := by
  rw [← V3_eq, V3_of m _ c r h3, V2_of m _ c r h2]

/-- What the second call finds. -/
theorem in1 (A : Args m c h w1 w3 w2 g) : Blocks.In1 (U3 m) c h w1 w3 w2 g where
  hg r e := by
    rw [← V3_eq]
    refine (congrFun (v5 _) (ix2 r e)).trans ?_
    rw [V2_of m _ c main_arg4 (by decide), V1_of m c main_arg4 (by decide)]
    exact A.g r e
  hw f e := by
    rw [keep3 main_v3 (by decide) (by decide)]
    exact (congrFun (v3 _) (ix2 f e)).trans (A.w2 f e)
  ha r f := by
    have e : U2 m c main_v4_1 = (dat0 (V1 m) c).arrAt 4 cfg0.N := Pipeline.afterRegion_arr (dat0 (V1 m) c) (V1 m c) launch0.win.arr_inj 4
    rw [← V3_eq, V3_of m _ c main_v4_1 (by decide), V2_eq, e]
    exact congrFun (Blocks.a_out (V := V1 m) (h := h) (w1 := w1) (fun r e => (congrFun (v0 _) (ix2 r e)).trans (A.h r e))
      fun e f => (congrFun (v1 _) (ix2 e f)).trans (A.w1 e f)) (ix2 r f)
  hb r f := by
    have e : U2 m c main_v4_2 = (dat0 (V1 m) c).arrAt 5 cfg0.N := Pipeline.afterRegion_arr (dat0 (V1 m) c) (V1 m c) launch0.win.arr_inj 5
    rw [← V3_eq, V3_of m _ c main_v4_2 (by decide), V2_eq, e]
    exact congrFun (Blocks.b_out (V := V1 m) (h := h) (w3 := w3) (fun r e => (congrFun (v0 _) (ix2 r e)).trans (A.h r e))
      fun e f => (congrFun (v2 _) (ix2 e f)).trans (A.w3 e f)) (ix2 r f)

/-- The gradient of `h`. -/
theorem dh (A : Args m c h w1 w3 w2 g) (r : Rows) (e : Chan) :
    (V5 m (outs m) c main_v7 : S16384x1024.Idx → EReal) (ix2 r e) = ((dH h w1 w3 w2 g r e : ℝ) : EReal) := by
  have e5 : U5 m c main_v7 = (dat2 (U4 m) c).arrAt 4 cfg2.N := Pipeline.afterRegion_arr (dat2 (U4 m) c) (U4 m c) launch2.win.arr_inj 4
  have ea : U4 m c main_v6_0 = (dat1 (U3 m) c).arrAt 4 cfg1.N := Pipeline.afterRegion_arr (dat1 (U3 m) c) (U3 m c) launch1.win.arr_inj 4
  have eb : U4 m c main_v6_1 = (dat1 (U3 m) c).arrAt 5 cfg1.N := Pipeline.afterRegion_arr (dat1 (U3 m) c) (U3 m c) launch1.win.arr_inj 5
  have k4 : ∀ r : Ref sig .tc, r ∉ ([main_v6_0, main_v6_1] : List (Ref sig .tc)) → U4 m c r = U3 m c r := fun r h => by
    rw [← V4_eq, ← V3_eq, V4_of m _ c r h]
  rw [V5_eq, e5]
  refine congrFun (Blocks.dh_out (V := U4 m) ?_ ?_ ?_ ?_) (ix2 r e)
  · intro r f; rw [ea]; exact congrFun (Blocks.da_out (in1 A)) (ix2 r f)
  · intro r f; rw [eb]; exact congrFun (Blocks.db_out (in1 A)) (ix2 r f)
  · intro e f; rw [k4 main_v1 (by decide), keep3 main_v1 (by decide) (by decide)]; exact (congrFun (v1 _) (ix2 e f)).trans (A.w1 e f)
  · intro e f; rw [k4 main_v2 (by decide), keep3 main_v2 (by decide) (by decide)]; exact (congrFun (v2 _) (ix2 e f)).trans (A.w3 e f)

end Cert.Ffn.Result

end
-- ==== Proof.FfnPre.lean ====
/-
  The precondition of the SwiGLU gradient read back: every entry of every argument is a real number.
-/
module

public import proofs.«01_k».proof.Pre_finite2
public import proofs.«01_k».proof.Proof.Pre

@[expose] public section

set_option maxRecDepth 16384

noncomputable section

namespace Cert.Ffn.Pre

open Cert.Pre_finite2 Idealize.ShloMosaic

/-- The side conditions the predicate's operations take. -/
theorem facts : Cert.Pre_finite2.Facts where
  bcast_S_S16384x1024 := by decide
  reducesTo_S16384x1024_S_d0_1 := by decide
  h_S_ := by decide
  bcast_S_S1024x2816 := by decide
  reducesTo_S1024x2816_S_d0_1 := by decide
  bcast_S_S2816x1024 := by decide
  reducesTo_S2816x1024_S_d0_1 := by decide

/-- The precondition: every entry of the five arguments is a real number. -/
theorem real [h : Cert.Pre_finite2.Facts] (x0 : FVec Ideal S16384x1024 .f32) (x1 x2 : FVec Ideal S1024x2816 .f32) (x3 : FVec Ideal S2816x1024 .f32)
    (x4 : FVec Ideal S16384x1024 .f32) (e : Cert.Pre_finite2.fn (F := Ideal) x0 x1 x2 x3 x4 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal))
      ∧ ∀ i, x4 i = (((x4 i : EReal).toReal : ℝ) : EReal) := by
  have j : S_.Idx := fun i => i.elim0
  obtain ⟨e0123, e4⟩ := IntOp.andi_eq_one.1 (congrFun e j)
  obtain ⟨e012, e3⟩ := IntOp.andi_eq_one.1 e0123
  obtain ⟨e01, e2⟩ := IntOp.andi_eq_one.1 e012
  obtain ⟨e0, e1⟩ := IntOp.andi_eq_one.1 e01
  exact ⟨Cert.Pre.real_of_all x0 _ _ _ _ j e0, Cert.Pre.real_of_all x1 _ _ _ _ j e1, Cert.Pre.real_of_all x2 _ _ _ _ j e2,
    Cert.Pre.real_of_all x3 _ _ _ _ j e3, Cert.Pre.real_of_all x4 _ _ _ _ j e4⟩

end Cert.Ffn.Pre

end
-- ==== Proof.FfnAlgebraic.lean ====
/-
  The value claim of the SwiGLU gradient: on finite arguments the kernel and the reference end with the same gradient.

  Both sides are the real-valued gradient of `FfnSpec.lean`: the kernel's by `FfnResult.lean`, the reference's by
  `FfnRef.lean`.
-/
module

public import proofs.«01_k».proof.Proof.FfnFrames
public import proofs.«01_k».proof.Proof.FfnRef
public import proofs.«01_k».proof.Proof.FfnResult
public import proofs.«01_k».proof.Proof.FfnPre

@[expose] public section

set_option maxRecDepth 16384

noncomputable section

namespace Cert.Ffn

open Idealize.ShloMosaic Idealize.ShloMosaic.TcCoe Idealize.SL.Sem
open Cert.Kernel2Ideal Cert.Kernel2Ideal.Gen

/-- The reference's gradient, of the kernel's arguments, is the kernel's. -/
theorem dh_eq (m : (ℓ : Loc nD τ sig) → Buf (Elt Ideal) ℓ) (c : Dev nD) (hpre : Cert.Pre_Kernel2Ideal_finite2 (hPre_finite2 := Pre.facts) m) :
    Reference2Ideal.Read.val_main_v11 (F := Ideal) (V0 m c main_arg0) (V0 m c main_arg1) (V0 m c main_arg2) (V0 m c main_arg3) (V0 m c main_arg4)
      = V5 m (outs m) c main_v7 := by
  obtain ⟨h0, h1, h2, h3, h4⟩ := Pre.real (h := Pre.facts) _ _ _ _ _ (hpre c)
  have B : Ref.Args _ _ _ _ _ (V0 m c main_arg0) (V0 m c main_arg1) (V0 m c main_arg2) (V0 m c main_arg3) (V0 m c main_arg4) :=
    ⟨fun r e => h0 (ix2 r e), fun e f => h1 (ix2 e f), fun e f => h2 (ix2 e f), fun f e => h3 (ix2 f e), fun r e => h4 (ix2 r e)⟩
  funext i
  rw [eq_ix2 i]
  exact (Ref.dh B (i 0) (i 1)).trans (Result.dh ⟨B.h, B.w1, B.w3, B.w2, B.g⟩ (i 0) (i 1)).symm

/-- Kernel and reference run and end with the same gradient, their arguments unchanged. -/
theorem algebraic : Cert.algebraic_Kernel2Ideal_Reference2Ideal_pre_finite2 (hKernel2Ideal := Cert.Kernel2Ideal.Gen.facts)
    (hReference2Ideal := Cert.Reference2Ideal.Gen.facts) (hPre_finite2 := Pre.facts) := by
  intro m ρ m' ρ' hpre hagree
  refine ⟨fun c => V5 m (outs m) c main_v7, ?_, ?_⟩
  · exact (θ_run defs _ _).mono (fun r h c => ⟨h.1 c _ (mem_uc main_v7 rfl), args_kept c (h.1 c)⟩) (run (F := Ideal) m ρ)
  · refine (θ_run Cert.Reference2Ideal.defs _ _).mono (fun r h c => ?_) (Cert.Reference2Ideal.Value.run (F := Ideal) m' ρ')
    obtain ⟨h0, ha⟩ := h c
    obtain ⟨a0, a1, a2, a3, a4⟩ := hagree c
    refine ⟨?_, ha⟩
    refine h0.trans ((Reference2Ideal.Read.val_main_v11_eq _ _ _ _ _).trans ?_)
    rw [a0, a1, a2, a3, a4]; exact dh_eq m c hpre

end Cert.Ffn

end
-- ==== Proof.InFwd.lean ====
/-
  The input projection `h · w`, one point to a block.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.InFwd

open Cert.Kernel3Ideal Cert.Kernel3Ideal.Gen Cert.Kernel3Ideal.Value Idealize.ShloMosaic Idealize.ShloMosaic.TcCoe Idealize.ShloMosaic.StableHlo
  Idealize.SL.Sem

/-- Row `r` of a row block, and column `f` of a column block. -/
def row (b : ℕ) (r : Fin 256) : Fin 16384 := ⟨(b * 256 + r.val) % 16384, Nat.mod_lt _ (by decide)⟩
def col (b : ℕ) (f : Fin 4352) : Fin 8704 := ⟨(b * 4352 + f.val) % 8704, Nat.mod_lt _ (by decide)⟩
theorem row_val (b : ℕ) (r : Fin 256) : (row b r).val = (b * 256 + r.val) % 16384 := rfl
theorem col_val (b : ℕ) (f : Fin 4352) : (col b f).val = (b * 4352 + f.val) % 8704 := rfl

/-- The points run over the row blocks within a column block. -/
theorem idx : ∀ t : Fin cfg0.N, win0_0.index t = ![t.val % 64, 0] ∧ win0_1.index t = ![0, t.val / 64]
    ∧ win0_2.index t = ![t.val % 64, t.val / 64] :=
  (by decide +kernel : ∀ t : Fin grid0.N, _)

/-- A block's product. -/
theorem pay (h : FVec Ideal S256x1024 .bf16) (w : FVec Ideal S1024x4352 .bf16) (r : Fin 256) (f : Fin 4352) :
    k0_pay1 (F := Ideal) h w (ix2 r f) = ∑ e, h (ix2 r e) * w (ix2 e f) := by
  pointwise [k0_pay1]

theorem hz : (![0, 0] : Fin 2 → ℕ) = fun _ => 0 := funext fun a => by fin_cases a <;> rfl

/-- What the body leaves in the result's block. -/
theorem out (x0 : Vec Ideal S256x1024 .bf16) (x1 : Vec Ideal S1024x4352 .bf16) : out0_2 (F := Ideal) x0 x1 = k0_pay1 x0 x1 := by
  unfold out0_2 r0_0 r0_1 r0_2
  rw [View.canon_unit_zero hz, View.ld_unit_zero hz, View.ld_unit_zero hz]

variable (m : (ℓ : Loc nD τ sig) → Buf (Elt Ideal) ℓ) (c : Dev nD)

/-- The input and the weight. -/
abbrev h : S16384x1024.Idx → EReal := m ((c : Thread nD τ).loc main_arg0)
abbrev w : S1024x8704.Idx → EReal := m ((c : Thread nD τ).loc main_arg1)

theorem h_at (t : Fin cfg0.N) (hN : t.val < 128) (r : Fin 256) (e : Fin 1024) :
    (iblk m c 0 t : S256x1024.Idx → EReal) (ix2 r e) = h m c (ix2 (row (t.val % 64) r) e) := by
  have e' : V m c main_v0 = truncf (F := Ideal) .bf16 (h m c : FVec Ideal S16384x1024 .f32) bitsLt_bf16_f32 := by
    show StableHlo.after hostOps0 _ main_v0 = _
    after_results
  have q : (iblk m c 0 t : S256x1024.Idx → EReal) (ix2 r e) = (V m c main_v0 : S16384x1024.Idx → EReal) (ix2 (row (t.val % 64) r) e) := by
    blk_ext [iblk, idx t, row_val]
  rw [q, e']; rfl
theorem w_at (t : Fin cfg0.N) (hN : t.val < 128) (e : Fin 1024) (f : Fin 4352) :
    (iblk m c 1 t : S1024x4352.Idx → EReal) (ix2 e f) = w m c (ix2 e (col (t.val / 64) f)) := by
  have e' : V m c main_v1 = truncf (F := Ideal) .bf16 (w m c : FVec Ideal S1024x8704 .f32) bitsLt_bf16_f32 := by
    show StableHlo.after hostOps0 _ main_v1 = _
    after_results
  have q : (iblk m c 1 t : S1024x4352.Idx → EReal) (ix2 e f) = (V m c main_v1 : S1024x8704.Idx → EReal) (ix2 e (col (t.val / 64) f)) := by
    blk_ext [iblk, idx t, col_val]
  rw [q, e']; rfl

/-- The product. -/
def product (i : S16384x8704.Idx) : EReal := ∑ e : Fin 1024, h m c (ix2 (i 0) e) * w m c (ix2 e (i 1))

/-- The call's result. -/
theorem result : ((dats m 0 c).arrAt 2 cfg0.N : S16384x8704.Idx → EReal) = product m c := by
  refine (dats m 0 c).arrAt_eq_of_covers 2 _ (by decide +kernel) fun t hf z => ?_
  have hN : t.val < 128 := lt_of_lt_of_eq t.isLt N_0
  have e : ∀ y : S256x4352.Idx, ((cfg0.win 2).blk t).view.emb y = (ix2 (row (t.val % 64) (y 0)) (col (t.val / 64) (y 1)) : S16384x8704.Idx) := fun y => by
    blk_ext [idx t]
    · show _ = (t.val % 64 * 256 + (y 0).val) % 16384; omega
    · show _ = (t.val / 64 * 4352 + (y 1).val) % 8704; omega
  have key : ∀ z : S256x4352.Idx, k0_pay1 (F := Ideal) (iblk m c 0 t) (iblk m c 1 t) z
      = product m c (ix2 (row (t.val % 64) (z 0)) (col (t.val / 64) (z 1))) := fun z =>
    (congrArg _ (eq_ix2 z)).trans ((pay (iblk m c 0 t) (iblk m c 1 t) (z 0) (z 1)).trans
      (Finset.sum_congr rfl fun x _ => by rw [h_at m c t hN (z 0) x, w_at m c t hN x (z 1)]; rfl))
  blk_simp
  rw [after0_2, out]
  exact (key z).trans (congrArg (product m c) (e z)).symm

/-- The reference's result. -/
theorem reference (x0 : S16384x1024.Idx → EReal) (x1 : S1024x8704.Idx → EReal) (i : S16384x8704.Idx) :
    Reference3Ideal.Read.val_main_v0 (F := Ideal) x0 x1 i = ∑ e : Fin 1024, x0 (ix2 (i 0) e) * x1 (ix2 e (i 1)) := by
  rw [Reference3Ideal.Read.val_main_v0_apply]
  refine Finset.sum_congr rfl fun e _ => ?_
  rw [eq_ix2 (Reference3Ideal.Read.lidx_main_v0 i e), eq_ix2 (Reference3Ideal.Read.ridx_main_v0 i e)]
  rfl

/-- Kernel and reference run and end with the same product, their arguments unchanged. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => product m c, (θ_run Cert.Kernel3Ideal.defs _ _).mono (fun r h c => ⟨(h c).1.trans (result m c), (h c).2⟩)
    (Value.run_blocks (F := Ideal) m ρ), ?_⟩
  refine (θ_run Cert.Reference3Ideal.defs _ _).mono (fun r h c => ?_) (Cert.Reference3Ideal.Value.run (F := Ideal) m' ρ')
  obtain ⟨h0, ha⟩ := h c
  obtain ⟨a0, a1⟩ := hagree c
  refine ⟨?_, ha⟩
  refine h0.trans ((Reference3Ideal.Read.val_main_v0_eq _ _).trans ?_)
  rw [a0, a1]
  exact funext fun i => reference _ _ i

/-- The reference's frame is its generated run. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.InFwd

end
-- ==== Proof.InDx.lean ====
/-
  The input projection's gradient of its input: `g · wᵀ`, summed over four blocks of columns in scratch and rounded to the result at the last.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.InDx

open Cert.Kernel4Ideal Cert.Kernel4Ideal.Gen Cert.Kernel4Ideal.Value Idealize.ShloMosaic Idealize.ShloMosaic.TcCoe Idealize.ShloMosaic.StableHlo
  Idealize.SL.Sem

/-- Row `r` of a row block, and column `f` of a column block. -/
def row (b : ℕ) (r : Fin 1024) : Fin 16384 := ⟨(b * 1024 + r.val) % 16384, Nat.mod_lt _ (by decide)⟩
def col (b : ℕ) (f : Fin 2176) : Fin 8704 := ⟨(b * 2176 + f.val) % 8704, Nat.mod_lt _ (by decide)⟩
theorem row_val (b : ℕ) (r : Fin 1024) : (row b r).val = (b * 1024 + r.val) % 16384 := rfl
theorem col_val (b : ℕ) (f : Fin 2176) : (col b f).val = (b * 2176 + f.val) % 8704 := rfl

/-- The points run over the column blocks within a row block. -/
theorem idx : ∀ t : Fin cfg0.N, win0_0.index t = ![t.val / 4, t.val % 4] ∧ win0_1.index t = ![0, t.val % 4] :=
  (by decide +kernel : ∀ t : Fin grid0.N, _)

/-- One block's products, added to what the block before left. -/
theorem pay (acc : FVec Ideal S1024x1024 .f32) (g w : FVec Ideal S1024x2176 .bf16) (r e : Fin 1024) :
    k0_pay2 (F := Ideal) acc g w (ix2 r e) = acc (ix2 r e) + ∑ f, g (ix2 r f) * w (ix2 e f) := by
  pointwise [k0_pay2]
theorem zero (i : S1024x1024.Idx) : k0_pay1 (F := Ideal) i = 0 := by
  pointwise [k0_pay1]
theorem round (x : FVec Ideal S1024x1024 .f32) (i : S1024x1024.Idx) : (k0_pay3 (F := Ideal) x : S1024x1024.Idx → EReal) i = x i := rfl

theorem hz : (![0, 0] : Fin 2 → ℕ) = fun _ => 0 := funext fun a => by fin_cases a <;> rfl

variable (m : (ℓ : Loc nD τ sig) → Buf (Elt Ideal) ℓ) (c : Dev nD)

/-- The weight and the result's gradient. -/
abbrev w : S1024x8704.Idx → EReal := m ((c : Thread nD τ).loc main_arg0)
abbrev g : S16384x8704.Idx → EReal := m ((c : Thread nD τ).loc main_arg1)

theorem g_at (t : Fin cfg0.N) (hN : t.val < 64) (r : Fin 1024) (f : Fin 2176) :
    (iblk m c 0 t : S1024x2176.Idx → EReal) (ix2 r f) = g m c (ix2 (row (t.val / 4) r) (col (t.val % 4) f)) := by
  have e : V m c main_v0 = truncf (F := Ideal) .bf16 (g m c : FVec Ideal S16384x8704 .f32) bitsLt_bf16_f32 := by
    show StableHlo.after hostOps0 _ main_v0 = _
    after_results
  have q : (iblk m c 0 t : S1024x2176.Idx → EReal) (ix2 r f) = (V m c main_v0 : S16384x8704.Idx → EReal) (ix2 (row (t.val / 4) r) (col (t.val % 4) f)) := by
    blk_ext [iblk, idx t, row_val, col_val]
  rw [q, e]; rfl
theorem w_at (t : Fin cfg0.N) (hN : t.val < 64) (e : Fin 1024) (f : Fin 2176) :
    (iblk m c 1 t : S1024x2176.Idx → EReal) (ix2 e f) = w m c (ix2 e (col (t.val % 4) f)) := by
  have e' : V m c main_v1 = truncf (F := Ideal) .bf16 (w m c : FVec Ideal S1024x8704 .f32) bitsLt_bf16_f32 := by
    show StableHlo.after hostOps0 _ main_v1 = _
    after_results
  have q : (iblk m c 1 t : S1024x2176.Idx → EReal) (ix2 e f) = (V m c main_v1 : S1024x8704.Idx → EReal) (ix2 e (col (t.val % 4) f)) := by
    blk_ext [iblk, idx t, col_val]
  rw [q, e']; rfl

/-- What each case's run leaves: the scratch starts from zero or from what the point before left, and the last point of a
    row block rounds it to the result. -/
theorem scratch_first (i : grid0.Coords) {a3 : Memref sig .tc .vmem S1024x2176 .bf16} (h3 : a3.IsWhole) {a4 : Memref sig .tc .vmem S1024x2176 .bf16} (h4 : a4.IsWhole)
    {a5 : Memref sig .tc .vmem S1024x1024 .bf16} (h5 : a5.IsWhole) {a6 : Memref sig .tc .vmem S1024x1024 .f32} (h6 : a6.IsWhole) (hc0 : cond0_0 i) (hc1 : ¬cond0_1 i)
    (x0 x1 : Vec Ideal S1024x2176 .bf16) : sout0_A_0 (F := Ideal) c i a3 h3 a4 h4 a5 h5 a6 h6 hc0 hc1 x0 x1 = k0_pay2 k0_pay1 x0 x1 := by
  unfold sout0_A_0
  rw [View.read_writes_eq_canon _ _ _ (scover0_A_0 c i a3 h3 a4 h4 a5 h5 a6 h6 hc0 hc1 x0 x1)]
  unfold kernelRun0_A
  dsimp only
  try sl_unfold_words
  rw [View.canon_cons_unit_zero (S := S1024x1024) hz, View.readCov_unit_zero (S := S1024x1024) _ hz]
  simp only [View.readAt_eq_ld, h3.read_unread, h4.read_unread, View.ld_unit_zero (S := S1024x2176) hz, View.ld_unit_zero (S := S1024x1024) hz, shapeCast_self]
theorem scratch_next (i : grid0.Coords) {a3 : Memref sig .tc .vmem S1024x2176 .bf16} (h3 : a3.IsWhole) {a4 : Memref sig .tc .vmem S1024x2176 .bf16} (h4 : a4.IsWhole)
    {a5 : Memref sig .tc .vmem S1024x1024 .bf16} (h5 : a5.IsWhole) {a6 : Memref sig .tc .vmem S1024x1024 .f32} (h6 : a6.IsWhole) (hc0 : ¬cond0_0 i) (hc1 : ¬cond0_1 i)
    (x0 x1 : Vec Ideal S1024x2176 .bf16) (acc : Vec Ideal S1024x1024 .f32) :
    sout0_B_0 (F := Ideal) c i a3 h3 a4 h4 a5 h5 a6 h6 hc0 hc1 x0 x1 acc = k0_pay2 acc x0 x1 := by
  unfold sout0_B_0
  rw [View.read_writes_eq_canon _ _ _ (scover0_B_0 c i a3 h3 a4 h4 a5 h5 a6 h6 hc0 hc1 x0 x1 acc)]
  unfold kernelRun0_B
  dsimp only
  try sl_unfold_words
  rw [View.canon_unit_zero (S := S1024x1024) hz]
  simp only [View.readAt_eq_ld, h3.read_unread, h4.read_unread, h6.read_unread, View.ld_unit_zero (S := S1024x2176) hz, View.ld_unit_zero (S := S1024x1024) hz, shapeCast_self]
theorem scratch_last (i : grid0.Coords) {a3 : Memref sig .tc .vmem S1024x2176 .bf16} (h3 : a3.IsWhole) {a4 : Memref sig .tc .vmem S1024x2176 .bf16} (h4 : a4.IsWhole)
    {a5 : Memref sig .tc .vmem S1024x1024 .bf16} (h5 : a5.IsWhole) {a6 : Memref sig .tc .vmem S1024x1024 .f32} (h6 : a6.IsWhole) (hc0 : ¬cond0_0 i) (hc1 : cond0_1 i)
    (x0 x1 : Vec Ideal S1024x2176 .bf16) (acc : Vec Ideal S1024x1024 .f32) :
    sout0_C_0 (F := Ideal) c i a3 h3 a4 h4 a5 h5 a6 h6 hc0 hc1 x0 x1 acc = k0_pay2 acc x0 x1 := by
  unfold sout0_C_0
  rw [View.read_writes_eq_canon _ _ _ (scover0_C_0 c i a3 h3 a4 h4 a5 h5 a6 h6 hc0 hc1 x0 x1 acc)]
  unfold kernelRun0_C
  dsimp only
  try sl_unfold_words
  rw [View.canon_unit_zero (S := S1024x1024) hz]
  simp only [View.readAt_eq_ld, h3.read_unread, h4.read_unread, h6.read_unread, View.ld_unit_zero (S := S1024x2176) hz, View.ld_unit_zero (S := S1024x1024) hz, shapeCast_self]
theorem result_last (i : grid0.Coords) {a3 : Memref sig .tc .vmem S1024x2176 .bf16} (h3 : a3.IsWhole) {a4 : Memref sig .tc .vmem S1024x2176 .bf16} (h4 : a4.IsWhole)
    {a5 : Memref sig .tc .vmem S1024x1024 .bf16} (h5 : a5.IsWhole) {a6 : Memref sig .tc .vmem S1024x1024 .f32} (h6 : a6.IsWhole) (hc0 : ¬cond0_0 i) (hc1 : cond0_1 i)
    (x0 x1 : Vec Ideal S1024x2176 .bf16) (acc : Vec Ideal S1024x1024 .f32) :
    out0_C_2 (F := Ideal) c i a3 h3 a4 h4 a5 h5 a6 h6 hc0 hc1 x0 x1 acc = k0_pay3 (k0_pay2 acc x0 x1) := by
  unfold out0_C_2
  rw [View.read_writes_eq_canon _ _ _ (cover0_C_2 c i a3 h3 a4 h4 a5 h5 a6 h6 hc0 hc1 x0 x1 acc)]
  unfold kernelRun0_C
  dsimp only
  try sl_unfold_words
  rw [View.canon_unit_zero (S := S1024x1024) hz, View.readCov_unit_zero (S := S1024x1024) _ hz]
  simp only [View.readAt_eq_ld, h3.read_unread, h4.read_unread, h6.read_unread, View.ld_unit_zero (S := S1024x2176) hz, View.ld_unit_zero (S := S1024x1024) hz, shapeCast_self]

/-- A row block's first point and the later ones, over the scratch. -/
def reset (n : ℕ) (h : n < cfg0.N) : Vec Ideal S1024x1024 .f32 := k0_pay2 k0_pay1 (iblk m c 0 ⟨n, h⟩) (iblk m c 1 ⟨n, h⟩)
def step (n : ℕ) (h : n < cfg0.N) (acc : Vec Ideal S1024x1024 .f32) : Vec Ideal S1024x1024 .f32 :=
  k0_pay2 acc (iblk m c 0 ⟨n, h⟩) (iblk m c 1 ⟨n, h⟩)

theorem first (n : ℕ) (h : n < cfg0.N) (h0 : n % 4 = 0) : (outsAt0 m c n h).2 = reset m c n h := by
  rw [outsAt0_A m c ⟨n, h⟩ h0 (by show ¬n % 4 = 3; omega)]
  dsimp only
  rw [scratch_first]
  rfl
theorem next (n : ℕ) (h : n + 1 < cfg0.N) (h0 : ¬(n + 1) % 4 = 0) :
    (outsAt0 m c (n + 1) h).2 = step m c (n + 1) h (outsAt0 m c n (Nat.lt_of_succ_lt h)).2 := by
  unfold step
  by_cases h1 : (n + 1) % 4 = 3
  · rw [outsAt0_C m c ⟨n + 1, h⟩ h0 h1]
    dsimp only
    rw [scratch_last]
    simp only [Nat.add_sub_cancel]
  · rw [outsAt0_B m c ⟨n + 1, h⟩ h0 h1]
    dsimp only
    rw [scratch_next]
    simp only [Nat.add_sub_cancel]
/-- The result's block is the scratch, rounded. -/
theorem rounded (n : ℕ) (h : n < cfg0.N) (h1 : n % 4 = 3) : (outsAt0 m c n h).1 = k0_pay3 (outsAt0 m c n h).2 := by
  rw [outsAt0_C m c ⟨n, h⟩ (by show ¬n % 4 = 0; omega) h1]
  dsimp only
  rw [result_last, scratch_last]

/-- What point `n` adds. -/
def part (n : ℕ) (i : S1024x1024.Idx) : EReal :=
  ∑ f, g m c (ix2 (row (n / 4) (i 0)) (col (n % 4) f)) * w m c (ix2 (i 1) (col (n % 4) f))

theorem step_at (n : ℕ) (h : n < cfg0.N) (acc : S1024x1024.Idx → EReal) (i : S1024x1024.Idx) :
    (step m c n h acc : S1024x1024.Idx → EReal) i = acc i + part m c n i := by
  have hN : n < 64 := lt_of_lt_of_eq h N_0
  refine (congrArg _ (eq_ix2 i)).trans ((pay acc _ _ (i 0) (i 1)).trans ?_)
  rw [← eq_ix2 i]
  exact congrArg _ (Finset.sum_congr rfl fun f _ => by
    rw [g_at m c ⟨n, h⟩ hN (i 0) f, w_at m c ⟨n, h⟩ hN (i 1) f])

/-- The call's result. -/
theorem result (i : S16384x1024.Idx) : @Eq EReal (G2 m c i) (∑ f : Fin 8704, g m c (ix2 (i 0) f) * w m c (ix2 (i 1) f)) := by
  have h0 : (i 0).val < 16384 := (i 0).isLt
  have h1 : (i 1).val < 1024 := (i 1).isLt
  have hr : 4 * run2Of i + 3 < cfg0.N := lt_of_lt_of_eq (by show 4 * (1 * ((i 0).val / 1024 - 0) + 1 * ((i 1).val / 1024 - 0)) + 3 < 64; omega) N_0.symm
  unfold G2
  rw [dif_pos hr, ← outsAt0_sweep m c _ hr, rounded m c _ hr (by omega), round,
    Pipeline.eq_accAt (fun n h => (outsAt0 m c n h).2) 4 (reset m c) (step m c) (first m c) (next m c) (run2Of i) 3 (by decide) hr,
    Pipeline.accAt_add_apply (reset m c) (step m c) (fun _ => (0 : EReal)) (part m c) (4 * run2Of i) 3
    (fun h j => (step_at m c _ h _ j).trans (by rw [zero])) (fun n h acc j _ _ => step_at m c n h acc j) 3 le_rfl hr, zero_add,
    Fin.sum_univ_tiles 4 2176 rfl, Finset.sum_range]
  refine Finset.sum_congr rfl fun s _ => Finset.sum_congr rfl fun f _ => ?_
  have hs := s.isLt
  have er : row ((4 * run2Of i + s.val) / 4) (loc2Of i 0) = i 0 := Fin.ext (by
    show ((4 * (1 * ((i 0).val / 1024 - 0) + 1 * ((i 1).val / 1024 - 0)) + s.val) / 4 * 1024 + (i 0).val % 1024) % 16384 = (i 0).val; omega)
  have ec : col ((4 * run2Of i + s.val) % 4) f = ⟨s.val * 2176 + f.val, by have := f.isLt; omega⟩ := Fin.ext (by
    have := f.isLt
    show ((4 * (1 * ((i 0).val / 1024 - 0) + 1 * ((i 1).val / 1024 - 0)) + s.val) % 4 * 2176 + f.val) % 8704 = s.val * 2176 + f.val; omega)
  have el : loc2Of i 1 = i 1 := Fin.ext (by show (i 1).val % 1024 = (i 1).val; omega)
  rw [er, ec, el]

/-- The reference's result. -/
theorem reference (x0 : S1024x8704.Idx → EReal) (x1 : S16384x8704.Idx → EReal) (i : S16384x1024.Idx) :
    Reference4Ideal.Read.val_main_v4 (F := Ideal) x0 x1 i = ∑ f : Fin 8704, x1 (ix2 (i 0) f) * x0 (ix2 (i 1) f) := by
  refine (Reference4Ideal.Read.val_main_v3_apply x0 x1 i).trans ?_
  refine Finset.sum_congr rfl fun f _ => ?_
  rw [eq_ix2 (Reference4Ideal.Read.lidx_main_v3 i f), eq_ix2 (Reference4Ideal.Read.ridx_main_v3 i f)]
  rfl

/-- Kernel and reference run and end with the same gradient, their arguments unchanged. -/
theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => G2 m c, Value.run (F := Ideal) m ρ, ?_⟩
  refine (θ_run Cert.Reference4Ideal.defs _ _).mono (fun r h c => ?_) (Cert.Reference4Ideal.Value.run (F := Ideal) m' ρ')
  obtain ⟨h0, ha⟩ := h c
  obtain ⟨a0, a1⟩ := hagree c
  refine ⟨?_, ha⟩
  refine h0.trans ((Reference4Ideal.Read.val_main_v4_eq _ _).trans ?_)
  rw [a0, a1]
  exact funext fun i => (reference _ _ i).trans (result m c i).symm

/-- The reference's frame is its generated run. -/
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.InDx

end
-- ==== Proof.InDw.lean ====
/-
  The input projection's gradient of its weight: `hᵀ · g`, summed over sixteen blocks of rows.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.InDw

open Cert.Kernel5Ideal Cert.Kernel5Ideal.Gen Cert.Kernel5Ideal.Value Idealize.ShloMosaic Idealize.ShloMosaic.TcCoe Idealize.ShloMosaic.StableHlo
  Idealize.SL.Sem

/-- Row `r` of a row block, and column `f` of a column block. -/
def row (b : ℕ) (r : Fin 1024) : Fin 16384 := ⟨(b * 1024 + r.val) % 16384, Nat.mod_lt _ (by decide)⟩
def col (b : ℕ) (f : Fin 2176) : Fin 8704 := ⟨(b * 2176 + f.val) % 8704, Nat.mod_lt _ (by decide)⟩
theorem row_val (b : ℕ) (r : Fin 1024) : (row b r).val = (b * 1024 + r.val) % 16384 := rfl
theorem col_val (b : ℕ) (f : Fin 2176) : (col b f).val = (b * 2176 + f.val) % 8704 := rfl

/-- The points run over the row blocks within a column block. -/
theorem idx : ∀ t : Fin cfg0.N, win0_0.index t = ![t.val % 16, 0] ∧ win0_1.index t = ![t.val % 16, t.val / 16] :=
  (by decide +kernel : ∀ t : Fin grid0.N, _)

/-- One block's products, added to what the block before left. -/
theorem pay (acc : FVec Ideal S1024x2176 .f32) (h : FVec Ideal S1024x1024 .bf16) (g : FVec Ideal S1024x2176 .bf16) (e : Fin 1024) (f : Fin 2176) :
    k0_pay2 (F := Ideal) acc h g (ix2 e f) = acc (ix2 e f) + ∑ r, h (ix2 r e) * g (ix2 r f) := by
  pointwise [k0_pay2]
theorem zero (i : S1024x2176.Idx) : k0_pay1 (F := Ideal) i = 0 := by
  pointwise [k0_pay1]

variable (m : (ℓ : Loc nD τ sig) → Buf (Elt Ideal) ℓ) (c : Dev nD)

/-- The input and the result's gradient. -/
abbrev h : S16384x1024.Idx → EReal := m ((c : Thread nD τ).loc main_arg0)
abbrev g : S16384x8704.Idx → EReal := m ((c : Thread nD τ).loc main_arg1)

theorem h_at (t : Fin cfg0.N) (hN : t.val < 64) (r e : Fin 1024) :
    (iblk m c 0 t : S1024x1024.Idx → EReal) (ix2 r e) = h m c (ix2 (row (t.val % 16) r) e) := by
  have e' : V m c main_v0 = truncf (F := Ideal) .bf16 (h m c : FVec Ideal S16384x1024 .f32) bitsLt_bf16_f32 := by
    show StableHlo.after hostOps0 _ main_v0 = _
    after_results
  have q : (iblk m c 0 t : S1024x1024.Idx → EReal) (ix2 r e) = (V m c main_v0 : S16384x1024.Idx → EReal) (ix2 (row (t.val % 16) r) e) := by
    blk_ext [iblk, idx t, row_val]
  rw [q, e']; rfl
theorem g_at (t : Fin cfg0.N) (hN : t.val < 64) (r : Fin 1024) (f : Fin 2176) :
    (iblk m c 1 t : S1024x2176.Idx → EReal) (ix2 r f) = g m c (ix2 (row (t.val % 16) r) (col (t.val / 16) f)) := by
  have e : V m c main_v1 = truncf (F := Ideal) .bf16 (g m c : FVec Ideal S16384x8704 .f32) bitsLt_bf16_f32 := by
    show StableHlo.after hostOps0 _ main_v1 = _
    after_results
  have q : (iblk m c 1 t : S1024x2176.Idx → EReal) (ix2 r f) = (V m c main_v1 : S16384x8704.Idx → EReal) (ix2 (row (t.val % 16) r) (col (t.val / 16) f)) := by
    blk_ext [iblk, idx t, row_val, col_val]
  rw [q, e]; rfl

/-- What point `n` adds. -/
def part (n : ℕ) (i : S1024x2176.Idx) : EReal :=
  ∑ r, h m c (ix2 (row (n % 16) r) (i 0)) * g m c (ix2 (row (n % 16) r) (col (n / 16) (i 1)))

theorem step_at (n : ℕ) (hn : n < cfg0.N) (acc : S1024x2176.Idx → EReal) (i : S1024x2176.Idx) :
    (step2 m c n hn acc : S1024x2176.Idx → EReal) i = acc i + part m c n i := by
  have hN : n < 64 := lt_of_lt_of_eq hn N_0
  refine (congrArg _ (eq_ix2 i)).trans ((pay acc _ _ (i 0) (i 1)).trans ?_)
  rw [← eq_ix2 i]
  exact congrArg _ (Finset.sum_congr rfl fun r _ => by
    rw [h_at m c ⟨n, hn⟩ hN r (i 0), g_at m c ⟨n, hn⟩ hN r (i 1)])

/-- The call's result. -/
theorem result (i : S1024x8704.Idx) : @Eq EReal (G2 m c i) (∑ r : Fin 16384, h m c (ix2 r (i 0)) * g m c (ix2 r (i 1))) := by
  have h0 : (i 0).val < 1024 := (i 0).isLt
  have h1 : (i 1).val < 8704 := (i 1).isLt
  have hr : 16 * run2Of i + 15 < cfg0.N := lt_of_lt_of_eq (by show 16 * (4 * ((i 0).val / 1024 - 0) + 1 * ((i 1).val / 2176 - 0)) + 15 < 64; omega) N_0.symm
  unfold G2
  rw [dif_pos hr, Pipeline.accAt_add_apply (reset2 m c) (step2 m c) (fun _ => (0 : EReal)) (part m c) (16 * run2Of i) 15
    (fun h j => (step_at m c _ h _ j).trans (by rw [zero])) (fun n h acc j _ _ => step_at m c n h acc j) 15 le_rfl hr, zero_add,
    Fin.sum_univ_tiles 16 1024 rfl, Finset.sum_range]
  refine Finset.sum_congr rfl fun s _ => Finset.sum_congr rfl fun r _ => ?_
  have hs := s.isLt
  have er : row ((16 * run2Of i + s.val) % 16) r = ⟨s.val * 1024 + r.val, by have := r.isLt; omega⟩ := Fin.ext (by
    have := r.isLt
    show ((16 * (4 * ((i 0).val / 1024 - 0) + 1 * ((i 1).val / 2176 - 0)) + s.val) % 16 * 1024 + r.val) % 16384 = s.val * 1024 + r.val; omega)
  have ec : col ((16 * run2Of i + s.val) / 16) (loc2Of i 1) = i 1 := Fin.ext (by
    show ((16 * (4 * ((i 0).val / 1024 - 0) + 1 * ((i 1).val / 2176 - 0)) + s.val) / 16 * 2176 + (i 1).val % 2176) % 8704 = (i 1).val; omega)
  have el : loc2Of i 0 = i 0 := Fin.ext (by show (i 0).val % 1024 = (i 0).val; omega)
  rw [er, ec, el]

/-- The reference's result, a product of the transposes. -/
theorem reference (x0 : S16384x1024.Idx → EReal) (x1 : S16384x8704.Idx → EReal) (i : S1024x8704.Idx) :
    Reference5Ideal.Read.val_main_v3 (F := Ideal) x0 x1 i = ∑ r : Fin 16384, x0 (ix2 r (i 0)) * x1 (ix2 r (i 1)) := by
  rw [Reference5Ideal.Read.val_main_v3_apply, Reference5Ideal.Read.val_main_v2_apply]
  refine Finset.sum_congr rfl fun r _ => ?_
  rw [mul_comm, eq_ix2 (Reference5Ideal.Read.lidx_main_v2 _ r), eq_ix2 (Reference5Ideal.Read.ridx_main_v2 _ r)]
  rfl

/-- Kernel and reference run and end with the same gradient, their arguments unchanged. -/
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => G2 m c, Value.run (F := Ideal) m ρ, ?_⟩
  refine (θ_run Cert.Reference5Ideal.defs _ _).mono (fun r h c => ?_) (Cert.Reference5Ideal.Value.run (F := Ideal) m' ρ')
  obtain ⟨h0, ha⟩ := h c
  obtain ⟨a0, a1⟩ := hagree c
  refine ⟨?_, ha⟩
  refine h0.trans ((Reference5Ideal.Read.val_main_v3_eq _ _).trans ?_)
  rw [a0, a1]
  exact funext fun i => (reference _ _ i).trans (result m c i).symm

/-- The reference's frame is its generated run. -/
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.InDw

end
-- ==== Proof.FfnDown.lean ====
/-
  SwiGLU's last product with the residual, `x + t · w`, one point to a block.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.FfnDown

open Cert.Kernel6Ideal Cert.Kernel6Ideal.Gen Cert.Kernel6Ideal.Value Idealize.ShloMosaic Idealize.ShloMosaic.TcCoe Idealize.ShloMosaic.StableHlo
  Idealize.SL.Sem

/-- Row `r` of a row block. -/
def row (b : ℕ) (r : Fin 1024) : Fin 16384 := ⟨(b * 1024 + r.val) % 16384, Nat.mod_lt _ (by decide)⟩
theorem row_val (b : ℕ) (r : Fin 1024) : (row b r).val = (b * 1024 + r.val) % 16384 := rfl

/-- The points run over the row blocks. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- A block's product, added to the residual's block. -/
theorem pay (h : FVec Ideal S1024x2816 .bf16) (w : FVec Ideal S2816x1024 .bf16) (x : FVec Ideal S1024x1024 .f32) (r e : Fin 1024) :
    k0_pay1 (F := Ideal) h w x (ix2 r e) = x (ix2 r e) + ∑ f, h (ix2 r f) * w (ix2 f e) := by
  pointwise [k0_pay1]

theorem hz : (![0, 0] : Fin 2 → ℕ) = fun _ => 0 := funext fun a => by fin_cases a <;> rfl

/-- What the body leaves in the result's block. -/
theorem out (x0 : Vec Ideal S1024x2816 .bf16) (x1 : Vec Ideal S2816x1024 .bf16) (x2 : Vec Ideal S1024x1024 .f32) :
    out0_3 (F := Ideal) x0 x1 x2 = k0_pay1 x0 x1 x2 := by
  unfold out0_3
  rw [View.canon_unit_zero hz, View.ld_unit_zero hz, View.ld_unit_zero hz, View.ld_unit_zero hz]

variable (m : (ℓ : Loc nD τ sig) → Buf (Elt Ideal) ℓ) (c : Dev nD)

/-- The residual, the gated hidden values and the weight. -/
abbrev x : S16384x1024.Idx → EReal := m ((c : Thread nD τ).loc main_arg0)
abbrev h : S16384x2816.Idx → EReal := m ((c : Thread nD τ).loc main_arg1)
abbrev w : S2816x1024.Idx → EReal := m ((c : Thread nD τ).loc main_arg2)

theorem h_at (t : Fin cfg0.N) (hN : t.val < 16) (r : Fin 1024) (f : Fin 2816) :
    (iblk m c 0 t : S1024x2816.Idx → EReal) (ix2 r f) = h m c (ix2 (row t.val r) f) := by
  have e' : V m c main_v0 = truncf (F := Ideal) .bf16 (h m c : FVec Ideal S16384x2816 .f32) bitsLt_bf16_f32 := by
    show StableHlo.after hostOps0 _ main_v0 = _
    after_results
  have q : (iblk m c 0 t : S1024x2816.Idx → EReal) (ix2 r f) = (V m c main_v0 : S16384x2816.Idx → EReal) (ix2 (row t.val r) f) := by
    blk_ext [iblk, idx t, row_val]
  rw [q, e']; rfl
theorem w_at (t : Fin cfg0.N) (hN : t.val < 16) (f : Fin 2816) (e : Fin 1024) :
    (iblk m c 1 t : S2816x1024.Idx → EReal) (ix2 f e) = w m c (ix2 f e) := by
  have e' : V m c main_v1 = truncf (F := Ideal) .bf16 (w m c : FVec Ideal S2816x1024 .f32) bitsLt_bf16_f32 := by
    show StableHlo.after hostOps0 _ main_v1 = _
    after_results
  have q : (iblk m c 1 t : S2816x1024.Idx → EReal) (ix2 f e) = (V m c main_v1 : S2816x1024.Idx → EReal) (ix2 f e) := by
    blk_ext [iblk, idx t]
  rw [q, e']; rfl
theorem x_at (t : Fin cfg0.N) (hN : t.val < 16) (r e : Fin 1024) :
    (iblk m c 2 t : S1024x1024.Idx → EReal) (ix2 r e) = x m c (ix2 (row t.val r) e) := by
  have e' : V m c main_arg0 = x m c := by
    show StableHlo.after hostOps0 _ main_arg0 = _
    after_results
  have q : (iblk m c 2 t : S1024x1024.Idx → EReal) (ix2 r e) = (V m c main_arg0 : S16384x1024.Idx → EReal) (ix2 (row t.val r) e) := by
    blk_ext [iblk, idx t, row_val]
  rw [q, e']

/-- The residual and the product. -/
def total (i : S16384x1024.Idx) : EReal := x m c (ix2 (i 0) (i 1)) + ∑ f : Fin 2816, h m c (ix2 (i 0) f) * w m c (ix2 f (i 1))

/-- The call's result. -/
theorem result : ((dats m 0 c).arrAt 3 cfg0.N : S16384x1024.Idx → EReal) = total m c := by
  refine (dats m 0 c).arrAt_eq_of_covers 3 _ (by decide +kernel) fun t hf z => ?_
  have hN : t.val < 16 := lt_of_lt_of_eq t.isLt N_0
  have e : ∀ y : S1024x1024.Idx, ((cfg0.win 3).blk t).view.emb y = (ix2 (row t.val (y 0)) (y 1) : S16384x1024.Idx) := fun y => by
    blk_ext [idx t]
    · show _ = (t.val * 1024 + (y 0).val) % 16384; omega
  have key : ∀ z : S1024x1024.Idx, k0_pay1 (F := Ideal) (iblk m c 0 t) (iblk m c 1 t) (iblk m c 2 t) z
      = total m c (ix2 (row t.val (z 0)) (z 1)) := fun z =>
    (congrArg _ (eq_ix2 z)).trans ((pay (iblk m c 0 t) (iblk m c 1 t) (iblk m c 2 t) (z 0) (z 1)).trans
      (congrArg₂ (· + ·) (x_at m c t hN (z 0) (z 1))
        (Finset.sum_congr rfl fun f _ => by rw [h_at m c t hN (z 0) f, w_at m c t hN f (z 1)]; rfl)))
  blk_simp
  rw [after0_3, out]
  exact (key z).trans (congrArg (total m c) (e z)).symm

/-- The reference's result. -/
theorem reference (x0 : S16384x1024.Idx → EReal) (x1 : S16384x2816.Idx → EReal) (x2 : S2816x1024.Idx → EReal) (i : S16384x1024.Idx) :
    Reference6Ideal.Read.val_main_v1 (F := Ideal) x0 x1 x2 i = x0 (ix2 (i 0) (i 1)) + ∑ f : Fin 2816, x1 (ix2 (i 0) f) * x2 (ix2 f (i 1)) := by
  rw [Reference6Ideal.Read.val_main_v1_apply, Reference6Ideal.Read.val_main_v0_apply]
  refine congrArg₂ (· + ·) (congrArg x0 (eq_ix2 i)) (Finset.sum_congr rfl fun f _ => ?_)
  rw [eq_ix2 (Reference6Ideal.Read.lidx_main_v0 i f), eq_ix2 (Reference6Ideal.Read.ridx_main_v0 i f)]
  rfl

/-- Kernel and reference run and end with the same sum, their arguments unchanged. -/
theorem algebraic : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => total m c, (θ_run Cert.Kernel6Ideal.defs _ _).mono (fun r h c => ⟨(h c).1.trans (result m c), (h c).2⟩)
    (Value.run_blocks (F := Ideal) m ρ), ?_⟩
  refine (θ_run Cert.Reference6Ideal.defs _ _).mono (fun r h c => ?_) (Cert.Reference6Ideal.Value.run (F := Ideal) m' ρ')
  obtain ⟨h0, ha⟩ := h c
  obtain ⟨a0, a1, a2⟩ := hagree c
  refine ⟨?_, ha⟩
  refine h0.trans ((Reference6Ideal.Read.val_main_v1_eq _ _ _).trans ?_)
  rw [a0, a1, a2]
  exact funext fun i => reference _ _ _ i

/-- The reference's frame is its generated run. -/
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.FfnDown

end
-- ==== Proof.FfnDw2.lean ====
/-
  SwiGLU's gradient of its last weight: `tᵀ · g`, summed over eight blocks of rows.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.FfnDw2

open Cert.Kernel7Ideal Cert.Kernel7Ideal.Gen Cert.Kernel7Ideal.Value Idealize.ShloMosaic Idealize.ShloMosaic.TcCoe Idealize.ShloMosaic.StableHlo
  Idealize.SL.Sem

/-- Row `r` of a row block, and column `f` of a column block. -/
def row (b : ℕ) (r : Fin 2048) : Fin 16384 := ⟨(b * 2048 + r.val) % 16384, Nat.mod_lt _ (by decide)⟩
def col (b : ℕ) (f : Fin 1408) : Fin 2816 := ⟨(b * 1408 + f.val) % 2816, Nat.mod_lt _ (by decide)⟩
theorem row_val (b : ℕ) (r : Fin 2048) : (row b r).val = (b * 2048 + r.val) % 16384 := rfl
theorem col_val (b : ℕ) (f : Fin 1408) : (col b f).val = (b * 1408 + f.val) % 2816 := rfl

/-- The points run over the row blocks within a block of `t`'s columns. -/
theorem idx : ∀ t : Fin cfg0.N, win0_0.index t = ![t.val % 8, t.val / 8] ∧ win0_1.index t = ![t.val % 8, 0] :=
  (by decide +kernel : ∀ t : Fin grid0.N, _)

/-- One block's products, added to what the block before left. -/
theorem pay (acc : FVec Ideal S1408x1024 .f32) (t : FVec Ideal S2048x1408 .bf16) (g : FVec Ideal S2048x1024 .bf16) (f : Fin 1408) (e : Fin 1024) :
    k0_pay2 (F := Ideal) acc t g (ix2 f e) = acc (ix2 f e) + ∑ r, t (ix2 r f) * g (ix2 r e) := by
  pointwise [k0_pay2]
theorem zero (i : S1408x1024.Idx) : k0_pay1 (F := Ideal) i = 0 := by
  pointwise [k0_pay1]

variable (m : (ℓ : Loc nD τ sig) → Buf (Elt Ideal) ℓ) (c : Dev nD)

/-- The gated hidden values and the result's gradient. -/
abbrev h : S16384x2816.Idx → EReal := m ((c : Thread nD τ).loc main_arg0)
abbrev g : S16384x1024.Idx → EReal := m ((c : Thread nD τ).loc main_arg1)

theorem h_at (t : Fin cfg0.N) (hN : t.val < 16) (r : Fin 2048) (f : Fin 1408) :
    (iblk m c 0 t : S2048x1408.Idx → EReal) (ix2 r f) = h m c (ix2 (row (t.val % 8) r) (col (t.val / 8) f)) := by
  have e' : V m c main_v0 = truncf (F := Ideal) .bf16 (h m c : FVec Ideal S16384x2816 .f32) bitsLt_bf16_f32 := by
    show StableHlo.after hostOps0 _ main_v0 = _
    after_results
  have q : (iblk m c 0 t : S2048x1408.Idx → EReal) (ix2 r f) = (V m c main_v0 : S16384x2816.Idx → EReal) (ix2 (row (t.val % 8) r) (col (t.val / 8) f)) := by
    blk_ext [iblk, idx t, row_val, col_val]
  rw [q, e']; rfl
theorem g_at (t : Fin cfg0.N) (hN : t.val < 16) (r : Fin 2048) (e : Fin 1024) :
    (iblk m c 1 t : S2048x1024.Idx → EReal) (ix2 r e) = g m c (ix2 (row (t.val % 8) r) e) := by
  have e' : V m c main_v1 = truncf (F := Ideal) .bf16 (g m c : FVec Ideal S16384x1024 .f32) bitsLt_bf16_f32 := by
    show StableHlo.after hostOps0 _ main_v1 = _
    after_results
  have q : (iblk m c 1 t : S2048x1024.Idx → EReal) (ix2 r e) = (V m c main_v1 : S16384x1024.Idx → EReal) (ix2 (row (t.val % 8) r) e) := by
    blk_ext [iblk, idx t, row_val]
  rw [q, e']; rfl

/-- What point `n` adds. -/
def part (n : ℕ) (i : S1408x1024.Idx) : EReal :=
  ∑ r, h m c (ix2 (row (n % 8) r) (col (n / 8) (i 0))) * g m c (ix2 (row (n % 8) r) (i 1))

theorem step_at (n : ℕ) (hn : n < cfg0.N) (acc : S1408x1024.Idx → EReal) (i : S1408x1024.Idx) :
    (step2 m c n hn acc : S1408x1024.Idx → EReal) i = acc i + part m c n i := by
  have hN : n < 16 := lt_of_lt_of_eq hn N_0
  refine (congrArg _ (eq_ix2 i)).trans ((pay acc _ _ (i 0) (i 1)).trans ?_)
  rw [← eq_ix2 i]
  exact congrArg _ (Finset.sum_congr rfl fun r _ => by
    rw [h_at m c ⟨n, hn⟩ hN r (i 0), g_at m c ⟨n, hn⟩ hN r (i 1)])

/-- The call's result. -/
theorem result (i : S2816x1024.Idx) : @Eq EReal (G2 m c i) (∑ r : Fin 16384, h m c (ix2 r (i 0)) * g m c (ix2 r (i 1))) := by
  have h0 : (i 0).val < 2816 := (i 0).isLt
  have h1 : (i 1).val < 1024 := (i 1).isLt
  have hr : 8 * run2Of i + 7 < cfg0.N := lt_of_lt_of_eq (by show 8 * (1 * ((i 0).val / 1408 - 0) + 1 * ((i 1).val / 1024 - 0)) + 7 < 16; omega) N_0.symm
  unfold G2
  rw [dif_pos hr, Pipeline.accAt_add_apply (reset2 m c) (step2 m c) (fun _ => (0 : EReal)) (part m c) (8 * run2Of i) 7
    (fun h j => (step_at m c _ h _ j).trans (by rw [zero])) (fun n h acc j _ _ => step_at m c n h acc j) 7 le_rfl hr, zero_add,
    Fin.sum_univ_tiles 8 2048 rfl, Finset.sum_range]
  refine Finset.sum_congr rfl fun s _ => Finset.sum_congr rfl fun r _ => ?_
  have hs := s.isLt
  have er : row ((8 * run2Of i + s.val) % 8) r = ⟨s.val * 2048 + r.val, by have := r.isLt; omega⟩ := Fin.ext (by
    have := r.isLt
    show ((8 * (1 * ((i 0).val / 1408 - 0) + 1 * ((i 1).val / 1024 - 0)) + s.val) % 8 * 2048 + r.val) % 16384 = s.val * 2048 + r.val; omega)
  have ec : col ((8 * run2Of i + s.val) / 8) (loc2Of i 0) = i 0 := Fin.ext (by
    show ((8 * (1 * ((i 0).val / 1408 - 0) + 1 * ((i 1).val / 1024 - 0)) + s.val) / 8 * 1408 + (i 0).val % 1408) % 2816 = (i 0).val; omega)
  have el : loc2Of i 1 = i 1 := Fin.ext (by show (i 1).val % 1024 = (i 1).val; omega)
  rw [er, ec, el]

/-- The reference's result, a product of the transposes. -/
theorem reference (x0 : S16384x2816.Idx → EReal) (x1 : S16384x1024.Idx → EReal) (i : S2816x1024.Idx) :
    Reference7Ideal.Read.val_main_v3 (F := Ideal) x0 x1 i = ∑ r : Fin 16384, x0 (ix2 r (i 0)) * x1 (ix2 r (i 1)) := by
  rw [Reference7Ideal.Read.val_main_v3_apply, Reference7Ideal.Read.val_main_v2_apply]
  refine Finset.sum_congr rfl fun r _ => ?_
  rw [mul_comm, eq_ix2 (Reference7Ideal.Read.lidx_main_v2 _ r), eq_ix2 (Reference7Ideal.Read.ridx_main_v2 _ r)]
  rfl

/-- Kernel and reference run and end with the same gradient, their arguments unchanged. -/
theorem algebraic : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => G2 m c, Value.run (F := Ideal) m ρ, ?_⟩
  refine (θ_run Cert.Reference7Ideal.defs _ _).mono (fun r h c => ?_) (Cert.Reference7Ideal.Value.run (F := Ideal) m' ρ')
  obtain ⟨h0, ha⟩ := h c
  obtain ⟨a0, a1⟩ := hagree c
  refine ⟨?_, ha⟩
  refine h0.trans ((Reference7Ideal.Read.val_main_v3_eq _ _).trans ?_)
  rw [a0, a1]
  exact funext fun i => (reference _ _ i).trans (result m c i).symm

/-- The reference's frame is its generated run. -/
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.FfnDw2

end
-- ==== Proof.FfnDw1.lean ====
/-
  SwiGLU's gradients of its first two weights: `hᵀ · g`, summed over sixty-four blocks of rows.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit
public import Idealize.ShloMosaic.Lib.Quiescent

@[expose] public section

set_option maxRecDepth 16384

noncomputable section

namespace Cert.FfnDw1

open Cert.Kernel8Ideal Cert.Kernel8Ideal.Gen Cert.Kernel8Ideal.Value Idealize.ShloMosaic Idealize.ShloMosaic.TcCoe Idealize.ShloMosaic.StableHlo
  Idealize.SL.Sem

/-- Row `r` of a row block. -/
def row (b : ℕ) (r : Fin 256) : Fin 16384 := ⟨(b * 256 + r.val) % 16384, Nat.mod_lt _ (by decide)⟩
theorem row_val (b : ℕ) (r : Fin 256) : (row b r).val = (b * 256 + r.val) % 16384 := rfl

/-- The points run over the row blocks. -/
theorem idx : ∀ t : Fin cfg0.N, win0_0.index t = ![t.val, 0] ∧ win0_1.index t = ![t.val, 0] :=
  (by decide +kernel : ∀ t : Fin grid0.N, _)

/-- One block's products, added to what the block before left. -/
theorem pay (acc : FVec Ideal S1024x2816 .f32) (h : FVec Ideal S256x1024 .bf16) (g : FVec Ideal S256x2816 .bf16) (e : Fin 1024) (f : Fin 2816) :
    k0_pay2 (F := Ideal) acc h g (ix2 e f) = acc (ix2 e f) + ∑ r, h (ix2 r e) * g (ix2 r f) := by
  pointwise [k0_pay2]
theorem zero (i : S1024x2816.Idx) : k0_pay1 (F := Ideal) i = 0 := by
  pointwise [k0_pay1]

variable (m : (ℓ : Loc nD τ sig) → Buf (Elt Ideal) ℓ) (c : Dev nD)

/-- The input and the product's gradient. -/
abbrev h : S16384x1024.Idx → EReal := m ((c : Thread nD τ).loc main_arg0)
abbrev g : S16384x2816.Idx → EReal := m ((c : Thread nD τ).loc main_arg1)

theorem h_at (t : Fin cfg0.N) (hN : t.val < 64) (r : Fin 256) (e : Fin 1024) :
    (iblk m c 0 t : S256x1024.Idx → EReal) (ix2 r e) = h m c (ix2 (row t.val r) e) := by
  have e' : V m c main_v0 = truncf (F := Ideal) .bf16 (h m c : FVec Ideal S16384x1024 .f32) bitsLt_bf16_f32 := by
    show StableHlo.after hostOps0 _ main_v0 = _
    after_results
  have q : (iblk m c 0 t : S256x1024.Idx → EReal) (ix2 r e) = (V m c main_v0 : S16384x1024.Idx → EReal) (ix2 (row t.val r) e) := by
    blk_ext [iblk, idx t, row_val]
  rw [q, e']; rfl
theorem g_at (t : Fin cfg0.N) (hN : t.val < 64) (r : Fin 256) (f : Fin 2816) :
    (iblk m c 1 t : S256x2816.Idx → EReal) (ix2 r f) = g m c (ix2 (row t.val r) f) := by
  have e : V m c main_v1 = truncf (F := Ideal) .bf16 (g m c : FVec Ideal S16384x2816 .f32) bitsLt_bf16_f32 := by
    show StableHlo.after hostOps0 _ main_v1 = _
    after_results
  have q : (iblk m c 1 t : S256x2816.Idx → EReal) (ix2 r f) = (V m c main_v1 : S16384x2816.Idx → EReal) (ix2 (row t.val r) f) := by
    blk_ext [iblk, idx t, row_val]
  rw [q, e]; rfl

/-- What point `n` adds. -/
def part (n : ℕ) (i : S1024x2816.Idx) : EReal := ∑ r, h m c (ix2 (row n r) (i 0)) * g m c (ix2 (row n r) (i 1))

theorem step_at (n : ℕ) (hn : n < cfg0.N) (acc : S1024x2816.Idx → EReal) (i : S1024x2816.Idx) :
    (step2 m c n hn acc : S1024x2816.Idx → EReal) i = acc i + part m c n i := by
  have hN : n < 64 := lt_of_lt_of_eq hn N_0
  refine (congrArg _ (eq_ix2 i)).trans ((pay acc _ _ (i 0) (i 1)).trans ?_)
  rw [← eq_ix2 i]
  exact congrArg _ (Finset.sum_congr rfl fun r _ => by
    rw [h_at m c ⟨n, hn⟩ hN r (i 0), g_at m c ⟨n, hn⟩ hN r (i 1)])

/-- The call's result. -/
theorem result (i : S1024x2816.Idx) : @Eq EReal (G2 m c i) (∑ r : Fin 16384, h m c (ix2 r (i 0)) * g m c (ix2 r (i 1))) := by
  have h0 : (i 0).val < 1024 := (i 0).isLt
  have h1 : (i 1).val < 2816 := (i 1).isLt
  have hb : run2Of i = 0 := by show 1 * ((i 0).val / 1024 - 0) + 1 * ((i 1).val / 2816 - 0) = 0; omega
  have hr : 64 * run2Of i + 63 < cfg0.N := lt_of_lt_of_eq (by omega) N_0.symm
  have el : loc2Of i = i := funext fun a => Fin.ext (by
    match a with
    | ⟨0, _⟩ => show (i 0).val % 1024 = (i 0).val; omega
    | ⟨1, _⟩ => show (i 1).val % 2816 = (i 1).val; omega)
  unfold G2
  rw [dif_pos hr, Pipeline.accAt_add_apply (reset2 m c) (step2 m c) (fun _ => (0 : EReal)) (part m c) (64 * run2Of i) 63
    (fun h j => (step_at m c _ h _ j).trans (by rw [zero])) (fun n h acc j _ _ => step_at m c n h acc j) 63 le_rfl hr, zero_add,
    Fin.sum_univ_tiles 64 256 rfl, Finset.sum_range, el]
  refine Finset.sum_congr rfl fun s _ => Finset.sum_congr rfl fun r _ => ?_
  have hs := s.isLt
  have er : row (64 * run2Of i + s.val) r = ⟨s.val * 256 + r.val, by have := r.isLt; omega⟩ := Fin.ext (by
    have := r.isLt
    show ((64 * run2Of i + s.val) * 256 + r.val) % 16384 = s.val * 256 + r.val; omega)
  rw [er]

/-- The reference's result, a product of the transposes. -/
theorem reference (x0 : S16384x1024.Idx → EReal) (x1 : S16384x2816.Idx → EReal) (i : S1024x2816.Idx) :
    Reference8Ideal.Read.val_main_v3 (F := Ideal) x0 x1 i = ∑ r : Fin 16384, x0 (ix2 r (i 0)) * x1 (ix2 r (i 1)) := by
  rw [Reference8Ideal.Read.val_main_v3_apply, Reference8Ideal.Read.val_main_v2_apply]
  refine Finset.sum_congr rfl fun r _ => ?_
  rw [mul_comm, eq_ix2 (Reference8Ideal.Read.lidx_main_v2 _ r), eq_ix2 (Reference8Ideal.Read.ridx_main_v2 _ r)]
  rfl

/-- Kernel and reference run and end with the same gradient, their arguments unchanged. -/
theorem algebraic : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => G2 m c, Value.run (F := Ideal) m ρ, ?_⟩
  refine (θ_run Cert.Reference8Ideal.defs _ _).mono (fun r h c => ?_) (Cert.Reference8Ideal.Value.run (F := Ideal) m' ρ')
  obtain ⟨h0, ha⟩ := h c
  obtain ⟨a0, a1⟩ := hagree c
  refine ⟨?_, ha⟩
  refine h0.trans ((Reference8Ideal.Read.val_main_v3_eq _ _).trans ?_)
  rw [a0, a1]
  exact funext fun i => (reference _ _ i).trans (result m c i).symm

/-- The reference's frame is its generated run. -/
theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.FfnDw1

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Regions
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Regions
public import proofs.«01_k».proof.Proof.Gen.Kernel2Ideal.Points
public import proofs.«01_k».proof.Proof.Gen.Reference2Ideal
public import proofs.«01_k».proof.Proof.Gen.Reference2Ideal.Run
public import proofs.«01_k».proof.Proof.Gen.Reference2Ideal.Read
public import proofs.«01_k».proof.Proof.Frames
public import proofs.«01_k».proof.Proof.Algebraic
public import proofs.«01_k».proof.Proof.FfnFrames
public import proofs.«01_k».proof.Proof.FfnAlgebraic
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.InFwd
public import proofs.«01_k».proof.Proof.InDx
public import proofs.«01_k».proof.Proof.InDw
public import proofs.«01_k».proof.Proof.FfnDown
public import proofs.«01_k».proof.Proof.FfnDw2
public import proofs.«01_k».proof.Proof.FfnDw1
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre.facts, Cert.Ffn.Pre.facts,
  Cert.Frames.frame_p, Cert.Frames.frame_pi, fun m ρ _ => Cert.Frames.frame_pi m ρ trivial,
  Cert.Frames.frame_ri, fun m ρ _ => Cert.Frames.frame_ri m ρ trivial,
  Cert.Ffn.frame_p, Cert.Ffn.frame_pi, fun m ρ _ => Cert.Ffn.frame_pi m ρ trivial,
  Cert.Ffn.frame_ri, fun m ρ _ => Cert.Ffn.frame_ri m ρ trivial,
  fun m ρ _ => Cert.Kernel3.Gen.frame m ρ, fun m ρ _ => Cert.Kernel3Ideal.Gen.frame m ρ, Cert.InFwd.frame_ri,
  fun m ρ _ => Cert.Kernel4.Gen.frame m ρ, fun m ρ _ => Cert.Kernel4Ideal.Gen.frame m ρ, Cert.InDx.frame_ri,
  fun m ρ _ => Cert.Kernel5.Gen.frame m ρ, fun m ρ _ => Cert.Kernel5Ideal.Gen.frame m ρ, Cert.InDw.frame_ri,
  fun m ρ _ => Cert.Kernel6.Gen.frame m ρ, fun m ρ _ => Cert.Kernel6Ideal.Gen.frame m ρ, Cert.FfnDown.frame_ri,
  fun m ρ _ => Cert.Kernel7.Gen.frame m ρ, fun m ρ _ => Cert.Kernel7Ideal.Gen.frame m ρ, Cert.FfnDw2.frame_ri,
  fun m ρ _ => Cert.Kernel8.Gen.frame m ρ, fun m ρ _ => Cert.Kernel8Ideal.Gen.frame m ρ, Cert.FfnDw1.frame_ri,
  Cert.Frames.preserves, Cert.Algebraic.algebraic, trivial, Cert.Ffn.algebraic,
  trivial, Cert.InFwd.algebraic, trivial, Cert.InDx.algebraic, trivial, Cert.InDw.algebraic,
  trivial, Cert.FfnDown.algebraic, trivial, Cert.FfnDw2.algebraic, trivial, Cert.FfnDw1.algebraic⟩

end Cert.Proof

end
